-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x2048 .bf16) (main_arg2 : FVec F S2x256x4x64 .bf16) (main_arg3 : FVec F S2x256x4x64 .bf16) (main_arg4 : FVec F S2048x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x256x4x64 .bf16 := Host.absf main_arg2
  let main_cst_2 : FVec F S_ .bf16 := constant S_ .bf16 0x7F80#16
  let main_v10 : FVec F S2x256x4x64 .bf16 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .bf16) (main_arg1 : FVec F S512x2048 .bf16) (main_arg2 : FVec F S2x256x32x64 .bf16) (main_arg3 : FVec F S2x256x32x64 .bf16) (main_arg4 : FVec F S2048x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x256x32x64 .bf16 := Host.absf main_arg2
  let main_cst_2 : FVec F S_ .bf16 := constant S_ .bf16 0x7F80#16
  let main_v10 : FVec F S2x256x32x64 .bf16 := broadcastInDim S2x256x32x64 ![] bcast_S_S2x256x32x64 main_cst_2
  let main_v11 : IVec S2x256x32x64 1 := cmpf .olt main_v9 main_v10
  let main_c_3 : IVec S_ 1 := constantI S_ 1 1#1
  let main_v12 : IVec S_ 1 := (fun x v => Host.reduce IntOp.andi x v reducesTo_S2x256x32x64_S_d0_1_2_3 h_S_) main_v11 main_c_3
  let main_v13 : IVec S_ 1 := andi main_v8 main_v12
  main_v13
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S2x256x256 : Shape := ⟨3, ![2, 256, 256]⟩
abbrev S4x256x512 : Shape := ⟨3, ![4, 256, 512]⟩
abbrev S512x512 : Shape := ⟨2, ![512, 512]⟩
abbrev S64x512 : Shape := ⟨2, ![64, 512]⟩
abbrev S8x64x512 : Shape := ⟨3, ![8, 64, 512]⟩
abbrev S8 : Shape := ⟨1, ![8]⟩
abbrev S256x256 : Shape := ⟨2, ![256, 256]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S1 : Shape := ⟨1, ![1]⟩
abbrev S1x64x512 : Shape := ⟨3, ![1, 64, 512]⟩

abbrev nBuf : Space → Nat
  | .hbm => 34
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x4x64, .bf16⟩
  | .hbm, ⟨3, _⟩ => ⟨S2x256x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x256x256, .bf16⟩
  | .hbm, ⟨30, _⟩ => ⟨S2x256x256, .bf16⟩
  | .hbm, ⟨31, _⟩ => ⟨S2x256x512, .bf16⟩
  | .hbm, ⟨32, _⟩ => ⟨S4x256x512, .bf16⟩
  | .hbm, ⟨33, _⟩ => ⟨S2x256x512, .bf16⟩
  | .local _ .vmem, ⟨0, _⟩ => ⟨S4x256x512, .bf16⟩
  | .local _ .vmem, ⟨1, _⟩ => ⟨S512x256, .bf16⟩
  | .local _ .vmem, ⟨2, _⟩ => ⟨S256x512, .bf16⟩
  | .local _ .vmem, ⟨3, _⟩ => ⟨S2x256x512, .bf16⟩
  | .local _ .vmem, ⟨4, _⟩ => ⟨S512x256, .bf16⟩
  | .local _ .vmem, ⟨5, _⟩ => ⟨S512x512, .bf16⟩
  | .local _ .vmem, ⟨6, _⟩ => ⟨S64x512, .bf16⟩
  | .local _ .vmem, ⟨7, _⟩ => ⟨S8x64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_241 : BitVec 32 := 0#32
  let c0_i32_239 : BitVec 32 := 0#32
  let c1_i32_240 : BitVec 32 := 1#32
  let v412 : BitVec 32 := Scalar.muli c0_i32_239 c1_i32_240
  let v413 : BitVec 32 := Scalar.addi c0_i32_241 v412
  v413.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_241 : BitVec 32 := 0#32
  let c1_i32_239 : BitVec 32 := 1#32
  let c1_i32_240 : BitVec 32 := 1#32
  let v412 : BitVec 32 := Scalar.muli c1_i32_239 c1_i32_240
  let v413 : BitVec 32 := Scalar.addi c0_i32_241 v412
  v413.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_241 : BitVec 32 := 0#32
  let c2_i32_239 : BitVec 32 := 2#32
  let c1_i32_240 : BitVec 32 := 1#32
  let v412 : BitVec 32 := Scalar.muli c2_i32_239 c1_i32_240
  let v413 : BitVec 32 := Scalar.addi c0_i32_241 v412
  v413.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_241 : BitVec 32 := 0#32
  let c3_i32_239 : BitVec 32 := 3#32
  let c1_i32_240 : BitVec 32 := 1#32
  let v412 : BitVec 32 := Scalar.muli c3_i32_239 c1_i32_240
  let v413 : BitVec 32 := Scalar.addi c0_i32_241 v412
  v413.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_241 : BitVec 32 := 0#32
  let c4_i32_239 : BitVec 32 := 4#32
  let c1_i32_240 : BitVec 32 := 1#32
  let v412 : BitVec 32 := Scalar.muli c4_i32_239 c1_i32_240
  let v413 : BitVec 32 := Scalar.addi c0_i32_241 v412
  v413.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_241 : BitVec 32 := 0#32
  let c5_i32_239 : BitVec 32 := 5#32
  let c1_i32_240 : BitVec 32 := 1#32
  let v412 : BitVec 32 := Scalar.muli c5_i32_239 c1_i32_240
  let v413 : BitVec 32 := Scalar.addi c0_i32_241 v412
  v413.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_241 : BitVec 32 := 0#32
  let c6_i32_239 : BitVec 32 := 6#32
  let c1_i32_240 : BitVec 32 := 1#32
  let v412 : BitVec 32 := Scalar.muli c6_i32_239 c1_i32_240
  let v413 : BitVec 32 := Scalar.addi c0_i32_241 v412
  v413.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_241 : BitVec 32 := 0#32
  let c7_i32_239 : BitVec 32 := 7#32
  let c1_i32_240 : BitVec 32 := 1#32
  let v412 : BitVec 32 := Scalar.muli c7_i32_239 c1_i32_240
  let v413 : BitVec 32 := Scalar.addi c0_i32_241 v412
  v413.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_62 : BitVec 32 := 0#32
  let v131 : BitVec 1 := Scalar.cmpi .ne v2 c0_i32_62
  let v132 : BitVec 32 := Scalar.extui v131
  let c0_i32_63 : BitVec 32 := 0#32
  let v133 : BitVec 1 := Scalar.cmpi .ne v132 c0_i32_63
  v133

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev9 : Nat :=
  let c0_i32_241 : BitVec 32 := 0#32
  let c0_i32_239 : BitVec 32 := 0#32
  let c1_i32_240 : BitVec 32 := 1#32
  let v412 : BitVec 32 := Scalar.muli c0_i32_239 c1_i32_240
  let v413 : BitVec 32 := Scalar.addi c0_i32_241 v412
  v413.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v134 : BitVec 1 := Scalar.cmpi .ne v2 c1_i32_64
  let v135 : BitVec 32 := Scalar.extui v134
  let c0_i32_65 : BitVec 32 := 0#32
  let v136 : BitVec 1 := Scalar.cmpi .ne v135 c0_i32_65
  v136

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev10 : Nat :=
  let c0_i32_241 : BitVec 32 := 0#32
  let c1_i32_239 : BitVec 32 := 1#32
  let c1_i32_240 : BitVec 32 := 1#32
  let v412 : BitVec 32 := Scalar.muli c1_i32_239 c1_i32_240
  let v413 : BitVec 32 := Scalar.addi c0_i32_241 v412
  v413.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v137 : BitVec 1 := Scalar.cmpi .ne v2 c2_i32_66
  let v138 : BitVec 32 := Scalar.extui v137
  let c0_i32_67 : BitVec 32 := 0#32
  let v139 : BitVec 1 := Scalar.cmpi .ne v138 c0_i32_67
  v139

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev11 : Nat :=
  let c0_i32_241 : BitVec 32 := 0#32
  let c2_i32_239 : BitVec 32 := 2#32
  let c1_i32_240 : BitVec 32 := 1#32
  let v412 : BitVec 32 := Scalar.muli c2_i32_239 c1_i32_240
  let v413 : BitVec 32 := Scalar.addi c0_i32_241 v412
  v413.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_68 : BitVec 32 := 3#32
  let v140 : BitVec 1 := Scalar.cmpi .ne v2 c3_i32_68
  let v141 : BitVec 32 := Scalar.extui v140
  let c0_i32_69 : BitVec 32 := 0#32
  let v142 : BitVec 1 := Scalar.cmpi .ne v141 c0_i32_69
  v142

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev12 : Nat :=
  let c0_i32_241 : BitVec 32 := 0#32
  let c3_i32_239 : BitVec 32 := 3#32
  let c1_i32_240 : BitVec 32 := 1#32
  let v412 : BitVec 32 := Scalar.muli c3_i32_239 c1_i32_240
  let v413 : BitVec 32 := Scalar.addi c0_i32_241 v412
  v413.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v232 : BitVec 1 := Scalar.cmpi .ne v2 c4_i32_124
  let v233 : BitVec 32 := Scalar.extui v232
  let c0_i32_125 : BitVec 32 := 0#32
  let v234 : BitVec 1 := Scalar.cmpi .ne v233 c0_i32_125
  v234

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev13 : Nat :=
  let c0_i32_241 : BitVec 32 := 0#32
  let c4_i32_239 : BitVec 32 := 4#32
  let c1_i32_240 : BitVec 32 := 1#32
  let v412 : BitVec 32 := Scalar.muli c4_i32_239 c1_i32_240
  let v413 : BitVec 32 := Scalar.addi c0_i32_241 v412
  v413.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v235 : BitVec 1 := Scalar.cmpi .ne v2 c5_i32_126
  let v236 : BitVec 32 := Scalar.extui v235
  let c0_i32_127 : BitVec 32 := 0#32
  let v237 : BitVec 1 := Scalar.cmpi .ne v236 c0_i32_127
  v237

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev14 : Nat :=
  let c0_i32_241 : BitVec 32 := 0#32
  let c5_i32_239 : BitVec 32 := 5#32
  let c1_i32_240 : BitVec 32 := 1#32
  let v412 : BitVec 32 := Scalar.muli c5_i32_239 c1_i32_240
  let v413 : BitVec 32 := Scalar.addi c0_i32_241 v412
  v413.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_128 : BitVec 32 := 6#32
  let v238 : BitVec 1 := Scalar.cmpi .ne v2 c6_i32_128
  let v239 : BitVec 32 := Scalar.extui v238
  let c0_i32_129 : BitVec 32 := 0#32
  let v240 : BitVec 1 := Scalar.cmpi .ne v239 c0_i32_129
  v240

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev15 : Nat :=
  let c0_i32_241 : BitVec 32 := 0#32
  let c6_i32_239 : BitVec 32 := 6#32
  let c1_i32_240 : BitVec 32 := 1#32
  let v412 : BitVec 32 := Scalar.muli c6_i32_239 c1_i32_240
  let v413 : BitVec 32 := Scalar.addi c0_i32_241 v412
  v413.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_130 : BitVec 32 := 7#32
  let v241 : BitVec 1 := Scalar.cmpi .ne v2 c7_i32_130
  let v242 : BitVec 32 := Scalar.extui v241
  let c0_i32_131 : BitVec 32 := 0#32
  let v243 : BitVec 1 := Scalar.cmpi .ne v242 c0_i32_131
  v243

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let c0_i32_243 : BitVec 32 := 0#32
  ![v2.toNat, 0, 0]
def k0_dev16 : Nat :=
  let c0_i32_241 : BitVec 32 := 0#32
  let c7_i32_239 : BitVec 32 := 7#32
  let c1_i32_240 : BitVec 32 := 1#32
  let v412 : BitVec 32 := Scalar.muli c7_i32_239 c1_i32_240
  let v413 : BitVec 32 := Scalar.addi c0_i32_241 v412
  v413.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v244 : BitVec 32 := Scalar.muli v2 c64_i32
  let v245 : Index := Scalar.indexCast v244
  let c0_132 : Index := 0#32
  ![v245.toNat, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v248 : Index := Scalar.indexCast v2
  let c0_133 : Index := 0#32
  let c0_134 : Index := 0#32
  ![v248.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_157 : BitVec 32 := 0#32
  let v283 : BitVec 1 := Scalar.cmpi .ne v2 c0_i32_157
  let v284 : BitVec 32 := Scalar.extui v283
  let c0_i32_158 : BitVec 32 := 0#32
  let v285 : BitVec 1 := Scalar.cmpi .ne v284 c0_i32_158
  v285

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev17 : Nat :=
  let c0_i32_255 : BitVec 32 := 0#32
  let c0_i32_253 : BitVec 32 := 0#32
  let c1_i32_254 : BitVec 32 := 1#32
  let v440 : BitVec 32 := Scalar.muli c0_i32_253 c1_i32_254
  let v441 : BitVec 32 := Scalar.addi c0_i32_255 v440
  v441.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_159 : BitVec 32 := 1#32
  let v286 : BitVec 1 := Scalar.cmpi .ne v2 c1_i32_159
  let v287 : BitVec 32 := Scalar.extui v286
  let c0_i32_160 : BitVec 32 := 0#32
  let v288 : BitVec 1 := Scalar.cmpi .ne v287 c0_i32_160
  v288

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev18 : Nat :=
  let c0_i32_255 : BitVec 32 := 0#32
  let c1_i32_253 : BitVec 32 := 1#32
  let c1_i32_254 : BitVec 32 := 1#32
  let v440 : BitVec 32 := Scalar.muli c1_i32_253 c1_i32_254
  let v441 : BitVec 32 := Scalar.addi c0_i32_255 v440
  v441.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_161 : BitVec 32 := 2#32
  let v289 : BitVec 1 := Scalar.cmpi .ne v2 c2_i32_161
  let v290 : BitVec 32 := Scalar.extui v289
  let c0_i32_162 : BitVec 32 := 0#32
  let v291 : BitVec 1 := Scalar.cmpi .ne v290 c0_i32_162
  v291

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev19 : Nat :=
  let c0_i32_255 : BitVec 32 := 0#32
  let c2_i32_253 : BitVec 32 := 2#32
  let c1_i32_254 : BitVec 32 := 1#32
  let v440 : BitVec 32 := Scalar.muli c2_i32_253 c1_i32_254
  let v441 : BitVec 32 := Scalar.addi c0_i32_255 v440
  v441.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v292 : BitVec 1 := Scalar.cmpi .ne v2 c3_i32_163
  let v293 : BitVec 32 := Scalar.extui v292
  let c0_i32_164 : BitVec 32 := 0#32
  let v294 : BitVec 1 := Scalar.cmpi .ne v293 c0_i32_164
  v294

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev20 : Nat :=
  let c0_i32_255 : BitVec 32 := 0#32
  let c3_i32_253 : BitVec 32 := 3#32
  let c1_i32_254 : BitVec 32 := 1#32
  let v440 : BitVec 32 := Scalar.muli c3_i32_253 c1_i32_254
  let v441 : BitVec 32 := Scalar.addi c0_i32_255 v440
  v441.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_165 : BitVec 32 := 4#32
  let v295 : BitVec 1 := Scalar.cmpi .ne v2 c4_i32_165
  let v296 : BitVec 32 := Scalar.extui v295
  let c0_i32_166 : BitVec 32 := 0#32
  let v297 : BitVec 1 := Scalar.cmpi .ne v296 c0_i32_166
  v297

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev21 : Nat :=
  let c0_i32_255 : BitVec 32 := 0#32
  let c4_i32_253 : BitVec 32 := 4#32
  let c1_i32_254 : BitVec 32 := 1#32
  let v440 : BitVec 32 := Scalar.muli c4_i32_253 c1_i32_254
  let v441 : BitVec 32 := Scalar.addi c0_i32_255 v440
  v441.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_167 : BitVec 32 := 5#32
  let v298 : BitVec 1 := Scalar.cmpi .ne v2 c5_i32_167
  let v299 : BitVec 32 := Scalar.extui v298
  let c0_i32_168 : BitVec 32 := 0#32
  let v300 : BitVec 1 := Scalar.cmpi .ne v299 c0_i32_168
  v300

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev22 : Nat :=
  let c0_i32_255 : BitVec 32 := 0#32
  let c5_i32_253 : BitVec 32 := 5#32
  let c1_i32_254 : BitVec 32 := 1#32
  let v440 : BitVec 32 := Scalar.muli c5_i32_253 c1_i32_254
  let v441 : BitVec 32 := Scalar.addi c0_i32_255 v440
  v441.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_169 : BitVec 32 := 6#32
  let v301 : BitVec 1 := Scalar.cmpi .ne v2 c6_i32_169
  let v302 : BitVec 32 := Scalar.extui v301
  let c0_i32_170 : BitVec 32 := 0#32
  let v303 : BitVec 1 := Scalar.cmpi .ne v302 c0_i32_170
  v303

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev23 : Nat :=
  let c0_i32_255 : BitVec 32 := 0#32
  let c6_i32_253 : BitVec 32 := 6#32
  let c1_i32_254 : BitVec 32 := 1#32
  let v440 : BitVec 32 := Scalar.muli c6_i32_253 c1_i32_254
  let v441 : BitVec 32 := Scalar.addi c0_i32_255 v440
  v441.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_171 : BitVec 32 := 7#32
  let v304 : BitVec 1 := Scalar.cmpi .ne v2 c7_i32_171
  let v305 : BitVec 32 := Scalar.extui v304
  let c0_i32_172 : BitVec 32 := 0#32
  let v306 : BitVec 1 := Scalar.cmpi .ne v305 c0_i32_172
  v306

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_239 : BitVec 32 := 0#32
  let v413 : BitVec 1 := Scalar.cmpi .sgt v2 c0_i32_239
  let v414 : BitVec 32 := Scalar.extui v413
  let c0_i32_240 : BitVec 32 := 0#32
  let v415 : BitVec 1 := Scalar.cmpi .slt v2 c0_i32_240
  let v416 : BitVec 32 := Scalar.extui v415
  let v417 : BitVec 32 := Scalar.subi v414 v416
  let c4_i32_238 : BitVec 32 := 4#32
  let c0_i32_241 : BitVec 32 := 0#32
  let v418 : BitVec 1 := Scalar.cmpi .sgt c4_i32_238 c0_i32_241
  let v419 : BitVec 32 := Scalar.extui v418
  let c0_i32_242 : BitVec 32 := 0#32
  let v420 : BitVec 1 := Scalar.cmpi .slt c4_i32_238 c0_i32_242
  let v421 : BitVec 32 := Scalar.extui v420
  let v422 : BitVec 32 := Scalar.subi v419 v421
  let v423 : BitVec 1 := Scalar.cmpi .ne v417 v422
  let v424 : BitVec 32 := Scalar.remsi v2 c4_i32_238
  let c0_i32_243 : BitVec 32 := 0#32
  let v425 : BitVec 1 := Scalar.cmpi .ne v424 c0_i32_243
  let v426 : BitVec 1 := Scalar.andi v423 v425
  let v412 : BitVec 32 := Scalar.divsi v2 c4_i32_238
  let c1_i32_244 : BitVec 32 := 1#32
  let v427 : BitVec 32 := Scalar.subi v412 c1_i32_244
  let v428 : BitVec 32 := Scalar.select v426 v427 v412
  let c4_i32_245 : BitVec 32 := 4#32
  let c0_i32_246 : BitVec 32 := 0#32
  let v429 : BitVec 1 := Scalar.cmpi .eq c4_i32_245 c0_i32_246
  let c1_i32_247 : BitVec 32 := 1#32
  let v430 : BitVec 32 := Scalar.select v429 c1_i32_247 c4_i32_245
  let v431 : BitVec 32 := Scalar.remsi v2 v430
  let c0_i32_249 : BitVec 32 := 0#32
  let v433 : BitVec 1 := Scalar.cmpi .slt v431 c0_i32_249
  let c0_i32_250 : BitVec 32 := 0#32
  let v434 : BitVec 1 := Scalar.cmpi .slt v430 c0_i32_250
  let v435 : BitVec 1 := Scalar.xori v433 v434
  let c0_i32_248 : BitVec 32 := 0#32
  let v432 : BitVec 1 := Scalar.cmpi .ne v431 c0_i32_248
  let v436 : BitVec 1 := Scalar.andi v435 v432
  let v437 : BitVec 32 := Scalar.addi v431 v430
  let v438 : BitVec 32 := Scalar.select v436 v437 v431
  let c64_i32_251 : BitVec 32 := 64#32
  let v439 : BitVec 32 := Scalar.muli v438 c64_i32_251
  let c0_i32_256 : BitVec 32 := 0#32
  ![v428.toNat, v439.toNat, 0]
def k0_dev24 : Nat :=
  let c0_i32_255 : BitVec 32 := 0#32
  let c7_i32_253 : BitVec 32 := 7#32
  let c1_i32_254 : BitVec 32 := 1#32
  let v440 : BitVec 32 := Scalar.muli c7_i32_253 c1_i32_254
  let v441 : BitVec 32 := Scalar.addi c0_i32_255 v440
  v441.toNat
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_176 : BitVec 32 := 0#32
  let v310 : BitVec 1 := Scalar.cmpi .sgt v2 c0_i32_176
  let v311 : BitVec 32 := Scalar.extui v310
  let c0_i32_177 : BitVec 32 := 0#32
  let v312 : BitVec 1 := Scalar.cmpi .slt v2 c0_i32_177
  let v313 : BitVec 32 := Scalar.extui v312
  let v314 : BitVec 32 := Scalar.subi v311 v313
  let c4_i32_175 : BitVec 32 := 4#32
  let c0_i32_178 : BitVec 32 := 0#32
  let v315 : BitVec 1 := Scalar.cmpi .sgt c4_i32_175 c0_i32_178
  let v316 : BitVec 32 := Scalar.extui v315
  let c0_i32_179 : BitVec 32 := 0#32
  let v317 : BitVec 1 := Scalar.cmpi .slt c4_i32_175 c0_i32_179
  let v318 : BitVec 32 := Scalar.extui v317
  let v319 : BitVec 32 := Scalar.subi v316 v318
  let v320 : BitVec 1 := Scalar.cmpi .ne v314 v319
  let v321 : BitVec 32 := Scalar.remsi v2 c4_i32_175
  let c0_i32_180 : BitVec 32 := 0#32
  let v322 : BitVec 1 := Scalar.cmpi .ne v321 c0_i32_180
  let v323 : BitVec 1 := Scalar.andi v320 v322
  let v309 : BitVec 32 := Scalar.divsi v2 c4_i32_175
  let c1_i32_181 : BitVec 32 := 1#32
  let v324 : BitVec 32 := Scalar.subi v309 c1_i32_181
  let v325 : BitVec 32 := Scalar.select v323 v324 v309
  let v337 : Index := Scalar.indexCast v325
  let c4_i32_182 : BitVec 32 := 4#32
  let c0_i32_183 : BitVec 32 := 0#32
  let v326 : BitVec 1 := Scalar.cmpi .eq c4_i32_182 c0_i32_183
  let c1_i32_184 : BitVec 32 := 1#32
  let v327 : BitVec 32 := Scalar.select v326 c1_i32_184 c4_i32_182
  let v328 : BitVec 32 := Scalar.remsi v2 v327
  let c0_i32_186 : BitVec 32 := 0#32
  let v330 : BitVec 1 := Scalar.cmpi .slt v328 c0_i32_186
  let c0_i32_187 : BitVec 32 := 0#32
  let v331 : BitVec 1 := Scalar.cmpi .slt v327 c0_i32_187
  let v332 : BitVec 1 := Scalar.xori v330 v331
  let c0_i32_185 : BitVec 32 := 0#32
  let v329 : BitVec 1 := Scalar.cmpi .ne v328 c0_i32_185
  let v333 : BitVec 1 := Scalar.andi v332 v329
  let v334 : BitVec 32 := Scalar.addi v328 v327
  let v335 : BitVec 32 := Scalar.select v333 v334 v328
  let c64_i32_188 : BitVec 32 := 64#32
  let v336 : BitVec 32 := Scalar.muli v335 c64_i32_188
  let v338 : Index := Scalar.indexCast v336
  let c0_189 : Index := 0#32
  ![v337.toNat, v338.toNat, 0]
abbrev stage0_0 : Fin 1 → Memref sig .tc .vmem S4x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 63
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x32x64, .bf16⟩
  | .hbm, ⟨3, _⟩ => ⟨S2x256x32x64, .bf16⟩
  | .hbm, ⟨4, _⟩ => ⟨S2048x512, .bf16⟩
  | .hbm, ⟨5, _⟩ => ⟨S2x256x2048, .f32⟩
  | .hbm, ⟨6, _⟩ => ⟨S2x256x2048, .bf16⟩
  | .hbm, ⟨7, _⟩ => ⟨S2x256x32x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S2x32x256x256, .f32⟩
  | .hbm, ⟨20, _⟩ => ⟨S2x32x256x256, .bf16⟩
  | .hbm, ⟨21, _⟩ => ⟨S2x32x256x256, .f32⟩
  | .hbm, ⟨22, _⟩ => ⟨S_, .f32⟩
  | .hbm, ⟨23, _⟩ => ⟨S2x32x256x256, .f32⟩
  | .hbm, ⟨24, _⟩ => ⟨S2x32x256x256, .f32⟩
  | .hbm, ⟨25, _⟩ => ⟨S1x1x256x256, .i1⟩
  | .hbm, ⟨26, _⟩ => ⟨S_, .f32⟩
  | .hbm, ⟨27, _⟩ => ⟨S_, .f32⟩
  | .hbm, ⟨28, _⟩ => ⟨S2x32x256x256, .i1⟩
  | .hbm, ⟨29, _⟩ => ⟨S2x32x256x256, .f32⟩
  | .hbm, ⟨30, _⟩ => ⟨S2x32x256x256, .f32⟩
  | .hbm, ⟨31, _⟩ => ⟨S_, .f32⟩
  | .hbm, ⟨32, _⟩ => ⟨S2x32x256, .f32⟩
  | .hbm, ⟨33, _⟩ => ⟨S2x32x256x1, .f32⟩
  | .hbm, ⟨34, _⟩ => ⟨S2x32x256x256, .f32⟩
  | .hbm, ⟨35, _⟩ => ⟨S2x32x256x256, .f32⟩
  | .hbm, ⟨36, _⟩ => ⟨S2x32x256x256, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x32x256, .f32⟩
  | .hbm, ⟨42, _⟩ => ⟨S2x32x256x1, .f32⟩
  | .hbm, ⟨43, _⟩ => ⟨S_, .f32⟩
  | .hbm, ⟨44, _⟩ => ⟨S_, .f32⟩
  | .hbm, ⟨45, _⟩ => ⟨S2x32x256x1, .i1⟩
  | .hbm, ⟨46, _⟩ => ⟨S2x32x256x1, .f32⟩
  | .hbm, ⟨47, _⟩ => ⟨S2x32x256x1, .f32⟩
  | .hbm, ⟨48, _⟩ => ⟨S2x32x256x256, .f32⟩
  | .hbm, ⟨49, _⟩ => ⟨S2x32x256x256, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x32x256x256, .i1⟩
  | .hbm, ⟨54, _⟩ => ⟨S2x32x256x256, .f32⟩
  | .hbm, ⟨55, _⟩ => ⟨S2x32x256x256, .f32⟩
  | .hbm, ⟨56, _⟩ => ⟨S2x256x32x64, .f32⟩
  | .hbm, ⟨57, _⟩ => ⟨S2x32x64x256, .f32⟩
  | .hbm, ⟨58, _⟩ => ⟨S2x256x32x64, .f32⟩
  | .hbm, ⟨59, _⟩ => ⟨S2x256x2048, .f32⟩
  | .hbm, ⟨60, _⟩ => ⟨S2048x512, .f32⟩
  | .hbm, ⟨61, _⟩ => ⟨S2x256x512, .f32⟩
  | .hbm, ⟨62, _⟩ => ⟨S2x256x512, .bf16⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.KernelIdeal.Values.lean ====
/-
What each buffer of the kernel holds, as pure functions of the three arrays a device's launch reads:
`X` (the activations of both batches stacked on the device's keys and values), `W` (the device's columns of
the query projection) and `O` (the device's rows of the output projection).

The kernel's own arithmetic stays in the generated payload functions; here they are only composed: the
attention output of one head (`head`), a batch's four heads side by side (`ctx`), the device's partial product
(`part`), the segments a device receives (`inbox`), their sum (`red`) and the assembled result (`out`).
-/
module

public import proofs.«01_k».proof.Proof.Gen.KernelIdeal
public import proofs.«01_k».proof.Proof.Gen.KernelIdeal.Skeleton
public import Idealize.ShloMosaic.Lib.ValueLayout

@[expose] public section

noncomputable section

namespace Cert.KernelIdeal.Ring

open Cert.KernelIdeal Cert.KernelIdeal.Gen
open Idealize.ShloMosaic Idealize.ShloMosaic.ValueIdx

variable {F : FTy → Type} [FloatOps F]

/-- The activations of both batches, as the kernel loads them. -/
abbrev acts (X : Vec F S4x256x512 .bf16) : Vec F S2x256x512 .bf16 :=
  ((Memref.whole cc0_stg0_0).access (Rect.unit (s := S4x256x512) ![0, 0, 0] S2x256x512.size (by decide))).read (Elt F) X

/-- The device's columns of the query projection, as the kernel loads them. -/
abbrev wq (W : Vec F S512x256 .bf16) : Vec F S512x256 .bf16 :=
  ((Memref.whole cc0_stg1_0).access (Rect.unit (s := S512x256) ![0, 0] S512x256.size (by decide))).read (Elt F) W

/-- The device's rows of the output projection, as the kernel loads them. -/
abbrev wo (O : Vec F S256x512 .bf16) : Vec F S256x512 .bf16 :=
  ((Memref.whole cc0_stg2_0).access (Rect.unit (s := S256x512) ![0, 0] S256x512.size (by decide))).read (Elt F) O

/-- A 256 × 64 block of keys (or values) of batch `b`, columns `col …`, as the kernel loads it. -/
abbrev keys (X : Vec F S4x256x512 .bf16) (off : Fin 3 → ℕ) (h : ∀ a, off a + S1x256x64.size a ≤ S4x256x512.size a) : Vec F S1x256x64 .bf16 :=
  ((Memref.whole cc0_stg0_0).access (Rect.unit (s := S4x256x512) off S1x256x64.size h)).read (Elt F) X

/-- Head `h` of batch 0. -/
def head0 (X : Vec F S4x256x512 .bf16) (W : Vec F S512x256 .bf16) : Fin 4 → Vec F S256x64 .bf16
  | 0 => k0_pay4 (acts X) (wq W) (keys X ![2, 0, 0] (by decide)) (keys X ![2, 0, 256] (by decide))
  | 1 => k0_pay6 k0_pay2 (k0_pay5 (acts X) (wq W)) (keys X ![2, 0, 64] (by decide)) (keys X ![2, 0, 320] (by decide))
  | 2 => k0_pay7 k0_pay2 (k0_pay3 (acts X) (wq W)) (keys X ![2, 0, 128] (by decide)) (keys X ![2, 0, 384] (by decide))
  | 3 => k0_pay8 k0_pay2 (k0_pay3 (acts X) (wq W)) (keys X ![2, 0, 192] (by decide)) (keys X ![2, 0, 448] (by decide))

/-- Head `h` of batch 1. -/
def head1 (X : Vec F S4x256x512 .bf16) (W : Vec F S512x256 .bf16) : Fin 4 → Vec F S256x64 .bf16
  | 0 => k0_pay11 (k0_pay1 (acts X) (wq W)) k0_pay2 (keys X ![3, 0, 0] (by decide)) (keys X ![3, 0, 256] (by decide))
  | 1 => k0_pay15 k0_pay2 (k0_pay12 (k0_pay1 (acts X) (wq W))) (k0_pay13 (keys X ![3, 0, 64] (by decide)))
      (k0_pay14 (keys X ![3, 0, 320] (by decide))) (constant S256x256 .f32 0x00000000#32)
  | 2 => k0_pay16 k0_pay2 (k0_pay10 (k0_pay1 (acts X) (wq W))) (keys X ![3, 0, 128] (by decide)) (keys X ![3, 0, 384] (by decide))
  | 3 => k0_pay19 k0_pay2 (k0_pay17 (k0_pay10 (k0_pay1 (acts X) (wq W)))) (k0_pay18 (keys X ![3, 0, 192] (by decide)))
      (keys X ![3, 0, 448] (by decide))

/-- Four heads side by side: column `64 h + j` is column `j` of head `h`. -/
def ctx (H : Fin 4 → Vec F S256x64 .bf16) : Vec F S256x256 .bf16 := fun x =>
  H ⟨(x 1).val / 64, by have : (x 1).val < 256 := (x 1).isLt; omega⟩ (ix2 (x 0) ⟨(x 1).val % 64, Nat.mod_lt _ (by decide)⟩)

/-- The device's partial product: rows of batch 0 above rows of batch 1. -/
def part (X : Vec F S4x256x512 .bf16) (W : Vec F S512x256 .bf16) (O : Vec F S256x512 .bf16) : Vec F S512x512 .bf16 := fun x =>
  if h : (x 0).val < 256 then k0_pay9 (ctx (head0 X W)) (wo O) (ix2 ⟨(x 0).val, h⟩ (x 1))
  else k0_pay20 (ctx (head1 X W)) (wo O) (ix2 ⟨(x 0).val - 256, by have : (x 0).val < 512 := (x 0).isLt; omega⟩ (x 1))

/-- What device `c` has received when all have sent: row `s` is rows `64 c …` of device `s`'s partial product. -/
def inbox (P : Dev nD → Vec F S512x512 .bf16) (c : Dev nD) : Vec F S8x64x512 .bf16 := fun x =>
  P (x 0) (ix2 ⟨64 * c.val + (x 1).val, by have : (x 1).val < 64 := (x 1).isLt; have : c.val < 8 := c.isLt; omega⟩ (x 2))

/-- Device `c`'s 64 rows of the sum of all partial products. -/
def red (P : Dev nD → Vec F S512x512 .bf16) (c : Dev nD) : Vec F S64x512 .bf16 := k0_pay22 (inbox P c)

/-- The result on every device: row `64 j + r` of batch `b` is row `r` of device `4 b + j`'s sum. -/
def out (P : Dev nD → Vec F S512x512 .bf16) : Vec F S2x256x512 .bf16 := fun x =>
  red P ⟨4 * (x 0).val + (x 1).val / 64, by
      have : (x 0).val < 2 := (x 0).isLt; have : (x 1).val < 256 := (x 1).isLt; show _ < 8; omega⟩
    (ix2 ⟨(x 1).val % 64, Nat.mod_lt _ (by decide)⟩ (x 2))

end Cert.KernelIdeal.Ring
-- ==== Proof.KernelIdeal.Places.lean ====
/-
The pieces of the kernel's buffers that travel, and the closed forms of the words the program computes from the
device it runs on: segment `p` of the partial product (rows `64 p …`), row `s` of the inbox, segment `s` of the
result; where each piece's elements lie in its buffer; and that the pieces of a buffer are disjoint and make it up.
-/
module

public import proofs.«01_k».proof.Proof.KernelIdeal.Values

@[expose] public section

noncomputable section

namespace Cert.KernelIdeal.Ring

open Cert.KernelIdeal Cert.KernelIdeal.Gen
open Idealize.ShloMosaic Idealize.ShloMosaic.ValueIdx

variable {F : FTy → Type} [FloatOps F]

/-! ## The pieces -/

theorem seg_inb (p : Fin 8) : ∀ a, (![64 * p.val, 0] : Fin 2 → ℕ) a + S64x512.size a ≤ S512x512.size a := by revert p; decide
theorem row_inb (s : Fin 8) : ∀ a, (![s.val, 0, 0] : Fin 3 → ℕ) a + S1x64x512.size a ≤ S8x64x512.size a := by revert s; decide
theorem outs_inb (s : Fin 8) : ∀ a, (![s.val / 4, 64 * (s.val % 4), 0] : Fin 3 → ℕ) a + S1x64x512.size a ≤ S2x256x512.size a := by
  revert s; decide

/-- Rows `64 p …` of the partial product. -/
abbrev segM (p : Fin 8) : Memref sig .tc .vmem S64x512 .bf16 :=
  (Memref.whole cc0_scratch1).slice (Rect.unit (s := S512x512) ![64 * p.val, 0] S64x512.size (seg_inb p)) (fun _ => rfl)

/-- Row `s` of the inbox. -/
abbrev rowM (s : Fin 8) : Memref sig .tc .vmem S64x512 .bf16 :=
  ((Memref.whole cc0_scratch3).slice (Rect.unit (s := S8x64x512) ![s.val, 0, 0] S1x64x512.size (row_inb s)) (fun _ => rfl)).squeeze S64x512
    squeezes_S1x64x512_S64x512

/-- The rows of the result that device `s` sums. -/
abbrev outM (s : Fin 8) : Memref sig .tc .vmem S64x512 .bf16 :=
  ((Memref.whole cc0_stg3_0).slice (Rect.unit (s := S2x256x512) ![s.val / 4, 64 * (s.val % 4), 0] S1x64x512.size (outs_inb s)) (fun _ => rfl)).squeeze S64x512
    squeezes_S1x64x512_S64x512

abbrev segS (p : Fin 8) : Finset S512x512.Idx := (segM p).view.set
abbrev rowS (s : Fin 8) : Finset S8x64x512.Idx := (rowM s).view.set
abbrev outS (s : Fin 8) : Finset S2x256x512.Idx := (outM s).view.set

theorem set_unit_whole (b : Ref sig .tc) {sz off : Fin b.ty.shape.rank → ℕ} (h : ∀ a, off a + sz a ≤ b.ty.shape.size a) :
    ((Memref.whole b).access (Rect.unit off sz h)).set = (Rect.unit off sz h).set := by
  rw [View.set_slice]; exact Finset.map_refl

theorem segS_eq (p : Fin 8) : segS p = (Rect.unit (s := S512x512) ![64 * p.val, 0] S64x512.size (seg_inb p)).set :=
  set_unit_whole cc0_scratch1 (seg_inb p)
theorem rowS_eq (s : Fin 8) : rowS s = (Rect.unit (s := S8x64x512) ![s.val, 0, 0] S1x64x512.size (row_inb s)).set :=
  (View.set_reshape _ _).trans (set_unit_whole cc0_scratch3 (row_inb s))
theorem outS_eq (s : Fin 8) : outS s = (Rect.unit (s := S2x256x512) ![s.val / 4, 64 * (s.val % 4), 0] S1x64x512.size (outs_inb s)).set :=
  (View.set_reshape _ _).trans (set_unit_whole cc0_stg3_0 (outs_inb s))

theorem mem_segS {p : Fin 8} {x : S512x512.Idx} : x ∈ segS p ↔ (x 0).val / 64 = p.val := by
  rw [segS_eq, Rect.mem_set_unit]
  have h1 : (x 1).val < 512 := (x 1).isLt
  constructor
  · intro h; have := h 0; simp at this; omega
  · intro h a
    match a with
    | 0 => show 64 * p.val ≤ (x 0).val ∧ (x 0).val < 64 * p.val + 64; omega
    | 1 => show 0 ≤ (x 1).val ∧ (x 1).val < 0 + 512; omega

theorem mem_rowS {s : Fin 8} {x : S8x64x512.Idx} : x ∈ rowS s ↔ (x 0).val = s.val := by
  rw [rowS_eq, Rect.mem_set_unit]
  have h1 : (x 1).val < 64 := (x 1).isLt
  have h2 : (x 2).val < 512 := (x 2).isLt
  constructor
  · intro h; have := h 0; simp at this; omega
  · intro h a
    match a with
    | 0 => show s.val ≤ (x 0).val ∧ (x 0).val < s.val + 1; omega
    | 1 => show 0 ≤ (x 1).val ∧ (x 1).val < 0 + 64; omega
    | 2 => show 0 ≤ (x 2).val ∧ (x 2).val < 0 + 512; omega

theorem mem_outS {s : Fin 8} {x : S2x256x512.Idx} : x ∈ outS s ↔ 4 * (x 0).val + (x 1).val / 64 = s.val := by
  rw [outS_eq, Rect.mem_set_unit]
  have h0 : (x 0).val < 2 := (x 0).isLt
  have h1 : (x 1).val < 256 := (x 1).isLt
  have h2 : (x 2).val < 512 := (x 2).isLt
  have hs := s.isLt
  constructor
  · intro h; have a0 := h 0; have a1 := h 1; simp at a0 a1; omega
  · intro h a
    match a with
    | 0 => show s.val / 4 ≤ (x 0).val ∧ (x 0).val < s.val / 4 + 1; omega
    | 1 => show 64 * (s.val % 4) ≤ (x 1).val ∧ (x 1).val < 64 * (s.val % 4) + 64; omega
    | 2 => show 0 ≤ (x 2).val ∧ (x 2).val < 0 + 512; omega

theorem segS_disjoint {p q : Fin 8} (h : p ≠ q) : Disjoint (segS p) (segS q) :=
  Finset.disjoint_left.mpr fun x hp hq => h (Fin.ext ((mem_segS.mp hp).symm.trans (mem_segS.mp hq)))
theorem rowS_disjoint {p q : Fin 8} (h : p ≠ q) : Disjoint (rowS p) (rowS q) :=
  Finset.disjoint_left.mpr fun x hp hq => h (Fin.ext ((mem_rowS.mp hp).symm.trans (mem_rowS.mp hq)))
theorem outS_disjoint {p q : Fin 8} (h : p ≠ q) : Disjoint (outS p) (outS q) :=
  Finset.disjoint_left.mpr fun x hp hq => h (Fin.ext ((mem_outS.mp hp).symm.trans (mem_outS.mp hq)))

theorem segS_univ : (Finset.univ : Finset (Fin 8)).biUnion segS = Finset.univ := by
  ext x; simp only [Finset.mem_biUnion, Finset.mem_univ, true_and, iff_true]
  exact ⟨⟨(x 0).val / 64, by have : (x 0).val < 512 := (x 0).isLt; omega⟩, mem_segS.mpr rfl⟩
theorem rowS_univ : (Finset.univ : Finset (Fin 8)).biUnion rowS = Finset.univ := by
  ext x; simp only [Finset.mem_biUnion, Finset.mem_univ, true_and, iff_true]
  exact ⟨x 0, mem_rowS.mpr rfl⟩
theorem outS_univ : (Finset.univ : Finset (Fin 8)).biUnion outS = Finset.univ := by
  ext x; simp only [Finset.mem_biUnion, Finset.mem_univ, true_and, iff_true]
  exact ⟨⟨4 * (x 0).val + (x 1).val / 64, by
    have : (x 0).val < 2 := (x 0).isLt; have : (x 1).val < 256 := (x 1).isLt; omega⟩, mem_outS.mpr rfl⟩

/-! ## Where a piece's elements lie -/

theorem segM_emb (p : Fin 8) (x : S64x512.Idx) : (segM p).view.emb x
    = ix2 ⟨64 * p.val + (x 0).val, by have : (x 0).val < 64 := (x 0).isLt; have := p.isLt; omega⟩ (x 1) := by
  funext a
  match a with
  | 0 => refine Fin.ext ?_; show 64 * p.val + 1 * (x 0).val = 64 * p.val + (x 0).val; omega
  | 1 => refine Fin.ext ?_; show 0 + 1 * (x 1).val = (x 1).val; omega

theorem squeeze_coord (x : S64x512.Idx) (h) : (Shape.reshapeEquiv (s := S1x64x512) (s' := S64x512) h x) = ix3 (0 : Fin 1) (x 0) (x 1) :=
  (congrArg _ (eq_ix2 x)).trans (reshapeEquiv_ix2_1ab h (x 0) (x 1))

theorem rowM_emb (s : Fin 8) (x : S64x512.Idx) : (rowM s).view.emb x = ix3 s (x 0) (x 1) := by
  show (Rect.unit (s := S8x64x512) ![s.val, 0, 0] S1x64x512.size (row_inb s)).emb (Shape.reshapeEquiv _ x) = _
  rw [squeeze_coord]
  funext a
  match a with
  | 0 => refine Fin.ext ?_; show s.val + 1 * 0 = _; simp
  | 1 => refine Fin.ext ?_; show 0 + 1 * (x 0).val = _; simp
  | 2 => refine Fin.ext ?_; show 0 + 1 * (x 1).val = _; simp

theorem outM_emb (s : Fin 8) (x : S64x512.Idx) : (outM s).view.emb x
    = ix3 ⟨s.val / 4, by have := s.isLt; omega⟩ ⟨64 * (s.val % 4) + (x 0).val, by have : (x 0).val < 64 := (x 0).isLt; omega⟩ (x 1) := by
  show (Rect.unit (s := S2x256x512) ![s.val / 4, 64 * (s.val % 4), 0] S1x64x512.size (outs_inb s)).emb (Shape.reshapeEquiv _ x) = _
  rw [squeeze_coord]
  funext a
  match a with
  | 0 => refine Fin.ext ?_; show s.val / 4 + 1 * 0 = _; simp
  | 1 => refine Fin.ext ?_; show 64 * (s.val % 4) + 1 * (x 0).val = _; simp
  | 2 => refine Fin.ext ?_; show 0 + 1 * (x 1).val = _; simp

/-! ## What a piece holds after its copy -/

/-- Device `s`'s segment `c`, landed in row `s` of device `c`'s inbox. -/
theorem row_landed (P : Dev nD → Vec F S512x512 .bf16) (c s : Dev nD) (fd : Vec F S8x64x512 .bf16) :
    ∀ i ∈ rowS s, (rowM s).view.write (Elt F) fd ((segM c).view.read (Elt F) (P s)) Finset.univ i = inbox P c i := by
  intro i hi
  obtain ⟨x, -, rfl⟩ := Finset.mem_map.mp hi
  rw [View.write_emb, if_pos (Finset.mem_univ x), View.read_apply, segM_emb, rowM_emb]
  rfl

/-- Device `s`'s sum, landed in segment `s` of a device's result. -/
theorem out_landed (P : Dev nD → Vec F S512x512 .bf16) (s : Dev nD) (fd : Vec F S2x256x512 .bf16) :
    ∀ i ∈ outS s, (outM s).view.write (Elt F) fd ((Memref.whole cc0_scratch2).view.read (Elt F) (red P s)) Finset.univ i = out P i := by
  intro i hi
  obtain ⟨x, -, rfl⟩ := Finset.mem_map.mp hi
  rw [View.write_emb, if_pos (Finset.mem_univ x), View.read_apply, outM_emb]
  have h0 : (x 0).val < 64 := (x 0).isLt
  have hs : s.val < 8 := s.isLt
  unfold out
  have e1 : (⟨4 * (s.val / 4) + (64 * (s.val % 4) + (x 0).val) / 64, by show _ < 8; omega⟩ : Dev nD) = s := Fin.ext (by show 4 * (s.val / 4) + (64 * (s.val % 4) + (x 0).val) / 64 = s.val; omega)
  have e2 : (⟨(64 * (s.val % 4) + (x 0).val) % 64, Nat.mod_lt _ (by decide)⟩ : Fin 64) = x 0 := Fin.ext (by show (64 * (s.val % 4) + (x 0).val) % 64 = (x 0).val; omega)
  show red P s x = red P ⟨4 * (s.val / 4) + (64 * (s.val % 4) + (x 0).val) / 64, _⟩ (ix2 ⟨(64 * (s.val % 4) + (x 0).val) % 64, _⟩ (x 1))
  rw [e1, e2]
  exact congrArg _ (eq_ix2 x)

end Cert.KernelIdeal.Ring
-- ==== Proof.KernelIdeal.Schedule.lean ====
/-
The schedule of the kernel's semaphores, with the contents every contribution carries.

Each device has one barrier cell and four families of eight copy cells (`sem k p`): kind 0 counts the copies of its
partial product that have left, kind 1 those that have arrived in its inbox, kind 2 the copies of its sum that have
left, kind 3 the sums that have arrived in its result. Every cell has one round. A duty is named by the device that pays it.

* barrier of `c`, paid by each other device `d` with one unit: row `c` of `d`'s inbox and segment `c` of `d`'s result,
  to write, and that `d`'s two arrival cells for `c` are open;
* kind 0, cell `p` of `c`, paid by `c`: segment `p` of `c`'s partial product, back from the copy;
* kind 1, cell `s` of `c`, paid by `s`: row `s` of `c`'s inbox, holding `s`'s segment `c`;
* kind 2, cell `p` of `c`, paid by `c`: the share of `c`'s sum that the copy to `p` read;
* kind 3, cell `s` of `c`, paid by `s`: segment `s` of `c`'s result, holding `s`'s sum.
-/
module

public import proofs.«01_k».proof.Proof.KernelIdeal.Places
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Pipeline.RegionTalk
public import Idealize.ShloMosaic.Lib.Transfers
public import Idealize.ShloMosaic.Lib.Tactic

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

/-! ## The cells -/

/-- The barrier semaphore. -/
abbrev barS : SemLoc sig := .reg (sig.barrier 0 rfl)

/-- The copy semaphore of kind `k` for device `p`. -/
def sem (k : Fin 4) (p : Fin 8) : DmaSem sig := ⟨4 + 8 * k.val + p.val, by have := k.isLt; have := p.isLt; show _ < 36; omega⟩

/-- The kind and the device of a semaphore, if it is a copy semaphore of the kernel's own. -/
def kindOf : SemLoc sig → Option (Fin 4 × Fin 8)
  | .reg _ => none
  | .dma s => if h : 4 ≤ s.val then some (⟨(s.val - 4) / 8, by have : s.val < 36 := s.isLt; omega⟩, ⟨(s.val - 4) % 8, Nat.mod_lt _ (by decide)⟩) else none

@[simp] theorem kindOf_sem (k : Fin 4) (p : Fin 8) : kindOf (.dma (sem k p)) = some (k, p) := by revert k p; decide
@[simp] theorem kindOf_bar : kindOf barS = none := rfl

theorem sem_inj : Function.Injective (fun x : Fin 4 × Fin 8 => (SemLoc.dma (sem x.1 x.2) : SemLoc sig)) := fun x y h => by
  have := congrArg kindOf h
  simpa using this

/-- A device's cells. -/
abbrev barC (c : Dev nD) : GSem nD τ sig := ((c : Thread nD τ), barS)
abbrev semC (k : Fin 4) (p : Fin 8) (c : Dev nD) : GSem nD τ sig := ((c : Thread nD τ), .dma (sem k p))

/-- The credit of one copy. -/
abbrev N : ℕ := (rowM 0).view.dmaCredit
theorem N_pos : 0 < N := View.dmaCredit_pos _ (by decide)

/-! ## What the contributions carry -/

variable (P : Dev nD → Vec F S512x512 .bf16)

/-- Segment `p` of the partial product on device `c`, with contents `f`. -/
abbrev seg (c : Dev nD) (p : Fin 8) (f : Vec F S512x512 .bf16) : sProp 𝕄 := (segM p).view.loc (c : Thread nD τ) ↦[segS p]{fullShare} f
/-- Row `s` of the inbox on device `c`. -/
abbrev row (c : Dev nD) (s : Fin 8) (f : Vec F S8x64x512 .bf16) : sProp 𝕄 := (rowM s).view.loc (c : Thread nD τ) ↦[rowS s]{fullShare} f
/-- Segment `s` of the result on device `c`. -/
abbrev outs (c : Dev nD) (s : Fin 8) (f : Vec F S2x256x512 .bf16) : sProp 𝕄 := (outM s).view.loc (c : Thread nD τ) ↦[outS s]{fullShare} f
/-- The share of the sum that goes with device `p`. -/
abbrev shareOf (p : Fin 8) : PosShare TreeShare := Transfers.dealOf fullShare (Finset.univ : Finset (Fin 8)) p
/-- Device `p`'s share of the sum on device `c`. -/
abbrev redAt (c : Dev nD) (p : Fin 8) (f : Vec F S64x512 .bf16) : sProp 𝕄 :=
  (Memref.whole cc0_scratch2).view.loc (c : Thread nD τ) ↦[(Memref.whole cc0_scratch2).view.set]{shareOf p} f

/-- What `d` hands to `c` at the barrier. -/
def barPay (c d : Dev nD) : sProp 𝕄 :=
  iprop((∃ f, row d c f) ∗ (∃ f, outs d c f) ∗ reached ER (semC 1 c d) 0 ∗ reached ER (semC 3 c d) 0)

/-- The payload of a copy cell of device `c`. -/
def copyPay (c : Dev nD) : Fin 4 → Fin 8 → sProp 𝕄
  | 0, p => seg c p (P c)
  | 1, s => row c s (inbox P c)
  | 2, p => redAt c p (red P c)
  | 3, s => outs c s (out P)

instance copyPay_storable (c : Dev nD) (k : Fin 4) (p : Fin 8) : BI.Storable (upEmb : UEmb _ 𝕄) (copyPay P c k p) := by
  unfold copyPay; split <;> infer_instance

/-- The device that pays cell `p` of kind `k` of device `c`: a departure is paid by the device itself, an arrival by the sender. -/
def payer (c : Dev nD) : Fin 4 → Fin 8 → Dev nD
  | 0, _ => c
  | 1, s => s
  | 2, _ => c
  | 3, s => s

def Rd : Rounds.Schedule (GSem nD τ sig) (Dev nD) 𝕄 where
  duties g r := if r = 0 ∧ g.1.2 = .tc then
      match kindOf g.2 with
      | none => Finset.univ.erase g.1.1
      | some (k, p) => if p = g.1.1 then ∅ else {payer g.1.1 k p}
    else ∅
  amount g _ _ := match kindOf g.2 with
    | none => 1
    | some _ => N
  payload g _ d := match kindOf g.2 with
    | none => barPay g.1.1 d
    | some (k, p) => copyPay P g.1.1 k p
  amount_pos g _ _ _ := by
    show 0 < (match kindOf g.2 with | none => 1 | some _ => N)
    split
    · exact Nat.one_pos
    · exact N_pos

instance Rd_storable (g : GSem nD τ sig) (r : ℕ) (d : Dev nD) : BI.Storable (upEmb : UEmb _ 𝕄) ((Rd P).payload g r d) := by
  show BI.Storable upEmb (match kindOf g.2 with | none => barPay g.1.1 d | some (k, p) => copyPay P g.1.1 k p)
  split
  · unfold barPay; infer_instance
  · infer_instance

/-! ## The schedule's tables -/

variable (c : Dev nD)

@[sl_rounds] theorem duties_bar : (Rd P).duties (barC c) 0 = Finset.univ.erase c := rfl
theorem duties_sem (k : Fin 4) (p : Fin 8) : (Rd P).duties (semC k p c) 0 = if p = c then ∅ else {payer c k p} := by
  dsimp only [Rd, semC]; rw [if_pos ⟨rfl, rfl⟩, kindOf_sem]
theorem duties_sem_ne (k : Fin 4) {p : Fin 8} (h : p ≠ c) : (Rd P).duties (semC k p c) 0 = {payer c k p} := by rw [duties_sem, if_neg h]
theorem duties_sem_self (k : Fin 4) : (Rd P).duties (semC k c c) 0 = ∅ := by rw [duties_sem, if_pos rfl]
theorem duties_later (g : GSem nD τ sig) (r : ℕ) (h : 0 < r) : (Rd P).duties g r = ∅ := by
  dsimp only [Rd]; rw [if_neg (fun h' => h.ne' h'.1)]
theorem amount_bar (d : Dev nD) : (Rd P).amount (barC c) 0 d = 1 := rfl
theorem amount_sem (k : Fin 4) (p : Fin 8) (d : Dev nD) : (Rd P).amount (semC k p c) 0 d = N := by
  dsimp only [Rd, semC]; rw [kindOf_sem]
theorem payload_bar (d : Dev nD) : (Rd P).payload (barC c) 0 d = barPay c d := rfl
theorem payload_sem (k : Fin 4) (p : Fin 8) (d : Dev nD) : (Rd P).payload (semC k p c) 0 d = copyPay P c k p := by
  dsimp only [Rd, semC]; rw [kindOf_sem]

theorem expect_bar : (Rd P).expect (barC c) 0 = 7 := by
  unfold Schedule.expect Schedule.amountOf
  rw [duties_bar, Finset.sum_congr rfl (fun d _ => amount_bar P c d)]
  rw [Finset.sum_const, Finset.card_erase_of_mem (Finset.mem_univ c)]; rfl
theorem expect_sem (k : Fin 4) {p : Fin 8} (h : p ≠ c) : (Rd P).expect (semC k p c) 0 = N := by
  unfold Schedule.expect Schedule.amountOf
  rw [duties_sem_ne P c k h, Finset.sum_singleton, amount_sem]

/-! ## The family: the barrier cells, the cells opened by the kernel, the tokens each device pays -/

/-- The (cell, round, duty) triples that device `c` pays: kind 4 is the barrier of `p`, kinds 0 and 2 its own departures, kinds 1 and 3 its
    arrivals at `p`. -/
def tokOf (c : Dev nD) : Fin 5 × Fin 8 → GSem nD τ sig × ℕ × Dev nD
  | (0, p) => (semC 0 p c, 0, c)
  | (1, p) => (semC 1 c p, 0, c)
  | (2, p) => (semC 2 p c, 0, c)
  | (3, p) => (semC 3 c p, 0, c)
  | (4, p) => (barC p, 0, c)

theorem tokOf_inj (c : Dev nD) : Function.Injective (tokOf c) := by
  have inj : ∀ c : Dev nD, Function.Injective fun x : Fin 5 × Fin 8 => (kindOf (tokOf c x).1.2, (tokOf c x).1.1.1) := by decide +kernel
  exact fun x y h => inj c (by show (kindOf (tokOf c x).1.2, (tokOf c x).1.1.1) = (kindOf (tokOf c y).1.2, (tokOf c y).1.1.1); rw [h])

/-- The kernel's own semaphores, by kind and device. -/
abbrev osem : Fin 4 × Fin 8 → SemLoc sig := fun x => .dma (sem x.1 x.2)

def fam : TalkSites.Fam nD τ sig (Dev nD) 1 where
  bar := barS
  dorm _ := Finset.univ.map ⟨osem, sem_inj⟩
  toks c _ := (Finset.univ.filter fun x : Fin 5 × Fin 8 => x.2 ≠ c).map ⟨tokOf c, tokOf_inj c⟩
  semKey _ := 0
  hsem j _ _ := (Subsingleton.elim _ _)
  hbar j h := by
    obtain ⟨x, -, hx⟩ := Finset.mem_map.mp h
    exact absurd hx (by intro hx; cases hx)
  tokKey x := (x.2.2, 0)
  htok c j x h := by
    obtain ⟨y, -, rfl⟩ := Finset.mem_map.mp h
    refine Prod.ext ?_ (Subsingleton.elim _ _)
    show (tokOf c y).2.2 = c
    unfold tokOf; split <;> rfl

theorem mem_dorm (k : Fin 4) (p : Fin 8) : (SemLoc.dma (sem k p) : SemLoc sig) ∈ fam.dorm 0 :=
  Finset.mem_map.mpr ⟨(k, p), Finset.mem_univ _, rfl⟩

end Cert.KernelIdeal.Ring
-- ==== Proof.KernelIdeal.Steps.lean ====
/-
One step of the kernel per kind of operation, at a symbolic device `c` and a peer `p`: the barrier signal to `p`, the
copy of segment `p` of the partial product to `p`, the wait for a copy cell, the copy of the sum to `p`. The program
guards each by "`p` is not this device"; each rule here takes the guarded operation, and its resources are present
only where the guard holds (`ifp`).
-/
module

public import proofs.«01_k».proof.Proof.KernelIdeal.Schedule

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (P : Dev nD → Vec F S512x512 .bf16) (κ : GSem nD τ sig → ℕ) (c : Dev nD)

/-- `R`, unless `p` is the device `c` itself. -/
def ifp (p : Fin 8) (c : Dev nD) (R : sProp 𝕄) : sProp 𝕄 := if p = c then iprop(emp) else R

theorem ifp_self (R : sProp 𝕄) : ifp c c R = iprop(emp) := if_pos rfl
theorem ifp_ne {p : Fin 8} (h : p ≠ c) (R : sProp 𝕄) : ifp p c R = R := if_neg h

/-- What device `c` owes, whatever it has waited for. -/
def owesE (c : Dev nD) (D : CellTallies nD τ sig ℕ) : sProp 𝕄 := iprop(∃ W, owes (c : Thread nD τ) D W)

/-- The dues of device `c` towards `p`: one unit of its barrier, one arrival in its inbox, one arrival in its result. -/
def dueBar (c : Dev nD) (p : Fin 8) : CellTallies nD τ sig ℕ := tallyAt (barC p) 1 (if p = c then 0 else 1)
@[inherit_doc dueBar] def dueRow (c : Dev nD) (p : Fin 8) : CellTallies nD τ sig ℕ := tallyAt (semC 1 c p) 2 (if p = c then 0 else N)
@[inherit_doc dueBar] def dueOut (c : Dev nD) (p : Fin 8) : CellTallies nD τ sig ℕ := tallyAt (semC 3 c p) 3 (if p = c then 0 else N)

theorem tallyAt_nil (g : GSem nD τ sig) (i : ℕ) : tallyAt g i 0 = 0 := by
  unfold tallyAt; rw [Finsupp.single_zero, tallyOn_zero]

theorem dueBar_self : dueBar c c = 0 := by unfold dueBar; rw [if_pos rfl, tallyAt_nil]
theorem dueRow_self : dueRow c c = 0 := by unfold dueRow; rw [if_pos rfl, tallyAt_nil]
theorem dueOut_self : dueOut c c = 0 := by unfold dueOut; rw [if_pos rfl, tallyAt_nil]

/-- A program that has ended. -/
theorem wp_pure_intro {Kt : PUnit → sProp 𝕄} :
    Kt ⟨⟩ ⊢ wp frame (wpE (defs₀ (F := F)) 𝒱₀ (c : Thread nD τ) none) Set.univ (.ret ⟨⟩ : Prog (TpuEff nD τ sig (Elt F) Λ₀ .tc) PUnit) Kt := by
  rw [wp_ret]; exact fupd_intro (PROP := sProp 𝕄)

/-- A guarded operation: with the guard's meaning known, the two branches are proved apart. -/
theorem wp_guard {p : Fin 8} {cond : BitVec 1} (hc : cond = 1#1 ↔ p ≠ c) {A : cond = 1#1 → Prog (TpuEff nD τ sig (Elt F) Λ₀ .tc) PUnit} {R : sProp 𝕄}
    {Kt : PUnit → sProp 𝕄} (hy : ∀ h, p ≠ c → R ⊢ wp frame (wpE (defs₀ (F := F)) 𝒱₀ (c : Thread nD τ) none) Set.univ (A h) Kt)
    (hn : p = c → R ⊢ Kt ⟨⟩) :
    R ⊢ wp frame (wpE (defs₀ (F := F)) 𝒱₀ (c : Thread nD τ) none) Set.univ (if h : cond = 1#1 then A h else pure ⟨⟩) Kt := by
  by_cases h : cond = 1#1
  · rw [dif_pos h]; exact hy h (hc.mp h)
  · rw [dif_neg h, wp_pure]
    exact (hn (not_not.mp fun hp => h (hc.mpr hp))).trans (fupd_intro (PROP := sProp 𝕄))

/-! ## The barrier signal -/

/-- What the signal to `p` takes. -/
def sigRes (p : Fin 8) : sProp 𝕄 :=
  iprop(dutyTok ER (barC p) 0 c ∗ reached ER (barC p) 0 ∗ (∃ f, row (F := F) c p f) ∗ (∃ f, outs (F := F) c p f)
    ∗ reached ER (semC 1 p c) 0 ∗ reached ER (semC 3 p c) 0)

theorem step_signal (p : Fin 8) {cond : BitVec 1} (hc : cond = 1#1 ↔ p ≠ c) {dv : cond = 1#1 → Dev nD} (hdv : ∀ h, dv h = p)
    (D : CellTallies nD τ sig ℕ) (Kt : PUnit → sProp 𝕄) :
    iprop((fam.cellInvs ER (Rd P) κ ∗ ifp p c (sigRes c p) ∗ owesE c (dueBar c p + D)) ∗ (owesE c D -∗ Kt ⟨⟩))
      ⊢ wp frame (wpE (defs₀ (F := F)) 𝒱₀ (c : Thread nD τ) none) Set.univ
          (if h : cond = 1#1 then (do semSignalWord (dv h) (SemArray.scalar (sig.barrier 0 rfl) : Sems sig S_).sem 1#32; pure ⟨⟩) else pure ⟨⟩) Kt := by
  refine wp_guard c hc (fun h hne => ?_) (fun he => ?_)
  · rw [hdv h, ifp_ne c hne]
    unfold sigRes owesE
    iintro ⟨⟨#HI, ⟨Ht, Hr, Hrow, Hout, Hr1, Hr3⟩, ⟨%W, HO⟩⟩, Hk⟩
    have hO : dueBar c p + D = D + tallyAt (barC p) 1 1 := by unfold dueBar; rw [if_neg hne, add_comm]
    rw [hO]
    iapply (Rounds.wp_signal 𝒱₀ ER (Rd P) (c : Thread nD τ) none (dst := (p : Thread nD τ)) (sem := sig.barrier 0 rfl) (r := 0) (d := c)
        (κ := κ (barC p)) (k' := 1) (by rw [duties_bar]; exact Finset.mem_erase.mpr ⟨fun e => hne e.symm, Finset.mem_univ _⟩)
        (amount_bar P p c) 1 D rfl (W := W)) $$ [HO Ht Hr Hrow Hout Hr1 Hr3]
    · isplitr; · iapply (fam.cellInvs_bar ER (Rd P) κ p); iexact HI
      isplitl [HO]; · iexact HO
      isplitl [Ht]; · iexact Ht
      isplitl [Hrow Hout Hr1 Hr3]
      · rw [payload_bar]; unfold barPay
        isplitl [Hrow]; · iexact Hrow
        isplitl [Hout]; · iexact Hout
        isplitl [Hr1] <;> iassumption
      · iexact Hr
    iintro HO
    iapply (wp_pure_intro c)
    iapply Hk; iexists W; iexact HO
  · subst he
    rw [dueBar_self, zero_add]
    iintro ⟨⟨-, -, HO⟩, Hk⟩
    iapply Hk; iexact HO

/-! ## The copies -/

/-- What the copy of segment `p` to `p` takes. -/
def rowRes (p : Fin 8) : sProp 𝕄 :=
  iprop((dutyTok ER (semC 0 p c) 0 c ∗ reached ER (semC 0 p c) 0 ∗ dutyTok ER (semC 1 c p) 0 c) ∗ seg c p (P c)
    ∗ (∃ f, row (F := F) p c f) ∗ reached ER (semC 1 c p) 0)

theorem step_row_op (p : Fin 8) (hne : p ≠ c) {dv : Dev nD} (hdv : dv = p) {src : Memref sig .tc .vmem S64x512 .bf16} (hsrc : src = segM p)
    {dst : Memref sig .tc .vmem S64x512 .bf16} (hdst : dst = rowM c) {s1 s2 : DmaSem sig} (h1 : s1 = sem 0 p) (h2 : s2 = sem 1 c)
    {hsc : dst.view.ref.isScScratch = false} {e1 : src.view.WordExact} {e2 : dst.view.WordExact}
    {e3 : DmaTarget.Typed .vmem (.dma s2) (.remote (Dev.tc dv : Thread nD τ) dst (.dma s1) hsc)}
    (D : CellTallies nD τ sig ℕ) (Kt : PUnit → sProp 𝕄) :
    iprop((fam.cellInvs ER (Rd P) κ ∗ rowRes P c p ∗ owesE c (dueRow c p + D)) ∗ ((owesE c D ∗ cred (tallyAt (semC 0 p c) 0 N)) -∗ Kt ⟨⟩))
      ⊢ wp frame (wpE (defs₀ (F := F)) 𝒱₀ (c : Thread nD τ) none) Set.univ
          (do Prog.lift (.enqueueDma src (.remote (Dev.tc dv) dst (.dma s1) hsc) (.dma s2) e1 e2 e3); pure ⟨⟩) Kt := by
  subst hdv hsrc hdst h1 h2
  unfold rowRes owesE
  iintro ⟨⟨#HI, ⟨⟨Ht0, Hr0, Ht1⟩, Hs, ⟨%fd, Hd⟩, Hr1⟩, ⟨%W, HO⟩⟩, Hk⟩
  have hO : dueRow c dv + D = D + tallyAt (semC 1 c dv) 2 N := by unfold dueRow; rw [if_neg hne, add_comm]
  rw [hO]
  iapply (Rounds.wp_send_pointsTo 𝒱₀ ER (Rd P) (c : Thread nD τ) none (c' := (dv : Thread nD τ)) (src := segM dv) (dst := rowM c)
      (sS := .dma (sem 0 dv)) (sem := .dma (sem 1 c)) (q := fullShare) (fs := P c) (fd := fd) (κ₁ := κ (semC 0 dv c)) (κ₂ := κ (semC 1 c dv))
      (r₁ := 0) (r₂ := 0) (d₁ := c) (d₂ := c)
      (by rw [duties_sem_ne P c 0 hne]; exact Finset.mem_singleton_self _)
      (by rw [duties_sem_ne P dv 1 hne.symm]; exact Finset.mem_singleton_self _)
      2 0 N rfl (amount_sem P c 0 dv c) (amount_sem P dv 1 c c) D rfl (W := W)
      (by rw [payload_sem]; exact BI.Entails.refl _)
      (by rw [payload_sem]; exact Entails.of_eq (pointsTo_congr (row_landed P dv c fd)))) $$ [HO Ht0 Hr0 Ht1 Hs Hd Hr1]
  · isplitr; · iapply (fam.cellInvs_dorm ER (Rd P) κ c (mem_dorm 0 dv)); iexact HI
    isplitr; · iapply (fam.cellInvs_dorm ER (Rd P) κ dv (mem_dorm 1 c)); iexact HI
    isplitl [Hs]; · iexact Hs
    isplitl [Hd]; · iexact Hd
    isplitl [HO]; · iexact HO
    isplitl [Ht0]; · iexact Ht0
    isplitl [Hr0]; · iexact Hr0
    isplitl [Ht1]; · iexact Ht1
    iexact Hr1
  iintro ⟨Hc, HO⟩
  iapply (wp_pure_intro c)
  iapply Hk
  isplitl [HO]; · iexists W; iexact HO
  iexact Hc

theorem step_row (p : Fin 8) {cond : BitVec 1} (hc : cond = 1#1 ↔ p ≠ c) {dv : cond = 1#1 → Dev nD} (hdv : ∀ h, dv h = p)
    {src : Memref sig .tc .vmem S64x512 .bf16} (hsrc : src = segM p) {dst : cond = 1#1 → Memref sig .tc .vmem S64x512 .bf16} (hdst : ∀ h, dst h = rowM c)
    {s1 : DmaSem sig} (h1 : s1 = sem 0 p) {s2 : cond = 1#1 → DmaSem sig} (h2 : ∀ h, s2 h = sem 1 c)
    {hsc : ∀ h, (dst h).view.ref.isScScratch = false} {e1 : src.view.WordExact} {e2 : ∀ h, (dst h).view.WordExact}
    {e3 : ∀ h, DmaTarget.Typed .vmem (.dma (s2 h)) (.remote (Dev.tc (dv h) : Thread nD τ) (dst h) (.dma s1) (hsc h))}
    (D : CellTallies nD τ sig ℕ) (Kt : PUnit → sProp 𝕄) :
    iprop((fam.cellInvs ER (Rd P) κ ∗ ifp p c (rowRes P c p) ∗ owesE c (dueRow c p + D))
        ∗ ((owesE c D ∗ ifp p c (cred (tallyAt (semC 0 p c) 0 N))) -∗ Kt ⟨⟩))
      ⊢ wp frame (wpE (defs₀ (F := F)) 𝒱₀ (c : Thread nD τ) none) Set.univ
          (if h : cond = 1#1 then (do Prog.lift (.enqueueDma src (.remote (Dev.tc (dv h)) (dst h) (.dma s1) (hsc h)) (.dma (s2 h)) e1 (e2 h) (e3 h)); pure ⟨⟩)
            else pure ⟨⟩) Kt := by
  refine wp_guard c hc (fun h hne => ?_) (fun he => ?_)
  · rw [ifp_ne c hne, ifp_ne c hne]
    exact step_row_op P κ c p hne (hdv h) hsrc (hdst h) h1 (h2 h) D Kt
  · subst he
    rw [dueRow_self, zero_add, ifp_self, ifp_self]
    iintro ⟨⟨-, -, HO⟩, Hk⟩
    iapply Hk; isplitl [HO]; · iexact HO
    iempintro

/-- What the copy of the sum to `p` takes. -/
def outRes (p : Fin 8) : sProp 𝕄 :=
  iprop((dutyTok ER (semC 2 p c) 0 c ∗ reached ER (semC 2 p c) 0 ∗ dutyTok ER (semC 3 c p) 0 c) ∗ redAt c p (red P c)
    ∗ (∃ f, outs (F := F) p c f) ∗ reached ER (semC 3 c p) 0)

theorem step_out_op (p : Fin 8) (hne : p ≠ c) {dv : Dev nD} (hdv : dv = p)
    {dst : Memref sig .tc .vmem S64x512 .bf16} (hdst : dst = outM c) {s1 s2 : DmaSem sig} (h1 : s1 = sem 2 p) (h2 : s2 = sem 3 c)
    {hsc : dst.view.ref.isScScratch = false} {e1 : (Memref.whole cc0_scratch2 : Memref sig .tc .vmem S64x512 .bf16).view.WordExact} {e2 : dst.view.WordExact}
    {e3 : DmaTarget.Typed .vmem (.dma s2) (.remote (Dev.tc dv : Thread nD τ) dst (.dma s1) hsc)}
    (D : CellTallies nD τ sig ℕ) (Kt : PUnit → sProp 𝕄) :
    iprop((fam.cellInvs ER (Rd P) κ ∗ outRes P c p ∗ owesE c (dueOut c p + D)) ∗ ((owesE c D ∗ cred (tallyAt (semC 2 p c) 0 N)) -∗ Kt ⟨⟩))
      ⊢ wp frame (wpE (defs₀ (F := F)) 𝒱₀ (c : Thread nD τ) none) Set.univ
          (do Prog.lift (.enqueueDma (Memref.whole cc0_scratch2 : Memref sig .tc .vmem S64x512 .bf16) (.remote (Dev.tc dv) dst (.dma s1) hsc) (.dma s2) e1 e2 e3); pure ⟨⟩) Kt := by
  subst hdv hdst h1 h2
  unfold outRes owesE
  iintro ⟨⟨#HI, ⟨⟨Ht0, Hr0, Ht1⟩, Hs, ⟨%fd, Hd⟩, Hr1⟩, ⟨%W, HO⟩⟩, Hk⟩
  have hO : dueOut c dv + D = D + tallyAt (semC 3 c dv) 3 N := by unfold dueOut; rw [if_neg hne, add_comm]
  rw [hO]
  iapply (Rounds.wp_send_pointsTo 𝒱₀ ER (Rd P) (c : Thread nD τ) none (c' := (dv : Thread nD τ)) (src := Memref.whole cc0_scratch2) (dst := outM c)
      (sS := .dma (sem 2 dv)) (sem := .dma (sem 3 c)) (q := shareOf dv) (fs := red P c) (fd := fd) (κ₁ := κ (semC 2 dv c)) (κ₂ := κ (semC 3 c dv))
      (r₁ := 0) (r₂ := 0) (d₁ := c) (d₂ := c)
      (by rw [duties_sem_ne P c 2 hne]; exact Finset.mem_singleton_self _)
      (by rw [duties_sem_ne P dv 3 hne.symm]; exact Finset.mem_singleton_self _)
      3 0 N rfl (amount_sem P c 2 dv c) (amount_sem P dv 3 c c) D rfl (W := W)
      (by rw [payload_sem]; exact BI.Entails.refl _)
      (by rw [payload_sem]; exact Entails.of_eq (pointsTo_congr (out_landed P c fd)))) $$ [HO Ht0 Hr0 Ht1 Hs Hd Hr1]
  · isplitr; · iapply (fam.cellInvs_dorm ER (Rd P) κ c (mem_dorm 2 dv)); iexact HI
    isplitr; · iapply (fam.cellInvs_dorm ER (Rd P) κ dv (mem_dorm 3 c)); iexact HI
    isplitl [Hs]; · iexact Hs
    isplitl [Hd]; · iexact Hd
    isplitl [HO]; · iexact HO
    isplitl [Ht0]; · iexact Ht0
    isplitl [Hr0]; · iexact Hr0
    isplitl [Ht1]; · iexact Ht1
    iexact Hr1
  iintro ⟨Hc, HO⟩
  iapply (wp_pure_intro c)
  iapply Hk
  isplitl [HO]; · iexists W; iexact HO
  iexact Hc

theorem step_out (p : Fin 8) {cond : BitVec 1} (hc : cond = 1#1 ↔ p ≠ c) {dv : cond = 1#1 → Dev nD} (hdv : ∀ h, dv h = p)
    {dst : cond = 1#1 → Memref sig .tc .vmem S64x512 .bf16} (hdst : ∀ h, dst h = outM c)
    {s1 : DmaSem sig} (h1 : s1 = sem 2 p) {s2 : cond = 1#1 → DmaSem sig} (h2 : ∀ h, s2 h = sem 3 c)
    {hsc : ∀ h, (dst h).view.ref.isScScratch = false} {e1 : (Memref.whole cc0_scratch2 : Memref sig .tc .vmem S64x512 .bf16).view.WordExact}
    {e2 : ∀ h, (dst h).view.WordExact}
    {e3 : ∀ h, DmaTarget.Typed .vmem (.dma (s2 h)) (.remote (Dev.tc (dv h) : Thread nD τ) (dst h) (.dma s1) (hsc h))}
    (D : CellTallies nD τ sig ℕ) (Kt : PUnit → sProp 𝕄) :
    iprop((fam.cellInvs ER (Rd P) κ ∗ ifp p c (outRes P c p) ∗ owesE c (dueOut c p + D))
        ∗ ((owesE c D ∗ ifp p c (cred (tallyAt (semC 2 p c) 0 N))) -∗ Kt ⟨⟩))
      ⊢ wp frame (wpE (defs₀ (F := F)) 𝒱₀ (c : Thread nD τ) none) Set.univ
          (if h : cond = 1#1 then (do Prog.lift (.enqueueDma (Memref.whole cc0_scratch2 : Memref sig .tc .vmem S64x512 .bf16)
            (.remote (Dev.tc (dv h)) (dst h) (.dma s1) (hsc h)) (.dma (s2 h)) e1 (e2 h) (e3 h)); pure ⟨⟩) else pure ⟨⟩) Kt := by
  refine wp_guard c hc (fun h hne => ?_) (fun he => ?_)
  · rw [ifp_ne c hne, ifp_ne c hne]
    exact step_out_op P κ c p hne (hdv h) (hdst h) h1 (h2 h) D Kt
  · subst he
    rw [dueOut_self, zero_add, ifp_self, ifp_self]
    iintro ⟨⟨-, -, HO⟩, Hk⟩
    iapply Hk; isplitl [HO]; · iexact HO
    iempintro

/-! ## The waits -/

/-- What the wait for cell `p` of kind `k` takes: the credit and the position. -/
def waitRes (k : Fin 4) (p : Fin 8) (i : ℕ) : sProp 𝕄 := cred (tallyAt (semC k p c) i N)

/-- The position at a copy cell, before and after its wait. -/
def posBefore (k : Fin 4) (p : Fin 8) : sProp 𝕄 := atPos ER (semC k p c) 0 ∅ 0
@[inherit_doc posBefore] def posAfter (k : Fin 4) (p : Fin 8) : sProp 𝕄 := atPos ER (semC k p c) (if p = c then 0 else 1) ∅ 0

theorem step_wait (k : Fin 4) (p : Fin 8) (i : ℕ) {cond : BitVec 1} (hc : cond = 1#1 ↔ p ≠ c) {s : DmaSem sig} (hs : s = sem k p)
    {src dst : Memref sig .tc .vmem S64x512 .bf16} (hN : dst.view.dmaCredit = N) {e1 : src.view.WordExact} {e2 : dst.view.WordExact}
    (D : CellTallies nD τ sig ℕ) (Lv : sProp 𝕄) [BI.Persistent Lv] (hD : Lv ⊢ MayWait (c : Thread nD τ) (.dma (sem k p)) i D) (Kt : PUnit → sProp 𝕄) :
    iprop((fam.cellInvs ER (Rd P) κ ∗ Lv ∗ ifp p c (cred (tallyAt (semC k p c) i N)) ∗ posBefore c k p ∗ owesE c D)
        ∗ ((owesE c D ∗ posAfter c k p ∗ ifp p c (copyPay P c k p)) -∗ Kt ⟨⟩))
      ⊢ wp frame (wpE (defs₀ (F := F)) 𝒱₀ (c : Thread nD τ) none) Set.univ
          (if h : cond = 1#1 then (do Prog.lift (.waitDma2 s src dst e1 e2); pure ⟨⟩) else pure ⟨⟩) Kt := by
  unfold posBefore posAfter
  refine wp_guard c hc (fun h hne => ?_) (fun he => ?_)
  · subst hs
    rw [ifp_ne c hne, ifp_ne c hne, if_neg hne]
    unfold owesE
    iintro ⟨⟨#HI, #HL, Hc, Hat, ⟨%W, HO⟩⟩, Hk⟩
    iapply (Rounds.wp_wait_rest_token 𝒱₀ ER (Rd P) (c : Thread nD τ) none (κ := κ (semC k p c))
        (wpE_waitDma2_eq (src := src) (dst := dst) 𝒱₀ (c : Thread nD τ) none Set.univ) (Set.mem_univ _) i (O := D) (W := W) (R := 0) (m := 0) (T := ∅)
        ((Nat.zero_add _).trans (hN.trans (expect_sem P c k hne).symm))) $$ [Hc HO Hat]
    · isplitr; · iapply (fam.cellInvs_dorm ER (Rd P) κ c (mem_dorm k p)); iexact HI
      isplitl [Hc]; · rw [hN]; iexact Hc
      isplitl [HO]; · iexact HO
      isplitr; · iapply hD; iexact HL
      iexact Hat
    iintro ⟨HO, Hat, -, Hpay⟩
    iapply (wp_pure_intro c)
    iapply Hk
    isplitl [HO]; · iexists (insert (SemLoc.dma (sem k p), i) W); iexact HO
    isplitl [Hat]; · iexact Hat
    iapply (Entails.of_eq (by rw [Finset.sdiff_empty, duties_sem_ne P c k hne, bigSep_singleton, payload_sem] :
      (bigSep ((Rd P).duties (semC k p c) 0 \ ∅) fun d => (Rd P).payload (semC k p c) 0 d) = copyPay P c k p))
    iexact Hpay
  · subst he
    rw [if_pos rfl, ifp_self, ifp_self]
    iintro ⟨⟨-, -, -, Hat, HO⟩, Hk⟩
    iapply Hk
    isplitl [HO]; · iexact HO
    isplitl [Hat]; · iexact Hat
    iempintro

/-- The wait on the barrier: all seven peers have handed over what the copies to them write. -/
theorem step_barrier (D : CellTallies nD τ sig ℕ) (Lv : sProp 𝕄) [BI.Persistent Lv] (hD : Lv ⊢ MayWait (c : Thread nD τ) barS 1 D) (Kt : PUnit → sProp 𝕄) :
    iprop((fam.cellInvs ER (Rd P) κ ∗ Lv ∗ cred (tallyAt (barC c) 1 7) ∗ atPos ER (barC c) 0 ∅ 0 ∗ owesE c D)
        ∗ ((owesE c D ∗ atPos ER (barC c) 1 ∅ 0 ∗ bigSep (Finset.univ.erase c) fun d => barPay c d) -∗ Kt ⟨⟩))
      ⊢ wp frame (wpE (defs₀ (F := F)) 𝒱₀ (c : Thread nD τ) none) Set.univ
          (semWaitWord (SemArray.scalar (sig.barrier 0 rfl) : Sems sig S_).sem 7#32) Kt := by
  unfold owesE
  iintro ⟨⟨#HI, #HL, Hc, Hat, ⟨%W, HO⟩⟩, Hk⟩
  iapply (Rounds.wp_wait_rest_token 𝒱₀ ER (Rd P) (c : Thread nD τ) none (κ := κ (barC c)) (k' := 7)
      (wpE_semWait_eq 𝒱₀ (c : Thread nD τ) none Set.univ) (Set.mem_univ _) 1 (O := D) (W := W) (R := 0) (m := 0) (T := ∅)
      ((Nat.zero_add _).trans (expect_bar P c).symm)) $$ [Hc HO Hat]
  · isplitr; · iapply (fam.cellInvs_bar ER (Rd P) κ c); iexact HI
    isplitl [Hc]; · iexact Hc
    isplitl [HO]; · iexact HO
    isplitr; · iapply hD; iexact HL
    iexact Hat
  iintro ⟨HO, Hat, -, Hpay⟩
  iapply (wp_pure_intro c)
  iapply Hk
  isplitl [HO]; · iexists (insert (barS, 1) W); iexact HO
  isplitl [Hat]; · iexact Hat
  rw [Finset.sdiff_empty, duties_bar]
  iexact Hpay

end Cert.KernelIdeal.Ring
-- ==== Proof.KernelIdeal.Heads.lean ====
/-
The rules of Steps, and the loads and stores, at the head of a longer program: the branches of a guard join in the
rest `K` of the program.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (κ : GSem nD τ sig → ℕ) (c : Dev nD)

theorem wp_joined {β : Type} {K : Prog (TpuEff nD τ sig (Elt F) Λ₀ .tc) β} {Q : β → sProp 𝕄} {cond : BitVec 1} {A : cond = 1#1 → Prog (TpuEff nD τ sig (Elt F) Λ₀ .tc) PUnit} {R R' : sProp 𝕄}
    (hstep : ∀ Kt : PUnit → sProp 𝕄, iprop(R ∗ (R' -∗ Kt ⟨⟩))
      ⊢ wp frame (wpE (defs₀ (F := F)) 𝒱₀ (c : Thread nD τ) none) Set.univ (if h : cond = 1#1 then (do A h; pure ⟨⟩) else pure ⟨⟩) Kt) :
    R ⊢ iprop((R' -∗ wp frame (wpE (defs₀ (F := F)) 𝒱₀ (c : Thread nD τ) none) Set.univ K Q)
      -∗ wp frame (wpE (defs₀ (F := F)) 𝒱₀ (c : Thread nD τ) none) Set.univ (if h : cond = 1#1 then (do A h; K) else K) Q) := by
  refine BIClass.wand_intro ((hstep fun _ => wp frame (wpE (defs₀ (F := F)) 𝒱₀ (c : Thread nD τ) none) Set.univ K Q).trans ?_)
  by_cases h : cond = 1#1
  · rw [dif_pos h, dif_pos h, wp_bind, wp_bind]
    have hm : wp frame (wpE (defs₀ (F := F)) 𝒱₀ (c : Thread nD τ) none) Set.univ (pure ⟨⟩ : Prog (TpuEff nD τ sig (Elt F) Λ₀ .tc) PUnit)
        (fun _ => wp frame (wpE (defs₀ (F := F)) 𝒱₀ (c : Thread nD τ) none) Set.univ K Q)
        ⊢ wp frame (wpE (defs₀ (F := F)) 𝒱₀ (c : Thread nD τ) none) Set.univ K Q := by
      rw [wp_pure]; exact fupd_wp _ _ _ _ _
    apply Idealize.SL.Sem.wp_mono
    intro _
    exact hm
  · rw [dif_neg h, dif_neg h, wp_pure]; exact fupd_wp _ _ _ _ _

theorem at_signal {β : Type} {K : Prog (TpuEff nD τ sig (Elt F) Λ₀ .tc) β} {Q : β → sProp 𝕄} (p : Fin 8) {cond : BitVec 1} (hc : cond = 1#1 ↔ p ≠ c) {dv : cond = 1#1 → Dev nD} (hdv : ∀ h, dv h = p)
    (D : CellTallies nD τ sig ℕ) :
    iprop(fam.cellInvs ER (Rd P) κ ∗ ifp p c (sigRes c p) ∗ owesE c (dueBar c p + D))
      ⊢ iprop((owesE c D -∗ wp frame (wpE (defs₀ (F := F)) 𝒱₀ (c : Thread nD τ) none) Set.univ K Q)
        -∗ wp frame (wpE (defs₀ (F := F)) 𝒱₀ (c : Thread nD τ) none) Set.univ
          (if h : cond = 1#1 then (do semSignalWord (dv h) (SemArray.scalar (sig.barrier 0 rfl) : Sems sig S_).sem 1#32; K) else K) Q) :=
  wp_joined c (step_signal P κ c p hc hdv D)

theorem at_barrier {β : Type} {K : Prog (TpuEff nD τ sig (Elt F) Λ₀ .tc) β} {Q : β → sProp 𝕄} (D : CellTallies nD τ sig ℕ) (Lv : sProp 𝕄) [BI.Persistent Lv] (hD : Lv ⊢ MayWait (c : Thread nD τ) barS 1 D) :
    iprop(fam.cellInvs ER (Rd P) κ ∗ Lv ∗ cred (tallyAt (barC c) 1 7) ∗ atPos ER (barC c) 0 ∅ 0 ∗ owesE c D)
      ⊢ iprop(((owesE c D ∗ atPos ER (barC c) 1 ∅ 0 ∗ bigSep (Finset.univ.erase c) fun d => barPay c d)
          -∗ wp frame (wpE (defs₀ (F := F)) 𝒱₀ (c : Thread nD τ) none) Set.univ K Q)
        -∗ wp frame (wpE (defs₀ (F := F)) 𝒱₀ (c : Thread nD τ) none) Set.univ
          (do semWaitWord (SemArray.scalar (sig.barrier 0 rfl) : Sems sig S_).sem 7#32; K) Q) := by
  rw [wp_bind]
  exact BIClass.wand_intro (step_barrier P κ c D Lv hD fun _ => wp frame (wpE (defs₀ (F := F)) 𝒱₀ (c : Thread nD τ) none) Set.univ K Q)

theorem at_row {β : Type} {K : Prog (TpuEff nD τ sig (Elt F) Λ₀ .tc) β} {Q : β → sProp 𝕄} (p : Fin 8) {cond : BitVec 1} (hc : cond = 1#1 ↔ p ≠ c) {dv : cond = 1#1 → Dev nD} (hdv : ∀ h, dv h = p)
    {src : Memref sig .tc .vmem S64x512 .bf16} (hsrc : src = segM p) {dst : cond = 1#1 → Memref sig .tc .vmem S64x512 .bf16} (hdst : ∀ h, dst h = rowM c)
    {s1 : DmaSem sig} (h1 : s1 = sem 0 p) {s2 : cond = 1#1 → DmaSem sig} (h2 : ∀ h, s2 h = sem 1 c)
    {hsc : ∀ h, (dst h).view.ref.isScScratch = false} {e1 : src.view.WordExact} {e2 : ∀ h, (dst h).view.WordExact}
    {e3 : ∀ h, DmaTarget.Typed .vmem (.dma (s2 h)) (.remote (Dev.tc (dv h) : Thread nD τ) (dst h) (.dma s1) (hsc h))}
    (D : CellTallies nD τ sig ℕ) :
    iprop(fam.cellInvs ER (Rd P) κ ∗ ifp p c (rowRes P c p) ∗ owesE c (dueRow c p + D))
      ⊢ iprop(((owesE c D ∗ ifp p c (cred (tallyAt (semC 0 p c) 0 N))) -∗ wp frame (wpE (defs₀ (F := F)) 𝒱₀ (c : Thread nD τ) none) Set.univ K Q)
        -∗ wp frame (wpE (defs₀ (F := F)) 𝒱₀ (c : Thread nD τ) none) Set.univ
          (if h : cond = 1#1 then (do Prog.lift (.enqueueDma src (.remote (Dev.tc (dv h)) (dst h) (.dma s1) (hsc h)) (.dma (s2 h)) e1 (e2 h) (e3 h)); K)
            else K) Q) :=
  wp_joined c (step_row P κ c p hc hdv hsrc hdst h1 h2 D)

theorem at_out {β : Type} {K : Prog (TpuEff nD τ sig (Elt F) Λ₀ .tc) β} {Q : β → sProp 𝕄} (p : Fin 8) {cond : BitVec 1} (hc : cond = 1#1 ↔ p ≠ c) {dv : cond = 1#1 → Dev nD} (hdv : ∀ h, dv h = p)
    {dst : cond = 1#1 → Memref sig .tc .vmem S64x512 .bf16} (hdst : ∀ h, dst h = outM c)
    {s1 : DmaSem sig} (h1 : s1 = sem 2 p) {s2 : cond = 1#1 → DmaSem sig} (h2 : ∀ h, s2 h = sem 3 c)
    {hsc : ∀ h, (dst h).view.ref.isScScratch = false} {e1 : (Memref.whole cc0_scratch2 : Memref sig .tc .vmem S64x512 .bf16).view.WordExact}
    {e2 : ∀ h, (dst h).view.WordExact}
    {e3 : ∀ h, DmaTarget.Typed .vmem (.dma (s2 h)) (.remote (Dev.tc (dv h) : Thread nD τ) (dst h) (.dma s1) (hsc h))}
    (D : CellTallies nD τ sig ℕ) :
    iprop(fam.cellInvs ER (Rd P) κ ∗ ifp p c (outRes P c p) ∗ owesE c (dueOut c p + D))
      ⊢ iprop(((owesE c D ∗ ifp p c (cred (tallyAt (semC 2 p c) 0 N))) -∗ wp frame (wpE (defs₀ (F := F)) 𝒱₀ (c : Thread nD τ) none) Set.univ K Q)
        -∗ wp frame (wpE (defs₀ (F := F)) 𝒱₀ (c : Thread nD τ) none) Set.univ
          (if h : cond = 1#1 then (do Prog.lift (.enqueueDma (Memref.whole cc0_scratch2 : Memref sig .tc .vmem S64x512 .bf16)
            (.remote (Dev.tc (dv h)) (dst h) (.dma s1) (hsc h)) (.dma (s2 h)) e1 (e2 h) (e3 h)); K) else K) Q) :=
  wp_joined c (step_out P κ c p hc hdv hdst h1 h2 D)

theorem at_wait {β : Type} {K : Prog (TpuEff nD τ sig (Elt F) Λ₀ .tc) β} {Q : β → sProp 𝕄} (k : Fin 4) (p : Fin 8) (i : ℕ) {cond : BitVec 1} (hc : cond = 1#1 ↔ p ≠ c) {s : DmaSem sig} (hs : s = sem k p)
    {src dst : Memref sig .tc .vmem S64x512 .bf16} (hN : dst.view.dmaCredit = N) {e1 : src.view.WordExact} {e2 : dst.view.WordExact}
    (D : CellTallies nD τ sig ℕ) (Lv : sProp 𝕄) [BI.Persistent Lv] (hD : Lv ⊢ MayWait (c : Thread nD τ) (.dma (sem k p)) i D) :
    iprop(fam.cellInvs ER (Rd P) κ ∗ Lv ∗ ifp p c (cred (tallyAt (semC k p c) i N)) ∗ posBefore c k p ∗ owesE c D)
      ⊢ iprop(((owesE c D ∗ posAfter c k p ∗ ifp p c (copyPay P c k p)) -∗ wp frame (wpE (defs₀ (F := F)) 𝒱₀ (c : Thread nD τ) none) Set.univ K Q)
        -∗ wp frame (wpE (defs₀ (F := F)) 𝒱₀ (c : Thread nD τ) none) Set.univ
          (if h : cond = 1#1 then (do Prog.lift (.waitDma2 s src dst e1 e2); K) else K) Q) :=
  wp_joined c (step_wait P κ c k p i hc hs hN D Lv hD)

/-! ## Loads and stores -/

/-- A load at the head of a program, from elements held at any share. -/
theorem at_load {β : Type} {Q : β → sProp 𝕄} {s : Shape} {e : EltTy} {m : Memref sig .tc .vmem s e} {r : Rect s} {hl : m.view.LoadsAt r.toLoadRect}
    {K : (r.shape.Idx → Elt F e) → Prog (TpuEff nD τ sig (Elt F) Λ₀ .tc) β}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f)
      ⊢ iprop((((m.access r).loc (c : Thread nD τ) ↦[S]{q} f)
          -∗ wp frame (wpE (defs₀ (F := F)) 𝒱₀ (c : Thread nD τ) none) Set.univ (K ((m.access r).read (Elt F) f)) Q)
        -∗ wp frame (wpE (defs₀ (F := F)) 𝒱₀ (c : Thread nD τ) none) Set.univ (do let v ← Prog.lift (.load m r.toLoadRect hl); K v) Q) :=
  wp_load_rect 𝒱₀ (c : Thread nD τ) none Set.univ hS

/-- A store at the head of a program. -/
theorem at_store {β : Type} {Q : β → sProp 𝕄} {s : Shape} {e : EltTy} {m : Memref sig .tc .vmem s e} {r : Rect s} {w : r.shape.Idx → Elt F e} {hx : (m.access r).Stores Finset.univ}
    {hm : (Finset.univ : Finset r.shape.Idx) = Finset.univ ∨ ∀ a, r.stride a = 1} {K : Prog (TpuEff nD τ sig (Elt F) Λ₀ .tc) β}
    {S : Finset (Idx ((m.access r).loc (c : Thread nD τ)))} {f : Buf (Elt F) ((m.access r).loc (c : Thread nD τ))}
    (hS : (m.access r).setOn Finset.univ ⊆ S) :
    ((m.access r).loc (c : Thread nD τ) ↦[S]{fullShare} f)
      ⊢ iprop((((m.access r).loc (c : Thread nD τ) ↦[S]{fullShare} ((m.access r).write (Elt F) f w Finset.univ))
          -∗ wp frame (wpE (defs₀ (F := F)) 𝒱₀ (c : Thread nD τ) none) Set.univ K Q)
        -∗ wp frame (wpE (defs₀ (F := F)) 𝒱₀ (c : Thread nD τ) none) Set.univ (do Prog.lift (.store m r w Finset.univ hx hm); K) Q) :=
  wp_store (k := fun _ => K) 𝒱₀ (c : Thread nD τ) none Set.univ hS

/-- A device asks its own number. -/
theorem at_device {β : Type} {Q : β → sProp 𝕄} {K : Dev nD → Prog (TpuEff nD τ sig (Elt F) Λ₀ .tc) β} :
    wp frame (wpE (defs₀ (F := F)) 𝒱₀ (c : Thread nD τ) none) Set.univ (K c) Q
      ⊢ wp frame (wpE (defs₀ (F := F)) 𝒱₀ (c : Thread nD τ) none) Set.univ (do let d ← Prog.lift .deviceId; K d) Q := by
  rw [wp_bind]
  simp only [Prog.lift, wp_deviceId, wp_ret]
  exact fupd_intro (PROP := sProp 𝕄)

/-- A program that has ended with a value. -/
theorem at_end {β : Type} {Q : β → sProp 𝕄} {a : β} :
    Q a ⊢ wp frame (wpE (defs₀ (F := F)) 𝒱₀ (c : Thread nD τ) none) Set.univ (pure a : Prog (TpuEff nD τ sig (Elt F) Λ₀ .tc) β) Q := by
  rw [wp_pure]; exact fupd_intro (PROP := sProp 𝕄)

end Cert.KernelIdeal.Ring
-- ==== Proof.KernelIdeal.Dues.lean ====
/-
What a device owes at each point of the kernel, and that every wait it makes is at a level below all it still owes.
-/
module

public import proofs.«01_k».proof.Proof.KernelIdeal.Heads

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device owes, and the levels of its waits -/

/-- The arrivals in the result still owed from peer 0 on, and so on down; then the arrivals in the inboxes on top; then the barrier units. -/
abbrev D3 (c : Dev nD) : CellTallies nD τ sig ℕ := dueOut c 0 + (dueOut c 1 + (dueOut c 2 + (dueOut c 3 + (dueOut c 4 + (dueOut c 5 + (dueOut c 6 + (dueOut c 7 + 0)))))))
@[inherit_doc D3] abbrev D2 (c : Dev nD) : CellTallies nD τ sig ℕ := dueRow c 0 + (dueRow c 1 + (dueRow c 2 + (dueRow c 3 + (dueRow c 4 + (dueRow c 5 + (dueRow c 6 + (dueRow c 7 + D3 c)))))))
@[inherit_doc D3] abbrev D1 (c : Dev nD) : CellTallies nD τ sig ℕ := dueBar c 0 + (dueBar c 1 + (dueBar c 2 + (dueBar c 3 + (dueBar c 4 + (dueBar c 5 + (dueBar c 6 + (dueBar c 7 + D2 c)))))))

/-- Everything owed in `D` lies above level `i`. -/
def Above (i : ℕ) (D : CellTallies nD τ sig ℕ) : Prop := ∀ g k, 0 < D g k → k ∈ SiteBlocks.L 4 g ∧ i < k

theorem Above.add {i : ℕ} {D D' : CellTallies nD τ sig ℕ} (h : Above i D) (h' : Above i D') : Above i (D + D') :=
  fun g k hk => (Pipeline.add_pos_cases hk).elim (h g k) (h' g k)

theorem Above.zero (i : ℕ) : Above i (0 : CellTallies nD τ sig ℕ) := fun _ _ h => absurd h (Nat.lt_irrefl 0)

theorem Above.tallyAt {i j : ℕ} (g : GSem nD τ sig) (hg : g.1.2 = .tc) (hj : j < 4) (hij : i < j) (n : ℕ) : Above i (tallyAt g j n) := by
  intro g' k hk
  by_cases e : g' = g
  · subst e
    by_cases ek : k = j
    · subst ek
      exact ⟨by unfold SiteBlocks.L; rw [if_pos hg]; exact Finset.mem_range.mpr hj, hij⟩
    · exfalso
      unfold Idealize.ShloMosaic.tallyAt at hk
      rw [tallyOn_self, Finsupp.single_eq_of_ne (by first | exact ek | exact Ne.symm ek)] at hk
      exact absurd hk (Nat.lt_irrefl 0)
  · exfalso
    unfold Idealize.ShloMosaic.tallyAt at hk
    rw [tallyOn_ne (by first | exact e | exact Ne.symm e)] at hk
    exact absurd hk (Nat.lt_irrefl 0)

theorem above_dueOut (c : Dev nD) (p : Fin 8) {i : ℕ} (h : i < 3) : Above i (dueOut c p) := Above.tallyAt _ rfl (by decide) h _
theorem above_dueRow (c : Dev nD) (p : Fin 8) {i : ℕ} (h : i < 2) : Above i (dueRow c p) := Above.tallyAt _ rfl (by decide) h _

theorem above_D3 (c : Dev nD) {i : ℕ} (h : i < 3) : Above i (D3 c) :=
  (above_dueOut c 0 h).add <| (above_dueOut c 1 h).add <| (above_dueOut c 2 h).add <| (above_dueOut c 3 h).add <|
    (above_dueOut c 4 h).add <| (above_dueOut c 5 h).add <| (above_dueOut c 6 h).add <| (above_dueOut c 7 h).add <| Above.zero i

theorem above_D2 (c : Dev nD) {i : ℕ} (h : i < 2) : Above i (D2 c) :=
  (above_dueRow c 0 h).add <| (above_dueRow c 1 h).add <| (above_dueRow c 2 h).add <| (above_dueRow c 3 h).add <|
    (above_dueRow c 4 h).add <| (above_dueRow c 5 h).add <| (above_dueRow c 6 h).add <| (above_dueRow c 7 h).add <| above_D3 c (by omega)

/-- The levels every device's cells are at. -/
abbrev Lvs : sProp 𝕄 := levAts (SiteBlocks.L 4) SiteBlocks.lv

theorem mayWait (c : Dev nD) (s : SemLoc sig) {i : ℕ} (hi : i < 4) {D : CellTallies nD τ sig ℕ} (hD : Above i D) :
    (Lvs (F := F)) ⊢ MayWait (c : Thread nD τ) s i D := SiteBlocks.mayWait_of hi c s D hD

/-- Eight resources, one for each device. -/
abbrev all8 (R : Fin 8 → sProp 𝕄) : sProp 𝕄 := iprop(R 0 ∗ R 1 ∗ R 2 ∗ R 3 ∗ R 4 ∗ R 5 ∗ R 6 ∗ R 7)

theorem all8_eq (R : Fin 8 → sProp 𝕄) : bigSep Finset.univ R = all8 R :=
  bigSep_univ_eq_bigSepL [(0 : Fin 8), 1, 2, 3, 4, 5, 6, 7] (by decide) (by decide) R

end Cert.KernelIdeal.Ring
-- ==== Proof.KernelIdeal.Facts.lean ====
/-
What the program's scalars are at device `c`: the guard of each operation towards `p` says that `p` is not `c`; the
offsets are those of the device's own row, segment and cells; the views are the pieces of Places and the semaphores
those of Schedule.
-/
module

public import proofs.«01_k».proof.Proof.KernelIdeal.Schedule

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The views the program names -/

theorem row_of (s : Fin 8) {off : Fin 3 → ℕ} (h : off = ![s.val, 0, 0]) (i : ∀ a, off a + S1x64x512.size a ≤ S8x64x512.size a) :
    ((Memref.whole cc0_scratch3 : Memref sig .tc .vmem S8x64x512 .bf16).slice (Rect.unit (s := S8x64x512) off S1x64x512.size i) (fun _ => rfl)).squeeze S64x512
      squeezes_S1x64x512_S64x512 = rowM s := by subst h; rfl

theorem out_of (s : Fin 8) {off : Fin 3 → ℕ} (h : off = ![s.val / 4, 64 * (s.val % 4), 0]) (i : ∀ a, off a + S1x64x512.size a ≤ S2x256x512.size a) :
    ((Memref.whole cc0_stg3_0 : Memref sig .tc .vmem S2x256x512 .bf16).slice (Rect.unit (s := S2x256x512) off S1x64x512.size i) (fun _ => rfl)).squeeze S64x512
      squeezes_S1x64x512_S64x512 = outM s := by subst h; rfl

theorem seg_of (p : Fin 8) {off : Fin 2 → ℕ} (h : off = ![64 * p.val, 0]) (i : ∀ a, off a + S64x512.size a ≤ S512x512.size a) :
    (Memref.whole cc0_scratch1 : Memref sig .tc .vmem S512x512 .bf16).slice (Rect.unit (s := S512x512) off S64x512.size i) (fun _ => rfl) = segM p := by
  subst h; rfl

theorem sem_of0 (p : Fin 8) {off : Fin 1 → ℕ} (h : off = ![p.val]) (i : ∀ a, off a + S1.size a ≤ S8.size a) :
    ((cc0_scratch4.slice (Rect.unit (s := S8) off S1.size i)).squeeze S_ squeezes_S1_S_).sem = sem 0 p := by
  subst h; revert p; decide

theorem sem_of1 (p : Fin 8) {off : Fin 1 → ℕ} (h : off = ![p.val]) (i : ∀ a, off a + S1.size a ≤ S8.size a) :
    ((cc0_scratch5.slice (Rect.unit (s := S8) off S1.size i)).squeeze S_ squeezes_S1_S_).sem = sem 1 p := by
  subst h; revert p; decide

theorem sem_of2 (p : Fin 8) {off : Fin 1 → ℕ} (h : off = ![p.val]) (i : ∀ a, off a + S1.size a ≤ S8.size a) :
    ((cc0_scratch6.slice (Rect.unit (s := S8) off S1.size i)).squeeze S_ squeezes_S1_S_).sem = sem 2 p := by
  subst h; revert p; decide

theorem sem_of3 (p : Fin 8) {off : Fin 1 → ℕ} (h : off = ![p.val]) (i : ∀ a, off a + S1.size a ≤ S8.size a) :
    ((cc0_scratch7.slice (Rect.unit (s := S8) off S1.size i)).squeeze S_ squeezes_S1_S_).sem = sem 3 p := by
  subst h; revert p; decide

/-! ## The guards -/

/-- The device's own word, as the kernel computes it. -/
abbrev me (c : Dev nD) : BitVec 32 := Scalar.remsi (Scalar.divsi (Dev.word c) 1#32) 8#32

theorem guard0 (c : Dev nD) : Scalar.cmpi .ne (Scalar.extui (Scalar.cmpi .ne (me c) 0#32) : BitVec 32) 0#32 = 1#1 ↔ ((0 : Fin 8) ≠ c) := by
  revert c; decide +kernel
theorem guard1 (c : Dev nD) : Scalar.cmpi .ne (Scalar.extui (Scalar.cmpi .ne (me c) 1#32) : BitVec 32) 0#32 = 1#1 ↔ ((1 : Fin 8) ≠ c) := by
  revert c; decide +kernel
theorem guard2 (c : Dev nD) : Scalar.cmpi .ne (Scalar.extui (Scalar.cmpi .ne (me c) 2#32) : BitVec 32) 0#32 = 1#1 ↔ ((2 : Fin 8) ≠ c) := by
  revert c; decide +kernel
theorem guard3 (c : Dev nD) : Scalar.cmpi .ne (Scalar.extui (Scalar.cmpi .ne (me c) 3#32) : BitVec 32) 0#32 = 1#1 ↔ ((3 : Fin 8) ≠ c) := by
  revert c; decide +kernel
theorem guard4 (c : Dev nD) : Scalar.cmpi .ne (Scalar.extui (Scalar.cmpi .ne (me c) 4#32) : BitVec 32) 0#32 = 1#1 ↔ ((4 : Fin 8) ≠ c) := by
  revert c; decide +kernel
theorem guard5 (c : Dev nD) : Scalar.cmpi .ne (Scalar.extui (Scalar.cmpi .ne (me c) 5#32) : BitVec 32) 0#32 = 1#1 ↔ ((5 : Fin 8) ≠ c) := by
  revert c; decide +kernel
theorem guard6 (c : Dev nD) : Scalar.cmpi .ne (Scalar.extui (Scalar.cmpi .ne (me c) 6#32) : BitVec 32) 0#32 = 1#1 ↔ ((6 : Fin 8) ≠ c) := by
  revert c; decide +kernel
theorem guard7 (c : Dev nD) : Scalar.cmpi .ne (Scalar.extui (Scalar.cmpi .ne (me c) 7#32) : BitVec 32) 0#32 = 1#1 ↔ ((7 : Fin 8) ≠ c) := by
  revert c; decide +kernel
theorem cond1 (c : Dev nD) : k0_cond1 c = 1#1 ↔ ((0 : Fin 8) ≠ c) := by revert c; decide +kernel
theorem cond2 (c : Dev nD) : k0_cond2 c = 1#1 ↔ ((1 : Fin 8) ≠ c) := by revert c; decide +kernel
theorem cond3 (c : Dev nD) : k0_cond3 c = 1#1 ↔ ((2 : Fin 8) ≠ c) := by revert c; decide +kernel
theorem cond4 (c : Dev nD) : k0_cond4 c = 1#1 ↔ ((3 : Fin 8) ≠ c) := by revert c; decide +kernel
theorem cond5 (c : Dev nD) : k0_cond5 c = 1#1 ↔ ((4 : Fin 8) ≠ c) := by revert c; decide +kernel
theorem cond6 (c : Dev nD) : k0_cond6 c = 1#1 ↔ ((5 : Fin 8) ≠ c) := by revert c; decide +kernel
theorem cond7 (c : Dev nD) : k0_cond7 c = 1#1 ↔ ((6 : Fin 8) ≠ c) := by revert c; decide +kernel
theorem cond8 (c : Dev nD) : k0_cond8 c = 1#1 ↔ ((7 : Fin 8) ≠ c) := by revert c; decide +kernel
theorem cond9 (c : Dev nD) : k0_cond9 c = 1#1 ↔ ((0 : Fin 8) ≠ c) := by revert c; decide +kernel
theorem cond10 (c : Dev nD) : k0_cond10 c = 1#1 ↔ ((1 : Fin 8) ≠ c) := by revert c; decide +kernel
theorem cond11 (c : Dev nD) : k0_cond11 c = 1#1 ↔ ((2 : Fin 8) ≠ c) := by revert c; decide +kernel
theorem cond12 (c : Dev nD) : k0_cond12 c = 1#1 ↔ ((3 : Fin 8) ≠ c) := by revert c; decide +kernel
theorem cond13 (c : Dev nD) : k0_cond13 c = 1#1 ↔ ((4 : Fin 8) ≠ c) := by revert c; decide +kernel
theorem cond14 (c : Dev nD) : k0_cond14 c = 1#1 ↔ ((5 : Fin 8) ≠ c) := by revert c; decide +kernel
theorem cond15 (c : Dev nD) : k0_cond15 c = 1#1 ↔ ((6 : Fin 8) ≠ c) := by revert c; decide +kernel
theorem cond16 (c : Dev nD) : k0_cond16 c = 1#1 ↔ ((7 : Fin 8) ≠ c) := by revert c; decide +kernel
theorem cond25 (c : Dev nD) : k0_cond25 c = 1#1 ↔ ((0 : Fin 8) ≠ c) := by revert c; decide +kernel
theorem cond26 (c : Dev nD) : k0_cond26 c = 1#1 ↔ ((1 : Fin 8) ≠ c) := by revert c; decide +kernel
theorem cond27 (c : Dev nD) : k0_cond27 c = 1#1 ↔ ((2 : Fin 8) ≠ c) := by revert c; decide +kernel
theorem cond28 (c : Dev nD) : k0_cond28 c = 1#1 ↔ ((3 : Fin 8) ≠ c) := by revert c; decide +kernel
theorem cond29 (c : Dev nD) : k0_cond29 c = 1#1 ↔ ((4 : Fin 8) ≠ c) := by revert c; decide +kernel
theorem cond30 (c : Dev nD) : k0_cond30 c = 1#1 ↔ ((5 : Fin 8) ≠ c) := by revert c; decide +kernel
theorem cond31 (c : Dev nD) : k0_cond31 c = 1#1 ↔ ((6 : Fin 8) ≠ c) := by revert c; decide +kernel
theorem cond32 (c : Dev nD) : k0_cond32 c = 1#1 ↔ ((7 : Fin 8) ≠ c) := by revert c; decide +kernel

/-! ## The offsets -/

theorem off1 (c : Dev nD) : k0_off1 c = ![c.val] := by revert c; decide +kernel
theorem off2 (c : Dev nD) : k0_off2 c = ![c.val, 0, 0] := by revert c; decide +kernel
theorem off3 (c : Dev nD) : k0_off3 c = ![c.val] := by revert c; decide +kernel
theorem off4 (c : Dev nD) : k0_off4 c = ![c.val, 0, 0] := by revert c; decide +kernel
theorem off5 (c : Dev nD) : k0_off5 c = ![c.val] := by revert c; decide +kernel
theorem off6 (c : Dev nD) : k0_off6 c = ![c.val, 0, 0] := by revert c; decide +kernel
theorem off7 (c : Dev nD) : k0_off7 c = ![c.val] := by revert c; decide +kernel
theorem off8 (c : Dev nD) : k0_off8 c = ![c.val, 0, 0] := by revert c; decide +kernel
theorem off9 (c : Dev nD) : k0_off9 c = ![c.val] := by revert c; decide +kernel
theorem off10 (c : Dev nD) : k0_off10 c = ![c.val, 0, 0] := by revert c; decide +kernel
theorem off11 (c : Dev nD) : k0_off11 c = ![c.val] := by revert c; decide +kernel
theorem off12 (c : Dev nD) : k0_off12 c = ![c.val, 0, 0] := by revert c; decide +kernel
theorem off13 (c : Dev nD) : k0_off13 c = ![c.val] := by revert c; decide +kernel
theorem off14 (c : Dev nD) : k0_off14 c = ![c.val, 0, 0] := by revert c; decide +kernel
theorem off15 (c : Dev nD) : k0_off15 c = ![c.val] := by revert c; decide +kernel
theorem off16 (c : Dev nD) : k0_off16 c = ![c.val, 0, 0] := by revert c; decide +kernel
theorem off17 (c : Dev nD) : k0_off17 c = ![64 * c.val, 0] := by revert c; decide +kernel
theorem off18 (c : Dev nD) : k0_off18 c = ![c.val, 0, 0] := by revert c; decide +kernel
theorem off19 (c : Dev nD) : k0_off19 c = ![c.val] := by revert c; decide +kernel
theorem off20 (c : Dev nD) : k0_off20 c = ![c.val / 4, 64 * (c.val % 4), 0] := by revert c; decide +kernel
theorem off21 (c : Dev nD) : k0_off21 c = ![c.val] := by revert c; decide +kernel
theorem off22 (c : Dev nD) : k0_off22 c = ![c.val / 4, 64 * (c.val % 4), 0] := by revert c; decide +kernel
theorem off23 (c : Dev nD) : k0_off23 c = ![c.val] := by revert c; decide +kernel
theorem off24 (c : Dev nD) : k0_off24 c = ![c.val / 4, 64 * (c.val % 4), 0] := by revert c; decide +kernel
theorem off25 (c : Dev nD) : k0_off25 c = ![c.val] := by revert c; decide +kernel
theorem off26 (c : Dev nD) : k0_off26 c = ![c.val / 4, 64 * (c.val % 4), 0] := by revert c; decide +kernel
theorem off27 (c : Dev nD) : k0_off27 c = ![c.val] := by revert c; decide +kernel
theorem off28 (c : Dev nD) : k0_off28 c = ![c.val / 4, 64 * (c.val % 4), 0] := by revert c; decide +kernel
theorem off29 (c : Dev nD) : k0_off29 c = ![c.val] := by revert c; decide +kernel
theorem off30 (c : Dev nD) : k0_off30 c = ![c.val / 4, 64 * (c.val % 4), 0] := by revert c; decide +kernel
theorem off31 (c : Dev nD) : k0_off31 c = ![c.val] := by revert c; decide +kernel
theorem off32 (c : Dev nD) : k0_off32 c = ![c.val / 4, 64 * (c.val % 4), 0] := by revert c; decide +kernel
theorem off33 (c : Dev nD) : k0_off33 c = ![c.val] := by revert c; decide +kernel
theorem off34 (c : Dev nD) : k0_off34 c = ![c.val / 4, 64 * (c.val % 4), 0] := by revert c; decide +kernel
theorem off35 (c : Dev nD) : k0_off35 c = ![c.val / 4, 64 * (c.val % 4), 0] := by revert c; decide +kernel

end Cert.KernelIdeal.Ring
-- ==== Proof.KernelIdeal.Part1.lean ====
/-
The kernel's opening: every device signals every other at the barrier, handing over the row of its inbox and the rows
of its result that the other writes, and waits for the seven signals that hand the same to it.
-/
module

public import proofs.«01_k».proof.Proof.KernelIdeal.Dues
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

/-- The signals to all peers, then the wait for theirs. -/
theorem part1_spec (Q : (Σ' (d0 : Dev nD), BitVec 32) → sProp 𝕄) :
    iprop(iprop(fam.cellInvs ER (Rd P) κ ∗ Lvs ∗ (all8 fun p => ifp p c (sigRes c p)) ∗ owesE c (D1 c) ∗ cred (tallyAt (barC c) 1 7) ∗ atPos ER (barC c) 0 ∅ 0)
        ∗ (iprop(owesE c (D2 c) ∗ atPos ER (barC c) 1 ∅ 0 ∗ bigSep (Finset.univ.erase c) fun d => barPay c d) -∗ Q ⟨c, me c⟩))
      ⊢ wp frame (wpE (defs₀ (F := F)) 𝒱₀ (c : Thread nD τ) none) Set.univ (k0_part1_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7) Q := by
  unfold k0_part1_skel
  iintro ⟨⟨#HI, #HL, ⟨S0, S1, S2, S3, S4, S5, S6, S7⟩, HO, Hc, Hat⟩, Hk⟩
  iapply (at_device c)
  iapply (at_signal P κ c 0 (cond1 c) (fun _ => rfl) _) $$ [S0 HO]
  · isplitr; · iexact HI
    isplitl [S0]; · iexact S0
    iexact HO
  iintro HO
  iapply (at_signal P κ c 1 (cond2 c) (fun _ => rfl) _) $$ [S1 HO]
  · isplitr; · iexact HI
    isplitl [S1]; · iexact S1
    iexact HO
  iintro HO
  iapply (at_signal P κ c 2 (cond3 c) (fun _ => rfl) _) $$ [S2 HO]
  · isplitr; · iexact HI
    isplitl [S2]; · iexact S2
    iexact HO
  iintro HO
  iapply (at_signal P κ c 3 (cond4 c) (fun _ => rfl) _) $$ [S3 HO]
  · isplitr; · iexact HI
    isplitl [S3]; · iexact S3
    iexact HO
  iintro HO
  iapply (at_signal P κ c 4 (cond5 c) (fun _ => rfl) _) $$ [S4 HO]
  · isplitr; · iexact HI
    isplitl [S4]; · iexact S4
    iexact HO
  iintro HO
  iapply (at_signal P κ c 5 (cond6 c) (fun _ => rfl) _) $$ [S5 HO]
  · isplitr; · iexact HI
    isplitl [S5]; · iexact S5
    iexact HO
  iintro HO
  iapply (at_signal P κ c 6 (cond7 c) (fun _ => rfl) _) $$ [S6 HO]
  · isplitr; · iexact HI
    isplitl [S6]; · iexact S6
    iexact HO
  iintro HO
  iapply (at_signal P κ c 7 (cond8 c) (fun _ => rfl) _) $$ [S7 HO]
  · isplitr; · iexact HI
    isplitl [S7]; · iexact S7
    iexact HO
  iintro HO
  iapply (at_barrier P κ c (D2 c) Lvs (mayWait c barS (by decide) (above_D2 c (by decide)))) $$ [Hc Hat HO]
  · isplitr; · iexact HI
    isplitr; · iexact HL
    isplitl [Hc]; · iexact Hc
    isplitl [Hat]; · iexact Hat
    iexact HO
  iintro ⟨HO, Hat, Hp⟩
  iapply (at_end c)
  iapply Hk
  isplitl [HO]; · iexact HO
  isplitl [Hat]; · iexact Hat
  iexact Hp

end Cert.KernelIdeal.Ring
-- ==== Proof.KernelIdeal.Memory.lean ====
/-
What the kernel's loads and stores do to the contents: the four column blocks of a batch's heads stored one after the
other read back as the heads side by side; a batch's product stored in its rows of the partial product is the partial
product there; the device's own segment stored in its own row of the inbox, and its own sum stored in its own rows of
the result, are what the copies bring elsewhere.
-/
module

public import proofs.«01_k».proof.Proof.KernelIdeal.Schedule
public import Idealize.ShloMosaic.Lib.Pipeline.Value

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A rectangle of a whole buffer -/

theorem read_rect (b : Ref sig .tc) {sz off : Fin b.ty.shape.rank → ℕ} (h : ∀ a, off a + sz a ≤ b.ty.shape.size a) (f : b.ty.Contents (Elt F)) :
    ((Memref.whole b).access (Rect.unit off sz h)).read (Elt F) f = fun x => f ((Rect.unit off sz h).emb x) := rfl

theorem write_rect_mem (b : Ref sig .tc) {sz off : Fin b.ty.shape.rank → ℕ} (h : ∀ a, off a + sz a ≤ b.ty.shape.size a) (f : b.ty.Contents (Elt F))
    (w : (Rect.unit off sz h).shape.Idx → Elt F b.ty.elt) (x : (Rect.unit off sz h).shape.Idx) :
    ((Memref.whole b).access (Rect.unit off sz h)).write (Elt F) f w Finset.univ ((Rect.unit off sz h).emb x) = w x :=
  View.write_emb_of_mem (v := (Memref.whole b).access (Rect.unit off sz h)) _ _ (Finset.mem_univ x)

theorem write_rect_off (b : Ref sig .tc) {sz off : Fin b.ty.shape.rank → ℕ} (h : ∀ a, off a + sz a ≤ b.ty.shape.size a) (f : b.ty.Contents (Elt F))
    (w : (Rect.unit off sz h).shape.Idx → Elt F b.ty.elt) {i : b.ty.shape.Idx} (hi : i ∉ (Rect.unit off sz h).set) :
    ((Memref.whole b).access (Rect.unit off sz h)).write (Elt F) f w Finset.univ i = f i :=
  View.write_of_not_mem (v := (Memref.whole b).access (Rect.unit off sz h)) _ _ _ (by
    rw [View.setOn_univ, set_unit_whole]; exact hi)

/-! ## The heads side by side -/

/-- The first `k` heads of `H` lie in the rows from `r` on. -/
def Filled (r : ℕ) (hr : r + 256 ≤ 512) (H : Fin 4 → Vec F S256x64 .bf16) (k : ℕ) (f : Vec F S512x256 .bf16) : Prop :=
  ∀ (i : Fin 256) (j : Fin 256), j.val < 64 * k → f (ix2 ⟨r + i.val, by have := i.isLt; omega⟩ j) = ctx H (ix2 i j)

theorem Filled.zero (r : ℕ) (hr : r + 256 ≤ 512) (H : Fin 4 → Vec F S256x64 .bf16) (f : Vec F S512x256 .bf16) : Filled r hr H 0 f :=
  fun _ _ h => absurd h (by omega)

theorem Filled.store {r : ℕ} {hr : r + 256 ≤ 512} {H : Fin 4 → Vec F S256x64 .bf16} {k : Fin 4} {f : Vec F S512x256 .bf16} (hf : Filled r hr H k.val f)
    {off : Fin 2 → ℕ} (hoff : off = ![r, 64 * k.val]) (h : ∀ a, off a + S256x64.size a ≤ S512x256.size a) (w : Vec F S256x64 .bf16) (hw : w = H k) :
    Filled r hr H (k.val + 1) (((Memref.whole cc0_scratch0).access (Rect.unit (s := S512x256) off S256x64.size h)).write (Elt F) f w Finset.univ) := by
  subst hoff hw
  intro i j hj
  have hk := k.isLt
  by_cases hlt : j.val < 64 * k.val
  · rw [write_rect_off cc0_scratch0 h f (H k)]
    · exact hf i j hlt
    · rw [Rect.mem_set_unit]; intro hm; have := (hm 1).1
      have : 64 * k.val ≤ j.val := this
      omega
  · have e : (ix2 ⟨r + i.val, by have := i.isLt; omega⟩ j : S512x256.Idx)
        = (Rect.unit (s := S512x256) ![r, 64 * k.val] S256x64.size h).emb (ix2 i ⟨j.val - 64 * k.val, by omega⟩ : S256x64.Idx) := by
      funext a
      match a with
      | 0 => refine Fin.ext ?_; show r + i.val = r + 1 * i.val; omega
      | 1 => refine Fin.ext ?_; show j.val = 64 * k.val + 1 * (j.val - 64 * k.val); omega
    rw [e, write_rect_mem cc0_scratch0 h f (H k)]
    unfold ctx
    have e1 : (⟨j.val / 64, by have := j.isLt; omega⟩ : Fin 4) = k := Fin.ext (by show j.val / 64 = k.val; omega)
    have e2 : (⟨j.val % 64, Nat.mod_lt _ (by decide)⟩ : Fin 64) = ⟨j.val - 64 * k.val, by omega⟩ := Fin.ext (by show j.val % 64 = j.val - 64 * k.val; omega)
    show H k (ix2 i ⟨j.val - 64 * k.val, _⟩) = H ⟨j.val / 64, _⟩ (ix2 i ⟨j.val % 64, _⟩)
    rw [e1, e2]

theorem Filled.read {r : ℕ} {hr : r + 256 ≤ 512} {H : Fin 4 → Vec F S256x64 .bf16} {f : Vec F S512x256 .bf16} (hf : Filled r hr H 4 f)
    {off : Fin 2 → ℕ} (hoff : off = ![r, 0]) (h : ∀ a, off a + S256x256.size a ≤ S512x256.size a) :
    ((Memref.whole cc0_scratch0).access (Rect.unit (s := S512x256) off S256x256.size h)).read (Elt F) f = ctx H := by
  subst hoff
  rw [read_rect cc0_scratch0]
  funext x
  refine Eq.trans ?_ ((hf (x 0) (x 1) (x 1).isLt).trans (congrArg (ctx H) (eq_ix2 x).symm))
  refine congrArg f ?_
  funext a
  match a with
  | 0 => refine Fin.ext ?_; show r + 1 * (x 0).val = r + (x 0).val; omega
  | 1 => refine Fin.ext ?_; show 0 + 1 * (x 1).val = (x 1).val; omega

/-! ## The partial product, batch by batch -/

/-- Rows `256 b …` of the partial product. -/
def halfS (b : Fin 2) : Finset S512x512.Idx := Finset.univ.filter fun x => (x 0).val / 256 = b.val

theorem mem_halfS {b : Fin 2} {x : S512x512.Idx} : x ∈ halfS b ↔ (x 0).val / 256 = b.val := by
  unfold halfS; rw [Finset.mem_filter]; exact ⟨fun h => h.2, fun h => ⟨Finset.mem_univ _, h⟩⟩

theorem half_inb (b : Fin 2) : ∀ a, (![256 * b.val, 0] : Fin 2 → ℕ) a + S256x512.size a ≤ S512x512.size a := by revert b; decide

theorem halfS_eq (b : Fin 2) : halfS b = (Rect.unit (s := S512x512) ![256 * b.val, 0] S256x512.size (half_inb b)).set := by
  ext x
  rw [mem_halfS, Rect.mem_set_unit]
  have h1 : (x 1).val < 512 := (x 1).isLt
  constructor
  · intro h a
    match a with
    | 0 => show 256 * b.val ≤ (x 0).val ∧ (x 0).val < 256 * b.val + 256; omega
    | 1 => show 0 ≤ (x 1).val ∧ (x 1).val < 0 + 512; omega
  · intro h; have := h 0; simp at this; omega

theorem half_access (b : Fin 2) {off : Fin 2 → ℕ} (hoff : off = ![256 * b.val, 0]) (h : ∀ a, off a + S256x512.size a ≤ S512x512.size a) :
    ((Memref.whole cc0_scratch1).access (Rect.unit (s := S512x512) off S256x512.size h)).set = halfS b := by
  subst hoff; rw [halfS_eq]; exact set_unit_whole cc0_scratch1 h

theorem halves_disjoint : Disjoint (halfS 0) (halfS 1) :=
  Finset.disjoint_left.mpr fun x h0 h1 => by
    have a := mem_halfS.mp h0; have b := mem_halfS.mp h1
    rw [a] at b; exact absurd b (by decide)

theorem halves_univ : halfS 0 ∪ halfS 1 = Finset.univ := by
  ext x; simp only [Finset.mem_union, Finset.mem_univ, iff_true, mem_halfS]
  have : (x 0).val < 512 := (x 0).isLt
  show (x 0).val / 256 = 0 ∨ (x 0).val / 256 = 1; omega

/-- The segments of a half. -/
def segsOf (b : Fin 2) : Finset (Fin 8) := Finset.univ.filter fun p => p.val / 4 = b.val

theorem halfS_biUnion (b : Fin 2) : halfS b = (segsOf b).biUnion segS := by
  ext x
  have h0 : (x 0).val < 512 := (x 0).isLt
  rw [mem_halfS, Finset.mem_biUnion]
  constructor
  · intro h
    exact ⟨⟨(x 0).val / 64, by omega⟩, Finset.mem_filter.mpr ⟨Finset.mem_univ _, by show (x 0).val / 64 / 4 = b.val; omega⟩, mem_segS.mpr rfl⟩
  · rintro ⟨p, hp, hx⟩
    have := (Finset.mem_filter.mp hp).2
    have := mem_segS.mp hx
    omega

section
variable (P : Dev nD → Vec F S512x512 .bf16) (X : Vec F S4x256x512 .bf16) (W : Vec F S512x256 .bf16) (O : Vec F S256x512 .bf16)

theorem half_emb (r : ℕ) (h : ∀ a, (![r, 0] : Fin 2 → ℕ) a + S256x512.size a ≤ S512x512.size a) (y : Fin 256) (z : Fin 512) (hy : r + y.val < 512) :
    (Rect.unit (s := S512x512) ![r, 0] S256x512.size h).emb (ix2 y z : S256x512.Idx) = (ix2 ⟨r + y.val, hy⟩ z : S512x512.Idx) := by
  funext a
  match a with
  | 0 => refine Fin.ext ?_; show r + 1 * y.val = r + y.val; omega
  | 1 => refine Fin.ext ?_; show 0 + 1 * z.val = z.val; omega

theorem part_half0 {off : Fin 2 → ℕ} (hoff : off = ![0, 0]) (h : ∀ a, off a + S256x512.size a ≤ S512x512.size a) (f : Vec F S512x512 .bf16) :
    ∀ i ∈ halfS 0, ((Memref.whole cc0_scratch1).access (Rect.unit (s := S512x512) off S256x512.size h)).write (Elt F) f
      (k0_pay9 (ctx (head0 X W)) (wo O)) Finset.univ i = part X W O i := by
  subst hoff
  intro i hi
  have hi0 : (i 0).val < 256 := by have := mem_halfS.mp hi; have : (i 0).val / 256 = 0 := this; omega
  have e : i = (Rect.unit (s := S512x512) ![0, 0] S256x512.size h).emb (ix2 ⟨(i 0).val, hi0⟩ (i 1) : S256x512.Idx) := by
    funext a
    match a with
    | 0 => refine Fin.ext ?_; show (i 0).val = 0 + 1 * (i 0).val; omega
    | 1 => refine Fin.ext ?_; show (i 1).val = 0 + 1 * (i 1).val; omega
  unfold part
  rw [dif_pos hi0]
  conv_lhs => rw [e]
  rw [write_rect_mem cc0_scratch1 h f (k0_pay9 (ctx (head0 X W)) (wo O))]

theorem part_half1 {off : Fin 2 → ℕ} (hoff : off = ![256, 0]) (h : ∀ a, off a + S256x512.size a ≤ S512x512.size a) (f : Vec F S512x512 .bf16) :
    ∀ i ∈ halfS 1, ((Memref.whole cc0_scratch1).access (Rect.unit (s := S512x512) off S256x512.size h)).write (Elt F) f
      (k0_pay20 (ctx (head1 X W)) (wo O)) Finset.univ i = part X W O i := by
  subst hoff
  intro i hi
  have hlt : (i 0).val < 512 := (i 0).isLt
  have hi0 : 256 ≤ (i 0).val := by have := mem_halfS.mp hi; have : (i 0).val / 256 = 1 := this; omega
  have e : i = (Rect.unit (s := S512x512) ![256, 0] S256x512.size h).emb (ix2 ⟨(i 0).val - 256, by omega⟩ (i 1) : S256x512.Idx) := by
    refine Eq.trans ?_ (half_emb 256 h ⟨(i 0).val - 256, by omega⟩ (i 1) (by show 256 + ((i 0).val - 256) < 512; omega)).symm
    refine (eq_ix2 i).trans (congrArg (fun z => ix2 z (i 1)) (Fin.ext ?_))
    show (i 0).val = 256 + ((i 0).val - 256)
    omega
  unfold part
  rw [dif_neg (by omega)]
  conv_lhs => rw [e]
  rw [write_rect_mem cc0_scratch1 h f (k0_pay20 (ctx (head1 X W)) (wo O))]

/-! ## The device's own row and its own rows of the result -/

theorem seg_access (c : Fin 8) {off : Fin 2 → ℕ} (hoff : off = ![64 * c.val, 0]) (h : ∀ a, off a + S64x512.size a ≤ S512x512.size a) :
    ((Memref.whole cc0_scratch1).access (Rect.unit (s := S512x512) off S64x512.size h)).set = segS c := by
  subst hoff; rw [segS_eq]; exact set_unit_whole cc0_scratch1 h

theorem row_access (c : Fin 8) {off : Fin 3 → ℕ} (hoff : off = ![c.val, 0, 0]) (h : ∀ a, off a + S1x64x512.size a ≤ S8x64x512.size a) :
    ((Memref.whole cc0_scratch3).access (Rect.unit (s := S8x64x512) off S1x64x512.size h)).set = rowS c := by
  subst hoff; rw [rowS_eq]; exact set_unit_whole cc0_scratch3 h

theorem out_access (c : Fin 8) {off : Fin 3 → ℕ} (hoff : off = ![c.val / 4, 64 * (c.val % 4), 0]) (h : ∀ a, off a + S1x64x512.size a ≤ S2x256x512.size a) :
    ((Memref.whole cc0_stg3_0).access (Rect.unit (s := S2x256x512) off S1x64x512.size h)).set = outS c := by
  subst hoff; rw [outS_eq]; exact set_unit_whole cc0_stg3_0 h

theorem cast_row (w : Vec F S64x512 .bf16) (y : Fin 64) (z : Fin 512) (h : S64x512.ShapeCasts S1x64x512) :
    shapeCast S1x64x512 w h (ix3 (0 : Fin 1) y z) = w (ix2 y z) :=
  (shapeCast_addUnit_apply ![64, 512] w h (ix3 (0 : Fin 1) y z)).trans (congrArg w (by
    funext a; match a with | 0 => rfl | 1 => rfl))

theorem own_row (c : Dev nD) {off : Fin 3 → ℕ} (hoff : off = ![c.val, 0, 0]) (h : ∀ a, off a + S1x64x512.size a ≤ S8x64x512.size a)
    {off' : Fin 2 → ℕ} (hoff' : off' = ![64 * c.val, 0]) (h' : ∀ a, off' a + S64x512.size a ≤ S512x512.size a) (f : Vec F S8x64x512 .bf16) :
    ∀ i ∈ rowS c, ((Memref.whole cc0_scratch3).access (Rect.unit (s := S8x64x512) off S1x64x512.size h)).write (Elt F) f
      (k0_pay21 (((Memref.whole cc0_scratch1).access (Rect.unit (s := S512x512) off' S64x512.size h')).read (Elt F) (P c))) Finset.univ i = inbox P c i := by
  subst hoff hoff'
  intro i hi
  have hi0 : i 0 = c := Fin.ext (mem_rowS.mp hi)
  have e : i = (Rect.unit (s := S8x64x512) ![c.val, 0, 0] S1x64x512.size h).emb (ix3 (0 : Fin 1) (i 1) (i 2) : S1x64x512.Idx) := by
    funext a
    match a with
    | 0 => refine Fin.ext ?_; show (i 0).val = c.val + 1 * 0; rw [hi0]; omega
    | 1 => refine Fin.ext ?_; show (i 1).val = 0 + 1 * (i 1).val; omega
    | 2 => refine Fin.ext ?_; show (i 2).val = 0 + 1 * (i 2).val; omega
  conv_lhs => rw [e]
  rw [write_rect_mem cc0_scratch3 h f]
  unfold k0_pay21
  dsimp only
  rw [shapeCast_self]
  refine (cast_row _ (i 1) (i 2) _).trans ?_
  rw [read_rect cc0_scratch1]
  unfold inbox
  rw [hi0]
  refine congrArg (P c) ?_
  funext a
  match a with
  | 0 => refine Fin.ext ?_; show 64 * c.val + 1 * (i 1).val = 64 * c.val + (i 1).val; omega
  | 1 => refine Fin.ext ?_; show 0 + 1 * (i 2).val = (i 2).val; omega

theorem own_out (c : Dev nD) {off : Fin 3 → ℕ} (hoff : off = ![c.val / 4, 64 * (c.val % 4), 0]) (h : ∀ a, off a + S1x64x512.size a ≤ S2x256x512.size a)
    (f : Vec F S2x256x512 .bf16) :
    ∀ i ∈ outS c, ((Memref.whole cc0_stg3_0).access (Rect.unit (s := S2x256x512) off S1x64x512.size h)).write (Elt F) f
      (k0_pay23 (red P c)) Finset.univ i = out P i := by
  subst hoff
  intro i hi
  have hm := mem_outS.mp hi
  have h0 : (i 0).val < 2 := (i 0).isLt
  have h1 : (i 1).val < 256 := (i 1).isLt
  have e : i = (Rect.unit (s := S2x256x512) ![c.val / 4, 64 * (c.val % 4), 0] S1x64x512.size h).emb
      (ix3 (0 : Fin 1) (⟨(i 1).val % 64, Nat.mod_lt _ (by decide)⟩ : Fin 64) (i 2) : S1x64x512.Idx) := by
    funext a
    match a with
    | 0 => refine Fin.ext ?_; show (i 0).val = c.val / 4 + 1 * 0; omega
    | 1 => refine Fin.ext ?_; show (i 1).val = 64 * (c.val % 4) + 1 * ((i 1).val % 64); omega
    | 2 => refine Fin.ext ?_; show (i 2).val = 0 + 1 * (i 2).val; omega
  conv_lhs => rw [e]
  rw [write_rect_mem cc0_stg3_0 h f]
  unfold k0_pay23
  dsimp only
  refine (cast_row _ _ (i 2) _).trans ?_
  unfold out
  have e1 : (⟨4 * (i 0).val + (i 1).val / 64, by show _ < 8; omega⟩ : Dev nD) = c := Fin.ext hm
  rw [e1]

end

end Cert.KernelIdeal.Ring
-- ==== Proof.KernelIdeal.Pieces.lean ====
/-
Cutting the buffers into the pieces that travel and putting them together again: a buffer is its eight pieces, a
device keeps the piece that bears its own number (`own`) and the others go (`ifp`).
-/
module

public import proofs.«01_k».proof.Proof.KernelIdeal.Dues
public import proofs.«01_k».proof.Proof.KernelIdeal.Memory

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (c : Dev nD)

/-- `R`, if `p` is the device `c` itself. -/
def own (p : Fin 8) (c : Dev nD) (R : sProp 𝕄) : sProp 𝕄 := if p = c then R else iprop(emp)

theorem ifp_own (p : Fin 8) (R : sProp 𝕄) : iprop(ifp p c R ∗ own p c R) = R := by
  unfold ifp own
  by_cases h : p = c
  · rw [if_pos h, if_pos h]; exact equiv_iff.mp emp_sep
  · rw [if_neg h, if_neg h]; exact equiv_iff.mp sep_emp

theorem ifp_sep (p : Fin 8) (R R' : sProp 𝕄) : ifp p c iprop(R ∗ R') = iprop(ifp p c R ∗ ifp p c R') := by
  unfold ifp
  by_cases h : p = c
  · rw [if_pos h, if_pos h, if_pos h]; exact (equiv_iff.mp emp_sep).symm
  · rw [if_neg h, if_neg h, if_neg h]

theorem ifp_mono (p : Fin 8) {R R' : sProp 𝕄} (h : R ⊢ R') : ifp p c R ⊢ ifp p c R' := by
  unfold ifp; split
  · exact BI.Entails.refl _
  · exact h

theorem own8 (R : Fin 8 → sProp 𝕄) : (all8 fun p => own p c (R p)) = R c := by
  rw [← all8_eq]
  have e := bigSep_filter (Finset.univ : Finset (Fin 8)) (· = c) R
  rw [Finset.filter_eq', if_pos (Finset.mem_univ _)] at e
  exact e.symm.trans bigSep_singleton

theorem ifp8_erase (R : Fin 8 → sProp 𝕄) : (all8 fun p => ifp p c (R p)) = bigSep (Finset.univ.erase c) R := by
  rw [← all8_eq]
  have e : (Finset.univ.erase c : Finset (Fin 8)) = Finset.univ.filter fun p => ¬ p = c := by ext p; simp
  rw [e, bigSep_filter]
  refine bigSep_congr fun p _ => ?_
  unfold ifp
  by_cases h : p = c
  · rw [if_pos h, if_neg (not_not.mpr h)]; rfl
  · rw [if_neg h, if_pos h]

theorem ifp8 (R : Fin 8 → sProp 𝕄) : iprop(R c ∗ all8 fun p => ifp p c (R p)) = all8 R := by
  rw [ifp8_erase, ← all8_eq, bigSep_erase (Finset.mem_univ c)]; rfl

/-! ## The partial product -/

/-- One half of the partial product's buffer. -/
abbrev half (b : Fin 2) (f : Vec F S512x512 .bf16) : sProp 𝕄 := (Memref.whole cc0_scratch1).view.loc (c : Thread nD τ) ↦[halfS b]{fullShare} f

/-- A set of elements that is the disjoint union of a family is held piece by piece. -/
theorem cut {ℓ : Loc nD τ sig} {q : PosShare TreeShare} {f : Buf (Elt F) ℓ} {I : Finset (Idx ℓ)} {T : Type} (S : Finset T) (K : T → Finset (Idx ℓ))
    (hI : ∀ i, i ∈ I ↔ ∃ t ∈ S, i ∈ K t) (hd : ∀ t t', t ≠ t' → Disjoint (K t) (K t')) :
    (ℓ ↦[I]{q} f : sProp 𝕄) = bigSep S fun t => ℓ ↦[K t]{q} f := by
  have e : I = S.biUnion K := by ext i; rw [hI, Finset.mem_biUnion]
  rw [e]
  exact pointsTo_biUnion S K (fun t _ t' _ h => hd t t' h)

theorem halves (f : Vec F S512x512 .bf16) :
    ((Memref.whole cc0_scratch1).view.loc (c : Thread nD τ) ↦[Finset.univ]{fullShare} f : sProp 𝕄) = iprop(half c 0 f ∗ half c 1 f) :=
  (cut (ℓ := (Memref.whole cc0_scratch1).view.loc (c : Thread nD τ)) (Finset.univ : Finset (Fin 2)) halfS
    (fun i => ⟨fun _ => (Finset.mem_union.mp (halves_univ ▸ Finset.mem_univ (α := S512x512.Idx) i)).elim (fun h => ⟨0, Finset.mem_univ _, h⟩) (fun h => ⟨1, Finset.mem_univ _, h⟩),
      fun _ => Finset.mem_univ _⟩)
    (fun t t' h => Finset.disjoint_left.mpr fun x hx hx' => h (Fin.ext ((mem_halfS.mp hx).symm.trans (mem_halfS.mp hx'))))).trans
  (bigSep_univ_eq_bigSepL [(0 : Fin 2), 1] (by decide) (by decide) _)

theorem half_segs (b : Fin 2) (f : Vec F S512x512 .bf16) : half c b f = bigSep (segsOf b) fun p => seg c p f :=
  cut (ℓ := (Memref.whole cc0_scratch1).view.loc (c : Thread nD τ)) (segsOf b) segS
    (fun i => by rw [halfS_biUnion]; exact Finset.mem_biUnion) (fun _ _ h => segS_disjoint h)

theorem half0_segs (f : Vec F S512x512 .bf16) : half c 0 f = iprop(seg c 0 f ∗ seg c 1 f ∗ seg c 2 f ∗ seg c 3 f) :=
  (half_segs c 0 f).trans (bigSep_eq_bigSepL_of_eq [(0 : Fin 8), 1, 2, 3] (by decide) (by decide) _)

theorem half1_segs (f : Vec F S512x512 .bf16) : half c 1 f = iprop(seg c 4 f ∗ seg c 5 f ∗ seg c 6 f ∗ seg c 7 f) :=
  (half_segs c 1 f).trans (bigSep_eq_bigSepL_of_eq [(4 : Fin 8), 5, 6, 7] (by decide) (by decide) _)

theorem segs_whole (f : Vec F S512x512 .bf16) :
    ((Memref.whole cc0_scratch1).view.loc (c : Thread nD τ) ↦[Finset.univ]{fullShare} f : sProp 𝕄) = all8 fun p => seg c p f :=
  (cut (ℓ := (Memref.whole cc0_scratch1).view.loc (c : Thread nD τ)) Finset.univ segS
    (fun i => ⟨fun _ => Finset.mem_biUnion.mp (segS_univ ▸ Finset.mem_univ (α := S512x512.Idx) i), fun _ => Finset.mem_univ _⟩)
    (fun _ _ h => segS_disjoint h)).trans (all8_eq _)

/-! ## The inbox, the result, the sum -/

theorem rows_whole (f : Vec F S8x64x512 .bf16) :
    ((Memref.whole cc0_scratch3).view.loc (c : Thread nD τ) ↦[Finset.univ]{fullShare} f : sProp 𝕄) = all8 fun s => row c s f :=
  (cut (ℓ := (Memref.whole cc0_scratch3).view.loc (c : Thread nD τ)) Finset.univ rowS
    (fun i => ⟨fun _ => Finset.mem_biUnion.mp (rowS_univ ▸ Finset.mem_univ (α := S8x64x512.Idx) i), fun _ => Finset.mem_univ _⟩)
    (fun _ _ h => rowS_disjoint h)).trans (all8_eq _)

theorem outs_whole (f : Vec F S2x256x512 .bf16) :
    ((Memref.whole cc0_stg3_0).view.loc (c : Thread nD τ) ↦[Finset.univ]{fullShare} f : sProp 𝕄) = all8 fun s => outs c s f :=
  (cut (ℓ := (Memref.whole cc0_stg3_0).view.loc (c : Thread nD τ)) Finset.univ outS
    (fun i => ⟨fun _ => Finset.mem_biUnion.mp (outS_univ ▸ Finset.mem_univ (α := S2x256x512.Idx) i), fun _ => Finset.mem_univ _⟩)
    (fun _ _ h => outS_disjoint h)).trans (all8_eq _)

theorem red_whole (f : Vec F S64x512 .bf16) :
    ((Memref.whole cc0_scratch2).view.loc (c : Thread nD τ) ↦[(Memref.whole cc0_scratch2).view.set]{fullShare} f : sProp 𝕄) = all8 fun p => redAt c p f :=
  (Transfers.pointsTo_deal Finset.univ ⟨0, Finset.mem_univ _⟩ fullShare).trans (all8_eq _)

theorem half_some (b : Fin 2) (f : Vec F S512x512 .bf16) : half c b f ⊢ iprop(∃ f, half (F := F) c b f) := by
  iintro H; iexists f; iexact H

/-! ## Loads and stores of a buffer held whole -/

theorem at_read {β : Type} {Q : β → sProp 𝕄} {s : Shape} {e : EltTy} {m : Memref sig .tc .vmem s e} {f : Buf (Elt F) (m.view.loc (c : Thread nD τ))} {r : Rect s}
    {hl : m.view.LoadsAt r.toLoadRect} {K : (r.shape.Idx → Elt F e) → Prog (TpuEff nD τ sig (Elt F) Λ₀ .tc) β} :
    (m.view.loc (c : Thread nD τ) ↦[Finset.univ]{fullShare} f : sProp 𝕄)
      ⊢ iprop(((m.view.loc (c : Thread nD τ) ↦[Finset.univ]{fullShare} f)
          -∗ wp frame (wpE (defs₀ (F := F)) 𝒱₀ (c : Thread nD τ) none) Set.univ (K ((m.access r).read (Elt F) f)) Q)
        -∗ wp frame (wpE (defs₀ (F := F)) 𝒱₀ (c : Thread nD τ) none) Set.univ (do let v ← Prog.lift (.load m r.toLoadRect hl); K v) Q) :=
  at_load c (m := m) (r := r) (S := Finset.univ) (f := f) (Finset.subset_univ _)

theorem at_write {β : Type} {Q : β → sProp 𝕄} {s : Shape} {e : EltTy} {m : Memref sig .tc .vmem s e} {f : Buf (Elt F) (m.view.loc (c : Thread nD τ))} {r : Rect s}
    {w : r.shape.Idx → Elt F e} {hx : (m.access r).Stores Finset.univ}
    {hm : (Finset.univ : Finset r.shape.Idx) = Finset.univ ∨ ∀ a, r.stride a = 1} {K : Prog (TpuEff nD τ sig (Elt F) Λ₀ .tc) β} :
    (m.view.loc (c : Thread nD τ) ↦[Finset.univ]{fullShare} f : sProp 𝕄)
      ⊢ iprop(((m.view.loc (c : Thread nD τ) ↦[Finset.univ]{fullShare} ((m.access r).write (Elt F) f w Finset.univ))
          -∗ wp frame (wpE (defs₀ (F := F)) 𝒱₀ (c : Thread nD τ) none) Set.univ K Q)
        -∗ wp frame (wpE (defs₀ (F := F)) 𝒱₀ (c : Thread nD τ) none) Set.univ (do Prog.lift (.store m r w Finset.univ hx hm); K) Q) :=
  at_store c (m := m) (r := r) (S := Finset.univ) (f := f) (Finset.subset_univ _)

/-- A load from elements held, of a buffer of which others may hold the rest. -/
theorem at_read_in {β : Type} {Q : β → sProp 𝕄} {s : Shape} {e : EltTy} {m : Memref sig .tc .vmem s e} {S : Finset (Idx (m.view.loc (c : Thread nD τ)))}
    {q : PosShare TreeShare} {f : Buf (Elt F) (m.view.loc (c : Thread nD τ))} {r : Rect s}
    {hl : m.view.LoadsAt r.toLoadRect} {K : (r.shape.Idx → Elt F e) → Prog (TpuEff nD τ sig (Elt F) Λ₀ .tc) β} (hS : (m.access r).set ⊆ S) :
    (m.view.loc (c : Thread nD τ) ↦[S]{q} f : sProp 𝕄)
      ⊢ iprop(((m.view.loc (c : Thread nD τ) ↦[S]{q} f)
          -∗ wp frame (wpE (defs₀ (F := F)) 𝒱₀ (c : Thread nD τ) none) Set.univ (K ((m.access r).read (Elt F) f)) Q)
        -∗ wp frame (wpE (defs₀ (F := F)) 𝒱₀ (c : Thread nD τ) none) Set.univ (do let v ← Prog.lift (.load m r.toLoadRect hl); K v) Q) :=
  at_load c (m := m) (r := r) (f := f) hS

/-- A store into elements held. -/
theorem at_write_in {β : Type} {Q : β → sProp 𝕄} {s : Shape} {e : EltTy} {m : Memref sig .tc .vmem s e} {S : Finset (Idx (m.view.loc (c : Thread nD τ)))}
    {f : Buf (Elt F) (m.view.loc (c : Thread nD τ))} {r : Rect s}
    {w : r.shape.Idx → Elt F e} {hx : (m.access r).Stores Finset.univ}
    {hm : (Finset.univ : Finset r.shape.Idx) = Finset.univ ∨ ∀ a, r.stride a = 1} {K : Prog (TpuEff nD τ sig (Elt F) Λ₀ .tc) β}
    (hS : (m.access r).setOn Finset.univ ⊆ S) :
    (m.view.loc (c : Thread nD τ) ↦[S]{fullShare} f : sProp 𝕄)
      ⊢ iprop(((m.view.loc (c : Thread nD τ) ↦[S]{fullShare} ((m.access r).write (Elt F) f w Finset.univ))
          -∗ wp frame (wpE (defs₀ (F := F)) 𝒱₀ (c : Thread nD τ) none) Set.univ K Q)
        -∗ wp frame (wpE (defs₀ (F := F)) 𝒱₀ (c : Thread nD τ) none) Set.univ (do Prog.lift (.store m r w Finset.univ hx hm); K) Q) :=
  at_store c (m := m) (r := r) (f := f) hS

/-! ## The buffer of the heads -/

/-- The first `k` heads of `H` lie in the rows from `r` on. -/
def heads (r : ℕ) (hr : r + 256 ≤ 512) (H : Fin 4 → Vec F S256x64 .bf16) (k : ℕ) : sProp 𝕄 :=
  iprop(∃ f, ((Memref.whole cc0_scratch0).view.loc (c : Thread nD τ) ↦[Finset.univ]{fullShare} f) ∗ ⌜Filled r hr H k f⌝)

theorem heads_intro {r : ℕ} {hr : r + 256 ≤ 512} {H : Fin 4 → Vec F S256x64 .bf16} {k : ℕ} {f : Vec F S512x256 .bf16} (h : Filled r hr H k f) :
    ((Memref.whole cc0_scratch0).view.loc (c : Thread nD τ) ↦[Finset.univ]{fullShare} f) ⊢ heads c r hr H k := by
  unfold heads
  iintro Hf
  iexists f
  isplitl [Hf]; · iexact Hf
  ipureintro; exact h

theorem heads_elim {r : ℕ} {hr : r + 256 ≤ 512} {H : Fin 4 → Vec F S256x64 .bf16} {k : ℕ} :
    heads c r hr H k ⊢ iprop(∃ f, ((Memref.whole cc0_scratch0).view.loc (c : Thread nD τ) ↦[Finset.univ]{fullShare} f) ∗ ⌜Filled r hr H k f⌝) := by
  unfold heads; exact BI.Entails.refl _

theorem heads_store {r : ℕ} {hr : r + 256 ≤ 512} {H : Fin 4 → Vec F S256x64 .bf16} (k : Fin 4) (m n : ℕ) (hm : k.val = m) (hn : m + 1 = n)
    {f : Vec F S512x256 .bf16} (hf : Filled r hr H m f) {off : Fin 2 → ℕ} (hoff : off = ![r, 64 * k.val]) {h : ∀ a, off a + S256x64.size a ≤ S512x256.size a}
    {w : Vec F S256x64 .bf16} (hw : w = H k) :
    ((Memref.whole cc0_scratch0).view.loc (c : Thread nD τ) ↦[Finset.univ]{fullShare}
        (((Memref.whole cc0_scratch0).access (Rect.unit (s := S512x256) off S256x64.size h)).write (Elt F) f w Finset.univ)) ⊢ heads c r hr H n := by
  subst hm hn
  exact heads_intro c (Filled.store hf hoff h w hw)

/-- The store of a head, with the load before it that nothing reads. -/
theorem at_head {β : Type} {Q : β → sProp 𝕄} {r : ℕ} {hr : r + 256 ≤ 512} {H : Fin 4 → Vec F S256x64 .bf16} (k : Fin 4) (m n : ℕ) (hm : k.val = m) (hn : m + 1 = n)
    {off : Fin 2 → ℕ} (hoff : off = ![r, 64 * k.val]) {h : ∀ a, off a + S256x64.size a ≤ S512x256.size a}
    {w : Vec F S256x64 .bf16} (hw : w = H k)
    {hl : (Memref.whole cc0_scratch0 : Memref sig .tc .vmem S512x256 .bf16).view.LoadsAt (Rect.unit (s := S512x256) off S256x64.size h).toLoadRect}
    {hx : ((Memref.whole cc0_scratch0).access (Rect.unit (s := S512x256) off S256x64.size h)).Stores Finset.univ}
    {hy : (Finset.univ : Finset (Rect.unit (s := S512x256) off S256x64.size h).shape.Idx) = Finset.univ ∨ ∀ a, (Rect.unit (s := S512x256) off S256x64.size h).stride a = 1}
    {K : Prog (TpuEff nD τ sig (Elt F) Λ₀ .tc) β} :
    heads c r hr H m ⊢ iprop((heads c r hr H n -∗ wp frame (wpE (defs₀ (F := F)) 𝒱₀ (c : Thread nD τ) none) Set.univ K Q)
      -∗ wp frame (wpE (defs₀ (F := F)) 𝒱₀ (c : Thread nD τ) none) Set.univ
        (do let _ ← Prog.lift (.load (Memref.whole cc0_scratch0 : Memref sig .tc .vmem S512x256 .bf16) (Rect.unit (s := S512x256) off S256x64.size h).toLoadRect hl)
            Prog.lift (.store (Memref.whole cc0_scratch0 : Memref sig .tc .vmem S512x256 .bf16) (Rect.unit (s := S512x256) off S256x64.size h) w Finset.univ hx hy); K) Q) := by
  iintro HC Hk
  icases (heads_elim c) $$ HC with ⟨%f, HC, %hf⟩
  iapply (at_read c (m := (Memref.whole cc0_scratch0 : Memref sig .tc .vmem S512x256 .bf16))) $$ HC
  iintro HC
  iapply (at_write c (m := (Memref.whole cc0_scratch0 : Memref sig .tc .vmem S512x256 .bf16))) $$ HC
  iintro HC
  iapply Hk
  iapply (heads_store c k m n hm hn hf hoff hw)
  iexact HC

/-- Every filling holds no head to begin with. -/
theorem heads_zero (r : ℕ) (hr : r + 256 ≤ 512) (H : Fin 4 → Vec F S256x64 .bf16) :
    iprop(∃ f, (Memref.whole cc0_scratch0).view.loc (c : Thread nD τ) ↦[Finset.univ]{fullShare} f) ⊢ heads c r hr H 0 := by
  iintro ⟨%f, Hf⟩
  iapply (heads_intro c (Filled.zero r hr H f))
  iexact Hf

/-- What the buffer holds, forgotten. -/
theorem heads_drop (r : ℕ) (hr : r + 256 ≤ 512) (H : Fin 4 → Vec F S256x64 .bf16) (k : ℕ) :
    heads c r hr H k ⊢ iprop(∃ f, (Memref.whole cc0_scratch0).view.loc (c : Thread nD τ) ↦[Finset.univ]{fullShare} f) := by
  unfold heads
  iintro ⟨%f, Hf, -⟩
  iexists f
  iexact Hf

/-! ## What a copy takes, before its source is there -/

/-- The tickets of the copy of a segment to `p`, and the row it goes to. -/
def rowPre (p : Fin 8) : sProp 𝕄 :=
  iprop((dutyTok ER (semC 0 p c) 0 c ∗ reached ER (semC 0 p c) 0 ∗ dutyTok ER (semC 1 c p) 0 c) ∗ (∃ f, row (F := F) p c f) ∗ reached ER (semC 1 c p) 0)

/-- The tickets of the copy of the sum to `p`, and the rows it goes to. -/
def outPre (p : Fin 8) : sProp 𝕄 :=
  iprop((dutyTok ER (semC 2 p c) 0 c ∗ reached ER (semC 2 p c) 0 ∗ dutyTok ER (semC 3 c p) 0 c) ∗ (∃ f, outs (F := F) p c f) ∗ reached ER (semC 3 c p) 0)

theorem ready_row (p : Fin 8) : iprop(ifp p c (rowPre c p) ∗ seg c p (P c)) ⊢ iprop(ifp p c (rowRes P c p) ∗ own p c (seg c p (P c))) := by
  have h : iprop(ifp p c (rowPre (F := F) c p) ∗ ifp p c (seg c p (P c))) ⊢ ifp p c (rowRes P c p) := by
    rw [← ifp_sep]
    refine ifp_mono c p ?_
    unfold rowPre rowRes
    iintro ⟨⟨Ht, Hr, Ha⟩, Hs⟩
    isplitl [Ht]; · iexact Ht
    isplitl [Hs]; · iexact Hs
    isplitl [Hr]; · iexact Hr
    iexact Ha
  have e : seg c p (P c) ⊢ iprop(ifp p c (seg c p (P c)) ∗ own p c (seg c p (P c))) := Entails.of_eq (ifp_own c p _).symm
  iintro ⟨Hp, Hs⟩
  icases e $$ Hs with ⟨Hi, Ho⟩
  isplitr [Ho]
  · iapply h
    isplitl [Hp]; · iexact Hp
    iexact Hi
  iexact Ho

theorem ready_out (p : Fin 8) : iprop(ifp p c (outPre c p) ∗ redAt c p (red P c)) ⊢ iprop(ifp p c (outRes P c p) ∗ own p c (redAt c p (red P c))) := by
  have h : iprop(ifp p c (outPre (F := F) c p) ∗ ifp p c (redAt c p (red P c))) ⊢ ifp p c (outRes P c p) := by
    rw [← ifp_sep]
    refine ifp_mono c p ?_
    unfold outPre outRes
    iintro ⟨⟨Ht, Hr, Ha⟩, Hs⟩
    isplitl [Ht]; · iexact Ht
    isplitl [Hs]; · iexact Hs
    isplitl [Hr]; · iexact Hr
    iexact Ha
  have e : redAt c p (red P c) ⊢ iprop(ifp p c (redAt c p (red P c)) ∗ own p c (redAt c p (red P c))) := Entails.of_eq (ifp_own c p _).symm
  iintro ⟨Hp, Hs⟩
  icases e $$ Hs with ⟨Hi, Ho⟩
  isplitr [Ho]
  · iapply h
    isplitl [Hp]; · iexact Hp
    iexact Hi
  iexact Ho

/-! ## Which elements the loads and stores take -/

theorem half_load (b : Fin 2) {off : Fin 2 → ℕ} (hoff : off = ![256 * b.val, 0]) (h : ∀ a, off a + S256x512.size a ≤ S512x512.size a) :
    ((Memref.whole cc0_scratch1).access (Rect.unit (s := S512x512) off S256x512.size h)).set ⊆ halfS b := (half_access b hoff h).le
theorem half_store (b : Fin 2) {off : Fin 2 → ℕ} (hoff : off = ![256 * b.val, 0]) (h : ∀ a, off a + S256x512.size a ≤ S512x512.size a) :
    ((Memref.whole cc0_scratch1).access (Rect.unit (s := S512x512) off S256x512.size h)).setOn Finset.univ ⊆ halfS b := half_load b hoff h
theorem seg_load (c : Fin 8) {off : Fin 2 → ℕ} (hoff : off = ![64 * c.val, 0]) (h : ∀ a, off a + S64x512.size a ≤ S512x512.size a) :
    ((Memref.whole cc0_scratch1).access (Rect.unit (s := S512x512) off S64x512.size h)).set ⊆ segS c := (seg_access c hoff h).le
theorem row_load (c : Fin 8) {off : Fin 3 → ℕ} (hoff : off = ![c.val, 0, 0]) (h : ∀ a, off a + S1x64x512.size a ≤ S8x64x512.size a) :
    ((Memref.whole cc0_scratch3).access (Rect.unit (s := S8x64x512) off S1x64x512.size h)).set ⊆ rowS c := (row_access c hoff h).le
theorem row_store (c : Fin 8) {off : Fin 3 → ℕ} (hoff : off = ![c.val, 0, 0]) (h : ∀ a, off a + S1x64x512.size a ≤ S8x64x512.size a) :
    ((Memref.whole cc0_scratch3).access (Rect.unit (s := S8x64x512) off S1x64x512.size h)).setOn Finset.univ ⊆ rowS c := row_load c hoff h
theorem out_load (c : Fin 8) {off : Fin 3 → ℕ} (hoff : off = ![c.val / 4, 64 * (c.val % 4), 0]) (h : ∀ a, off a + S1x64x512.size a ≤ S2x256x512.size a) :
    ((Memref.whole cc0_stg3_0).access (Rect.unit (s := S2x256x512) off S1x64x512.size h)).set ⊆ outS c := (out_access c hoff h).le
theorem out_store (c : Fin 8) {off : Fin 3 → ℕ} (hoff : off = ![c.val / 4, 64 * (c.val % 4), 0]) (h : ∀ a, off a + S1x64x512.size a ≤ S2x256x512.size a) :
    ((Memref.whole cc0_stg3_0).access (Rect.unit (s := S2x256x512) off S1x64x512.size h)).setOn Finset.univ ⊆ outS c := out_load c hoff h
theorem red_load {off : Fin 2 → ℕ} (h : ∀ a, off a + S64x512.size a ≤ S64x512.size a) :
    ((Memref.whole cc0_scratch2).access (Rect.unit (s := S64x512) off S64x512.size h)).set ⊆ (Memref.whole cc0_scratch2).view.set := fun x _ => by
  rw [View.set_whole]; exact Finset.mem_univ x

/-! ## What the stores leave -/

variable (X : Vec F S4x256x512 .bf16) (W : Vec F S512x256 .bf16) (O : Vec F S256x512 .bf16)

theorem half0_done (hP : P c = part X W O) {v : Vec F S256x256 .bf16} (hv : v = ctx (head0 X W)) {f : Vec F S512x512 .bf16}
    (h : ∀ a, (![0, 0] : Fin 2 → ℕ) a + S256x512.size a ≤ S512x512.size a) :
    ((Memref.whole cc0_scratch1).view.loc (c : Thread nD τ) ↦[halfS 0]{fullShare}
        (((Memref.whole cc0_scratch1).access (Rect.unit (s := S512x512) ![0, 0] S256x512.size h)).write (Elt F) f (k0_pay9 v (wo O)) Finset.univ) : sProp 𝕄)
      ⊢ half c 0 (P c) := by
  subst hv; rw [hP]; exact Entails.of_eq (pointsTo_congr (part_half0 X W O rfl h f))

theorem half1_done (hP : P c = part X W O) {v : Vec F S256x256 .bf16} (hv : v = ctx (head1 X W)) {f : Vec F S512x512 .bf16}
    (h : ∀ a, (![256, 0] : Fin 2 → ℕ) a + S256x512.size a ≤ S512x512.size a) :
    ((Memref.whole cc0_scratch1).view.loc (c : Thread nD τ) ↦[halfS 1]{fullShare}
        (((Memref.whole cc0_scratch1).access (Rect.unit (s := S512x512) ![256, 0] S256x512.size h)).write (Elt F) f (k0_pay20 v (wo O)) Finset.univ) : sProp 𝕄)
      ⊢ half c 1 (P c) := by
  subst hv; rw [hP]; exact Entails.of_eq (pointsTo_congr (part_half1 X W O rfl h f))

theorem row_done {off : Fin 3 → ℕ} (hoff : off = ![c.val, 0, 0]) {h : ∀ a, off a + S1x64x512.size a ≤ S8x64x512.size a}
    {off' : Fin 2 → ℕ} (hoff' : off' = ![64 * c.val, 0]) {h' : ∀ a, off' a + S64x512.size a ≤ S512x512.size a} {f : Vec F S8x64x512 .bf16} :
    ((Memref.whole cc0_scratch3).view.loc (c : Thread nD τ) ↦[rowS c]{fullShare}
        (((Memref.whole cc0_scratch3).access (Rect.unit (s := S8x64x512) off S1x64x512.size h)).write (Elt F) f
          (k0_pay21 (((Memref.whole cc0_scratch1).access (Rect.unit (s := S512x512) off' S64x512.size h')).read (Elt F) (P c))) Finset.univ) : sProp 𝕄)
      ⊢ row c c (inbox P c) :=
  Entails.of_eq (pointsTo_congr (own_row P c hoff h hoff' h' f))

theorem out_done {off : Fin 3 → ℕ} (hoff : off = ![c.val / 4, 64 * (c.val % 4), 0]) {h : ∀ a, off a + S1x64x512.size a ≤ S2x256x512.size a}
    {v : Vec F S64x512 .bf16} (hv : v = red P c) {f : Vec F S2x256x512 .bf16} :
    ((Memref.whole cc0_stg3_0).view.loc (c : Thread nD τ) ↦[outS c]{fullShare}
        (((Memref.whole cc0_stg3_0).access (Rect.unit (s := S2x256x512) off S1x64x512.size h)).write (Elt F) f (k0_pay23 v) Finset.univ) : sProp 𝕄)
      ⊢ outs c c (out P) := by
  subst hv; exact Entails.of_eq (pointsTo_congr (own_out P c hoff h f))

theorem inbox_whole :
    iprop(row c c (inbox P c) ∗ all8 fun s => ifp s c (copyPay P c 1 s))
      ⊢ ((Memref.whole cc0_scratch3).view.loc (c : Thread nD τ) ↦[Finset.univ]{fullShare} inbox P c : sProp 𝕄) := by
  rw [rows_whole]; exact Entails.of_eq (ifp8 c fun s => row c s (inbox P c))

theorem part_whole :
    iprop(seg c c (P c) ∗ all8 fun p => ifp p c (copyPay P c 0 p))
      ⊢ ((Memref.whole cc0_scratch1).view.loc (c : Thread nD τ) ↦[Finset.univ]{fullShare} P c : sProp 𝕄) := by
  rw [segs_whole]; exact Entails.of_eq (ifp8 c fun p => seg c p (P c))

theorem out_whole :
    iprop(outs c c (out P) ∗ all8 fun s => ifp s c (copyPay P c 3 s))
      ⊢ ((Memref.whole cc0_stg3_0).view.loc (c : Thread nD τ) ↦[Finset.univ]{fullShare} out P : sProp 𝕄) := by
  rw [outs_whole]; exact Entails.of_eq (ifp8 c fun s => outs c s (out P))

theorem sum_whole :
    iprop(redAt c c (red P c) ∗ all8 fun p => ifp p c (copyPay P c 2 p))
      ⊢ ((Memref.whole cc0_scratch2).view.loc (c : Thread nD τ) ↦[Finset.univ]{fullShare} red P c : sProp 𝕄) := by
  refine BI.Entails.trans (Entails.of_eq (ifp8 c fun p => redAt c p (red P c))) ?_
  rw [← red_whole, View.set_whole]; exact BI.Entails.refl _

theorem read_all2 (f : Vec F S64x512 .bf16) (h : ∀ a, (![0, 0] : Fin 2 → ℕ) a + S64x512.size a ≤ S64x512.size a) :
    ((Memref.whole cc0_scratch2).access (Rect.unit (s := S64x512) ![0, 0] S64x512.size h)).read (Elt F) f = f := by
  rw [read_rect cc0_scratch2]
  funext x
  refine congrArg f ?_
  funext a
  match a with
  | 0 => refine Fin.ext ?_; show 0 + 1 * (x 0).val = (x 0).val; omega
  | 1 => refine Fin.ext ?_; show 0 + 1 * (x 1).val = (x 1).val; omega

theorem read_all3 (f : Vec F S8x64x512 .bf16) (h : ∀ a, (![0, 0, 0] : Fin 3 → ℕ) a + S8x64x512.size a ≤ S8x64x512.size a) :
    ((Memref.whole cc0_scratch3).access (Rect.unit (s := S8x64x512) ![0, 0, 0] S8x64x512.size h)).read (Elt F) f = f := by
  rw [read_rect cc0_scratch3]
  funext x
  refine congrArg f ?_
  funext a
  match a with
  | 0 => refine Fin.ext ?_; show 0 + 1 * (x 0).val = (x 0).val; omega
  | 1 => refine Fin.ext ?_; show 0 + 1 * (x 1).val = (x 1).val; omega
  | 2 => refine Fin.ext ?_; show 0 + 1 * (x 2).val = (x 2).val; omega

theorem write_all2 (f w : Vec F S64x512 .bf16) (h : ∀ a, (![0, 0] : Fin 2 → ℕ) a + S64x512.size a ≤ S64x512.size a) :
    ((Memref.whole cc0_scratch2).access (Rect.unit (s := S64x512) ![0, 0] S64x512.size h)).write (Elt F) f w Finset.univ = w := by
  funext x
  have e : x = (Rect.unit (s := S64x512) ![0, 0] S64x512.size h).emb (x : S64x512.Idx) := by
    funext a
    match a with
    | 0 => refine Fin.ext ?_; show (x 0).val = 0 + 1 * (x 0).val; omega
    | 1 => refine Fin.ext ?_; show (x 1).val = 0 + 1 * (x 1).val; omega
  conv_lhs => rw [e]
  rw [write_rect_mem cc0_scratch2 h f w]

theorem red_done {h : ∀ a, (![0, 0] : Fin 2 → ℕ) a + S64x512.size a ≤ S64x512.size a} {v : Vec F S8x64x512 .bf16} (hv : v = inbox P c) {f : Vec F S64x512 .bf16} :
    ((Memref.whole cc0_scratch2).view.loc (c : Thread nD τ) ↦[Finset.univ]{fullShare}
        (((Memref.whole cc0_scratch2).access (Rect.unit (s := S64x512) ![0, 0] S64x512.size h)).write (Elt F) f (k0_pay22 v) Finset.univ) : sProp 𝕄)
      ⊢ all8 fun p => redAt c p (red P c) := by
  subst hv
  rw [write_all2, ← red_whole, View.set_whole]
  exact BI.Entails.refl _

/-! ## The credit of the copies -/

theorem credit_row (s : Fin 8) {off : Fin 3 → ℕ} (h : off = ![s.val, 0, 0]) (i : ∀ a, off a + S1x64x512.size a ≤ S8x64x512.size a) :
    (((Memref.whole cc0_scratch3 : Memref sig .tc .vmem S8x64x512 .bf16).slice (Rect.unit (s := S8x64x512) off S1x64x512.size i) (fun _ => rfl)).squeeze S64x512
      squeezes_S1x64x512_S64x512).view.dmaCredit = N := rfl
theorem credit_out (s : Fin 8) {off : Fin 3 → ℕ} (h : off = ![s.val / 4, 64 * (s.val % 4), 0]) (i : ∀ a, off a + S1x64x512.size a ≤ S2x256x512.size a) :
    (((Memref.whole cc0_stg3_0 : Memref sig .tc .vmem S2x256x512 .bf16).slice (Rect.unit (s := S2x256x512) off S1x64x512.size i) (fun _ => rfl)).squeeze S64x512
      squeezes_S1x64x512_S64x512).view.dmaCredit = N := rfl
theorem credit_red : (Memref.whole cc0_scratch2 : Memref sig .tc .vmem S64x512 .bf16).view.dmaCredit = N := rfl

end Cert.KernelIdeal.Ring
-- ==== Proof.KernelIdeal.Moves.lean ====
/-
The kernel's own moves between its buffers: the heads read back side by side, a batch's product stored, the device's own
segment put in its own row, the rows summed, the device's own sum put in its own rows of the result.
-/
module

public import proofs.«01_k».proof.Proof.KernelIdeal.Pieces

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (c : Dev nD) (X : Vec F S4x256x512 .bf16) (W : Vec F S512x256 .bf16) (O : Vec F S256x512 .bf16)

/-- The four heads read back side by side. -/
theorem at_ctx {β : Type} {Q : β → sProp 𝕄} {r : ℕ} {hr : r + 256 ≤ 512} {H : Fin 4 → Vec F S256x64 .bf16} {off : Fin 2 → ℕ} (hoff : off = ![r, 0])
    {h : ∀ a, off a + S256x256.size a ≤ S512x256.size a} {hl : (Memref.whole cc0_scratch0 : Memref sig .tc .vmem S512x256 .bf16).view.LoadsAt (Rect.unit (s := S512x256) off S256x256.size h).toLoadRect}
    {K : Vec F S256x256 .bf16 → Prog (TpuEff nD τ sig (Elt F) Λ₀ .tc) β} :
    heads c r hr H 4 ⊢ iprop((heads c r hr H 4 -∗ wp frame (wpE (defs₀ (F := F)) 𝒱₀ (c : Thread nD τ) none) Set.univ (K (ctx H)) Q)
      -∗ wp frame (wpE (defs₀ (F := F)) 𝒱₀ (c : Thread nD τ) none) Set.univ (do let v ← Prog.lift (.load (Memref.whole cc0_scratch0 : Memref sig .tc .vmem S512x256 .bf16) (Rect.unit (s := S512x256) off S256x256.size h).toLoadRect hl); K v) Q) := by
  iintro HC Hk
  icases (heads_elim c) $$ HC with ⟨%f, HC, %hf⟩
  iapply (at_read c (m := (Memref.whole cc0_scratch0 : Memref sig .tc .vmem S512x256 .bf16))) $$ HC
  iintro HC
  rw [hf.read hoff h]
  iapply Hk
  iapply (heads_intro c hf)
  iexact HC

/-- The product of batch 0 stored. -/
theorem at_half0 {β : Type} {Q : β → sProp 𝕄} (hP : P c = part X W O) {f : Vec F S512x512 .bf16} {h : ∀ a, (![0, 0] : Fin 2 → ℕ) a + S256x512.size a ≤ S512x512.size a}
    {hl : (Memref.whole cc0_scratch1 : Memref sig .tc .vmem S512x512 .bf16).view.LoadsAt (Rect.unit (s := S512x512) ![0, 0] S256x512.size h).toLoadRect}
    {hx : ((Memref.whole cc0_scratch1 : Memref sig .tc .vmem S512x512 .bf16).access (Rect.unit (s := S512x512) ![0, 0] S256x512.size h)).Stores Finset.univ} {hy : (Finset.univ : Finset (Rect.unit (s := S512x512) ![0, 0] S256x512.size h).shape.Idx) = Finset.univ ∨ ∀ a, (Rect.unit (s := S512x512) ![0, 0] S256x512.size h).stride a = 1}
    {K : Prog (TpuEff nD τ sig (Elt F) Λ₀ .tc) β} :
    half c 0 f ⊢ iprop((half c 0 (P c) -∗ wp frame (wpE (defs₀ (F := F)) 𝒱₀ (c : Thread nD τ) none) Set.univ K Q)
      -∗ wp frame (wpE (defs₀ (F := F)) 𝒱₀ (c : Thread nD τ) none) Set.univ (do
          let _ ← Prog.lift (.load (Memref.whole cc0_scratch1 : Memref sig .tc .vmem S512x512 .bf16) (Rect.unit (s := S512x512) ![0, 0] S256x512.size h).toLoadRect hl)
          Prog.lift (.store (Memref.whole cc0_scratch1 : Memref sig .tc .vmem S512x512 .bf16) (Rect.unit (s := S512x512) ![0, 0] S256x512.size h) (k0_pay9 (ctx (head0 X W)) (wo O)) Finset.univ hx hy); K) Q) := by
  iintro HA Hk
  iapply (at_read_in c (m := (Memref.whole cc0_scratch1 : Memref sig .tc .vmem S512x512 .bf16)) (half_load 0 (off := ![0, 0]) (by decide) h)) $$ HA
  iintro HA
  iapply (at_write_in c (m := (Memref.whole cc0_scratch1 : Memref sig .tc .vmem S512x512 .bf16)) (half_store 0 (off := ![0, 0]) (by decide) h)) $$ HA
  iintro HA
  iapply Hk
  iapply (half0_done P c X W O hP rfl h)
  iexact HA

/-- The product of batch 1 stored. -/
theorem at_half1 {β : Type} {Q : β → sProp 𝕄} (hP : P c = part X W O) {f : Vec F S512x512 .bf16} {h : ∀ a, (![256, 0] : Fin 2 → ℕ) a + S256x512.size a ≤ S512x512.size a}
    {hl : (Memref.whole cc0_scratch1 : Memref sig .tc .vmem S512x512 .bf16).view.LoadsAt (Rect.unit (s := S512x512) ![256, 0] S256x512.size h).toLoadRect}
    {hx : ((Memref.whole cc0_scratch1 : Memref sig .tc .vmem S512x512 .bf16).access (Rect.unit (s := S512x512) ![256, 0] S256x512.size h)).Stores Finset.univ} {hy : (Finset.univ : Finset (Rect.unit (s := S512x512) ![256, 0] S256x512.size h).shape.Idx) = Finset.univ ∨ ∀ a, (Rect.unit (s := S512x512) ![256, 0] S256x512.size h).stride a = 1}
    {K : Prog (TpuEff nD τ sig (Elt F) Λ₀ .tc) β} :
    half c 1 f ⊢ iprop((half c 1 (P c) -∗ wp frame (wpE (defs₀ (F := F)) 𝒱₀ (c : Thread nD τ) none) Set.univ K Q)
      -∗ wp frame (wpE (defs₀ (F := F)) 𝒱₀ (c : Thread nD τ) none) Set.univ (do
          let _ ← Prog.lift (.load (Memref.whole cc0_scratch1 : Memref sig .tc .vmem S512x512 .bf16) (Rect.unit (s := S512x512) ![256, 0] S256x512.size h).toLoadRect hl)
          Prog.lift (.store (Memref.whole cc0_scratch1 : Memref sig .tc .vmem S512x512 .bf16) (Rect.unit (s := S512x512) ![256, 0] S256x512.size h) (k0_pay20 (ctx (head1 X W)) (wo O)) Finset.univ hx hy); K) Q) := by
  iintro HA Hk
  iapply (at_read_in c (m := (Memref.whole cc0_scratch1 : Memref sig .tc .vmem S512x512 .bf16)) (half_load 1 (off := ![256, 0]) (by decide) h)) $$ HA
  iintro HA
  iapply (at_write_in c (m := (Memref.whole cc0_scratch1 : Memref sig .tc .vmem S512x512 .bf16)) (half_store 1 (off := ![256, 0]) (by decide) h)) $$ HA
  iintro HA
  iapply Hk
  iapply (half1_done P c X W O hP rfl h)
  iexact HA

/-- The device's own segment copied into its own row. -/
theorem at_own_row {β : Type} {Q : β → sProp 𝕄} {off : Fin 2 → ℕ} (hoff : off = ![64 * c.val, 0]) {off' : Fin 3 → ℕ} (hoff' : off' = ![c.val, 0, 0])
    {h : ∀ a, off a + S64x512.size a ≤ S512x512.size a} {h' : ∀ a, off' a + S1x64x512.size a ≤ S8x64x512.size a}
    {hl : (Memref.whole cc0_scratch1 : Memref sig .tc .vmem S512x512 .bf16).view.LoadsAt (Rect.unit (s := S512x512) off S64x512.size h).toLoadRect}
    {hl' : (Memref.whole cc0_scratch3 : Memref sig .tc .vmem S8x64x512 .bf16).view.LoadsAt (Rect.unit (s := S8x64x512) off' S1x64x512.size h').toLoadRect}
    {hx : ((Memref.whole cc0_scratch3 : Memref sig .tc .vmem S8x64x512 .bf16).access (Rect.unit (s := S8x64x512) off' S1x64x512.size h')).Stores Finset.univ} {hy : (Finset.univ : Finset (Rect.unit (s := S8x64x512) off' S1x64x512.size h').shape.Idx) = Finset.univ ∨ ∀ a, (Rect.unit (s := S8x64x512) off' S1x64x512.size h').stride a = 1}
    {K : Prog (TpuEff nD τ sig (Elt F) Λ₀ .tc) β} :
    iprop(seg c c (P c) ∗ ∃ f, row (F := F) c c f) ⊢ iprop((iprop(seg c c (P c) ∗ row c c (inbox P c)) -∗ wp frame (wpE (defs₀ (F := F)) 𝒱₀ (c : Thread nD τ) none) Set.univ K Q)
      -∗ wp frame (wpE (defs₀ (F := F)) 𝒱₀ (c : Thread nD τ) none) Set.univ (do
          let v ← Prog.lift (.load (Memref.whole cc0_scratch1 : Memref sig .tc .vmem S512x512 .bf16) (Rect.unit (s := S512x512) off S64x512.size h).toLoadRect hl)
          let _ ← Prog.lift (.load (Memref.whole cc0_scratch3 : Memref sig .tc .vmem S8x64x512 .bf16) (Rect.unit (s := S8x64x512) off' S1x64x512.size h').toLoadRect hl')
          Prog.lift (.store (Memref.whole cc0_scratch3 : Memref sig .tc .vmem S8x64x512 .bf16) (Rect.unit (s := S8x64x512) off' S1x64x512.size h') (k0_pay21 v) Finset.univ hx hy); K) Q) := by
  iintro ⟨HA, %f, HI⟩ Hk
  iapply (at_read_in c (m := (Memref.whole cc0_scratch1 : Memref sig .tc .vmem S512x512 .bf16)) (seg_load c hoff h)) $$ HA
  iintro HA
  iapply (at_read_in c (m := (Memref.whole cc0_scratch3 : Memref sig .tc .vmem S8x64x512 .bf16)) (row_load c hoff' h')) $$ HI
  iintro HI
  iapply (at_write_in c (m := (Memref.whole cc0_scratch3 : Memref sig .tc .vmem S8x64x512 .bf16)) (row_store c hoff' h')) $$ HI
  iintro HI
  iapply Hk
  isplitl [HA]; · iexact HA
  iapply (row_done P c hoff' hoff)
  iexact HI

/-- The rows of the inbox summed, and the sum dealt to the copies that will read it. -/
theorem at_sum {β : Type} {Q : β → sProp 𝕄} {h : ∀ a, (![0, 0, 0] : Fin 3 → ℕ) a + S8x64x512.size a ≤ S8x64x512.size a}
    {h' : ∀ a, (![0, 0] : Fin 2 → ℕ) a + S64x512.size a ≤ S64x512.size a} {f : Vec F S64x512 .bf16}
    {hl : (Memref.whole cc0_scratch3 : Memref sig .tc .vmem S8x64x512 .bf16).view.LoadsAt (Rect.unit (s := S8x64x512) ![0, 0, 0] S8x64x512.size h).toLoadRect}
    {hl' : (Memref.whole cc0_scratch2 : Memref sig .tc .vmem S64x512 .bf16).view.LoadsAt (Rect.unit (s := S64x512) ![0, 0] S64x512.size h').toLoadRect}
    {hx : ((Memref.whole cc0_scratch2 : Memref sig .tc .vmem S64x512 .bf16).access (Rect.unit (s := S64x512) ![0, 0] S64x512.size h')).Stores Finset.univ} {hy : (Finset.univ : Finset (Rect.unit (s := S64x512) ![0, 0] S64x512.size h').shape.Idx) = Finset.univ ∨ ∀ a, (Rect.unit (s := S64x512) ![0, 0] S64x512.size h').stride a = 1}
    {K : Prog (TpuEff nD τ sig (Elt F) Λ₀ .tc) β} :
    iprop(((Memref.whole cc0_scratch3).view.loc (c : Thread nD τ) ↦[Finset.univ]{fullShare} inbox P c) ∗ ((Memref.whole cc0_scratch2).view.loc (c : Thread nD τ) ↦[Finset.univ]{fullShare} f))
      ⊢ iprop((iprop(((Memref.whole cc0_scratch3).view.loc (c : Thread nD τ) ↦[Finset.univ]{fullShare} inbox P c) ∗ all8 fun p => redAt c p (red P c)) -∗ wp frame (wpE (defs₀ (F := F)) 𝒱₀ (c : Thread nD τ) none) Set.univ K Q)
      -∗ wp frame (wpE (defs₀ (F := F)) 𝒱₀ (c : Thread nD τ) none) Set.univ (do
          let v ← Prog.lift (.load (Memref.whole cc0_scratch3 : Memref sig .tc .vmem S8x64x512 .bf16) (Rect.unit (s := S8x64x512) ![0, 0, 0] S8x64x512.size h).toLoadRect hl)
          let _ ← Prog.lift (.load (Memref.whole cc0_scratch2 : Memref sig .tc .vmem S64x512 .bf16) (Rect.unit (s := S64x512) ![0, 0] S64x512.size h').toLoadRect hl')
          Prog.lift (.store (Memref.whole cc0_scratch2 : Memref sig .tc .vmem S64x512 .bf16) (Rect.unit (s := S64x512) ![0, 0] S64x512.size h') (k0_pay22 v) Finset.univ hx hy); K) Q) := by
  iintro ⟨HI, HS⟩ Hk
  iapply (at_read c (m := (Memref.whole cc0_scratch3 : Memref sig .tc .vmem S8x64x512 .bf16))) $$ HI
  iintro HI
  iapply (at_read c (m := (Memref.whole cc0_scratch2 : Memref sig .tc .vmem S64x512 .bf16))) $$ HS
  iintro HS
  iapply (at_write c (m := (Memref.whole cc0_scratch2 : Memref sig .tc .vmem S64x512 .bf16))) $$ HS
  iintro HS
  iapply Hk
  isplitl [HI]; · iexact HI
  iapply (red_done P c (read_all3 (inbox P c) h))
  iexact HS

/-- The device's own sum stored in its own rows of the result. -/
theorem at_own_out {β : Type} {Q : β → sProp 𝕄} {off : Fin 3 → ℕ} (hoff : off = ![c.val / 4, 64 * (c.val % 4), 0])
    {h : ∀ a, (![0, 0] : Fin 2 → ℕ) a + S64x512.size a ≤ S64x512.size a} {h' : ∀ a, off a + S1x64x512.size a ≤ S2x256x512.size a}
    {hl : (Memref.whole cc0_scratch2 : Memref sig .tc .vmem S64x512 .bf16).view.LoadsAt (Rect.unit (s := S64x512) ![0, 0] S64x512.size h).toLoadRect}
    {hl' : (Memref.whole cc0_stg3_0 : Memref sig .tc .vmem S2x256x512 .bf16).view.LoadsAt (Rect.unit (s := S2x256x512) off S1x64x512.size h').toLoadRect}
    {hx : ((Memref.whole cc0_stg3_0 : Memref sig .tc .vmem S2x256x512 .bf16).access (Rect.unit (s := S2x256x512) off S1x64x512.size h')).Stores Finset.univ} {hy : (Finset.univ : Finset (Rect.unit (s := S2x256x512) off S1x64x512.size h').shape.Idx) = Finset.univ ∨ ∀ a, (Rect.unit (s := S2x256x512) off S1x64x512.size h').stride a = 1}
    {K : Prog (TpuEff nD τ sig (Elt F) Λ₀ .tc) β} :
    iprop(redAt c c (red P c) ∗ ∃ f, outs (F := F) c c f) ⊢ iprop((iprop(redAt c c (red P c) ∗ outs c c (out P)) -∗ wp frame (wpE (defs₀ (F := F)) 𝒱₀ (c : Thread nD τ) none) Set.univ K Q)
      -∗ wp frame (wpE (defs₀ (F := F)) 𝒱₀ (c : Thread nD τ) none) Set.univ (do
          let v ← Prog.lift (.load (Memref.whole cc0_scratch2 : Memref sig .tc .vmem S64x512 .bf16) (Rect.unit (s := S64x512) ![0, 0] S64x512.size h).toLoadRect hl)
          let _ ← Prog.lift (.load (Memref.whole cc0_stg3_0 : Memref sig .tc .vmem S2x256x512 .bf16) (Rect.unit (s := S2x256x512) off S1x64x512.size h').toLoadRect hl')
          Prog.lift (.store (Memref.whole cc0_stg3_0 : Memref sig .tc .vmem S2x256x512 .bf16) (Rect.unit (s := S2x256x512) off S1x64x512.size h') (k0_pay23 v) Finset.univ hx hy); K) Q) := by
  iintro ⟨HS, %f, HR⟩ Hk
  iapply (at_read_in c (m := (Memref.whole cc0_scratch2 : Memref sig .tc .vmem S64x512 .bf16)) (red_load h)) $$ HS
  iintro HS
  iapply (at_read_in c (m := (Memref.whole cc0_stg3_0 : Memref sig .tc .vmem S2x256x512 .bf16)) (out_load c hoff h')) $$ HR
  iintro HR
  iapply (at_write_in c (m := (Memref.whole cc0_stg3_0 : Memref sig .tc .vmem S2x256x512 .bf16)) (out_store c hoff h')) $$ HR
  iintro HR
  iapply Hk
  isplitl [HS]; · iexact HS
  iapply (out_done P c hoff (read_all2 (red P c) h))
  iexact HR

end Cert.KernelIdeal.Ring
-- ==== Proof.KernelIdeal.Part2.lean ====
/-
The heads of batch 0, up to the third.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The projection of the activations, and the first head of batch 0. -/
theorem part2_spec (Q : (Σ' (v35 : FVec F S512x256 .f32) (v41 : IVec S256x256 1) (v42 : FVec F S256x256 .f32) (v64 : FVec F S256x64 .bf16), Vec F S1x256x64 .bf16) → sProp 𝕄) :
    iprop(iprop(((Memref.whole cc0_stg0_0).view.loc (c : Thread nD τ) ↦[Finset.univ]{fullShare} X) ∗ ((Memref.whole cc0_stg1_0).view.loc (c : Thread nD τ) ↦[Finset.univ]{fullShare} W) ∗ heads c 0 (by decide) (head0 X W) 0)
        ∗ (iprop(((Memref.whole cc0_stg0_0).view.loc (c : Thread nD τ) ↦[Finset.univ]{fullShare} X) ∗ ((Memref.whole cc0_stg1_0).view.loc (c : Thread nD τ) ↦[Finset.univ]{fullShare} W) ∗ heads c 0 (by decide) (head0 X W) 1) -∗ Q ⟨k0_pay1 (acts X) (wq W), k0_pay2, k0_pay3 (acts X) (wq W), k0_pay5 (acts X) (wq W), keys X ![2, 0, 64] (by decide)⟩))
      ⊢ wp frame (wpE (defs₀ (F := F)) 𝒱₀ (c : Thread nD τ) none) Set.univ (k0_part2_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7) Q := by
  unfold k0_part2_skel
  iintro ⟨⟨HX, HW, HC⟩, Hk⟩
  iapply (at_read c (m := Memref.whole cc0_stg0_0)) $$ HX
  iintro HX
  iapply (at_read c (m := Memref.whole cc0_stg1_0)) $$ HW
  iintro HW
  iapply (at_read c (m := Memref.whole cc0_stg0_0)) $$ HX
  iintro HX
  iapply (at_read c (m := Memref.whole cc0_stg0_0)) $$ HX
  iintro HX
  iapply (at_head c 0 0 1 rfl rfl rfl rfl) $$ HC
  iintro HC
  iapply (at_read c (m := Memref.whole cc0_stg0_0)) $$ HX
  iintro HX
  iapply (at_end c)
  iapply Hk
  isplitl [HX]; · iexact HX
  isplitl [HW]; · iexact HW
  iexact HC

/-- The second and the third head of batch 0. -/
theorem part3_spec (Q : PUnit → sProp 𝕄) :
    iprop(iprop(((Memref.whole cc0_stg0_0).view.loc (c : Thread nD τ) ↦[Finset.univ]{fullShare} X) ∗ heads c 0 (by decide) (head0 X W) 1)
        ∗ (iprop(((Memref.whole cc0_stg0_0).view.loc (c : Thread nD τ) ↦[Finset.univ]{fullShare} X) ∗ heads c 0 (by decide) (head0 X W) 3) -∗ Q ⟨⟩))
      ⊢ wp frame (wpE (defs₀ (F := F)) 𝒱₀ (c : Thread nD τ) none) Set.univ (k0_part3_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 k0_pay2 (k0_pay3 (acts X) (wq W)) (k0_pay5 (acts X) (wq W)) (keys X ![2, 0, 64] (by decide))) Q := by
  unfold k0_part3_skel
  iintro ⟨⟨HX, HC⟩, Hk⟩
  iapply (at_read c (m := Memref.whole cc0_stg0_0)) $$ HX
  iintro HX
  iapply (at_head c 1 1 2 rfl rfl rfl rfl) $$ HC
  iintro HC
  iapply (at_read c (m := Memref.whole cc0_stg0_0)) $$ HX
  iintro HX
  iapply (at_read c (m := Memref.whole cc0_stg0_0)) $$ HX
  iintro HX
  iapply (at_head c 2 2 3 rfl rfl rfl rfl) $$ HC
  iintro HC
  iapply (at_end c)
  iapply Hk
  isplitl [HX]; · iexact HX
  iexact HC

end Cert.KernelIdeal.Ring
-- ==== Proof.KernelIdeal.Part4.lean ====
/-
The partial product of batch 0 and the first copies.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The fourth head of batch 0, the product of batch 0, and the copy of segment 0. -/
theorem part4_spec (Q : PUnit → sProp 𝕄) :
    iprop(iprop(fam.cellInvs ER (Rd P) κ ∗ Lvs ∗ ((Memref.whole cc0_stg0_0).view.loc (c : Thread nD τ) ↦[Finset.univ]{fullShare} X) ∗ ((Memref.whole cc0_stg2_0).view.loc (c : Thread nD τ) ↦[Finset.univ]{fullShare} O) ∗ heads c 0 (by decide) (head0 X W) 3 ∗ (∃ f, half (F := F) c 0 f) ∗ ifp 0 c (rowPre (F := F) c 0) ∗ owesE c (D2 c))
        ∗ (iprop(((Memref.whole cc0_stg0_0).view.loc (c : Thread nD τ) ↦[Finset.univ]{fullShare} X) ∗ ((Memref.whole cc0_stg2_0).view.loc (c : Thread nD τ) ↦[Finset.univ]{fullShare} O) ∗ heads c 0 (by decide) (head0 X W) 4 ∗ own 0 c (seg c 0 (P c)) ∗ seg c 1 (P c) ∗ seg c 2 (P c) ∗ seg c 3 (P c) ∗ ifp 0 c (cred (tallyAt (semC 0 0 c) 0 N)) ∗ owesE c (dueRow c 1 + (dueRow c 2 + (dueRow c 3 + (dueRow c 4 + (dueRow c 5 + (dueRow c 6 + (dueRow c 7 + D3 c)))))))) -∗ Q ⟨⟩))
      ⊢ wp frame (wpE (defs₀ (F := F)) 𝒱₀ (c : Thread nD τ) none) Set.univ (k0_part4_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c) k0_pay2 (k0_pay3 (acts X) (wq W))) Q := by
  unfold k0_part4_skel
  iintro ⟨⟨#HI, #HL, HX, HB, HC, HA, R0, HO⟩, Hk⟩
  iapply (at_read c (m := Memref.whole cc0_stg0_0)) $$ HX
  iintro HX
  iapply (at_read c (m := Memref.whole cc0_stg0_0)) $$ HX
  iintro HX
  iapply (at_head c 3 3 4 rfl rfl rfl rfl) $$ HC
  iintro HC
  iapply (at_ctx c rfl) $$ HC
  iintro HC
  iapply (at_read c (m := Memref.whole cc0_stg2_0)) $$ HB
  iintro HB
  icases HA with ⟨%fA, HA⟩
  iapply (at_half0 P c X W O hP) $$ HA
  iintro HA
  icases (Entails.of_eq (half0_segs c (P c))) $$ HA with ⟨G0, G1, G2, G3⟩
  icases (ready_row P c 0) $$ [R0 G0] with ⟨R0, G0⟩
  · isplitl [R0]; · iexact R0
    iexact G0
  iapply (at_row P κ c 0 (cond9 c) (fun _ => rfl) (seg_of 0 (off := ![0, 0]) (by decide) _) (fun _ => row_of c (off2 c) _) (sem_of0 0 rfl _) (fun _ => sem_of1 c (off1 c) _) _) $$ [R0 HO]
  · isplitr; · iexact HI
    isplitl [R0]; · iexact R0
    iexact HO
  iintro ⟨HO, E0_0⟩
  iapply (at_end c)
  iapply Hk
  isplitl [HX]; · iexact HX
  isplitl [HB]; · iexact HB
  isplitl [HC]; · iexact HC
  isplitl [G0]; · iexact G0
  isplitl [G1]; · iexact G1
  isplitl [G2]; · iexact G2
  isplitl [G3]; · iexact G3
  isplitl [E0_0]; · iexact E0_0
  iexact HO

end Cert.KernelIdeal.Ring
-- ==== Proof.KernelIdeal.Part5.lean ====
/-
More copies while the heads of batch 1 begin.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The copies of segments 1 to 3, and the first head of batch 1. -/
theorem part5_spec (Q : (Σ' (v143 : FVec F S256x256 .f32) (v165 : FVec F S256x64 .bf16) (v167 : FVec F S256x64 .bf16) (v169 : FVec F S256x64 .bf16), FVec F S256x256 .f32) → sProp 𝕄) :
    iprop(iprop(fam.cellInvs ER (Rd P) κ ∗ Lvs ∗ ((Memref.whole cc0_stg0_0).view.loc (c : Thread nD τ) ↦[Finset.univ]{fullShare} X) ∗ heads c 256 (by decide) (head1 X W) 0 ∗ seg c 1 (P c) ∗ seg c 2 (P c) ∗ seg c 3 (P c) ∗ ifp 1 c (rowPre (F := F) c 1) ∗ ifp 2 c (rowPre (F := F) c 2) ∗ ifp 3 c (rowPre (F := F) c 3) ∗ owesE c (dueRow c 1 + (dueRow c 2 + (dueRow c 3 + (dueRow c 4 + (dueRow c 5 + (dueRow c 6 + (dueRow c 7 + D3 c))))))))
        ∗ (iprop(((Memref.whole cc0_stg0_0).view.loc (c : Thread nD τ) ↦[Finset.univ]{fullShare} X) ∗ heads c 256 (by decide) (head1 X W) 1 ∗ own 1 c (seg c 1 (P c)) ∗ own 2 c (seg c 2 (P c)) ∗ own 3 c (seg c 3 (P c)) ∗ ifp 1 c (cred (tallyAt (semC 0 1 c) 0 N)) ∗ ifp 2 c (cred (tallyAt (semC 0 2 c) 0 N)) ∗ ifp 3 c (cred (tallyAt (semC 0 3 c) 0 N)) ∗ owesE c (dueRow c 4 + (dueRow c 5 + (dueRow c 6 + (dueRow c 7 + D3 c))))) -∗ Q ⟨k0_pay10 (k0_pay1 (acts X) (wq W)), k0_pay12 (k0_pay1 (acts X) (wq W)), k0_pay13 (keys X ![3, 0, 64] (by decide)), k0_pay14 (keys X ![3, 0, 320] (by decide)), constant S256x256 .f32 0x00000000#32⟩))
      ⊢ wp frame (wpE (defs₀ (F := F)) 𝒱₀ (c : Thread nD τ) none) Set.univ (k0_part5_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c) (k0_pay1 (acts X) (wq W)) k0_pay2) Q := by
  unfold k0_part5_skel
  iintro ⟨⟨#HI, #HL, HX, HC, G1, G2, G3, R1, R2, R3, HO⟩, Hk⟩
  icases (ready_row P c 1) $$ [R1 G1] with ⟨R1, G1⟩
  · isplitl [R1]; · iexact R1
    iexact G1
  iapply (at_row P κ c 1 (cond10 c) (fun _ => rfl) (seg_of 1 (off := ![64, 0]) (by decide) _) (fun _ => row_of c (off4 c) _) (sem_of0 1 rfl _) (fun _ => sem_of1 c (off3 c) _) _) $$ [R1 HO]
  · isplitr; · iexact HI
    isplitl [R1]; · iexact R1
    iexact HO
  iintro ⟨HO, E0_1⟩
  icases (ready_row P c 2) $$ [R2 G2] with ⟨R2, G2⟩
  · isplitl [R2]; · iexact R2
    iexact G2
  iapply (at_row P κ c 2 (cond11 c) (fun _ => rfl) (seg_of 2 (off := ![128, 0]) (by decide) _) (fun _ => row_of c (off6 c) _) (sem_of0 2 rfl _) (fun _ => sem_of1 c (off5 c) _) _) $$ [R2 HO]
  · isplitr; · iexact HI
    isplitl [R2]; · iexact R2
    iexact HO
  iintro ⟨HO, E0_2⟩
  icases (ready_row P c 3) $$ [R3 G3] with ⟨R3, G3⟩
  · isplitl [R3]; · iexact R3
    iexact G3
  iapply (at_row P κ c 3 (cond12 c) (fun _ => rfl) (seg_of 3 (off := ![192, 0]) (by decide) _) (fun _ => row_of c (off8 c) _) (sem_of0 3 rfl _) (fun _ => sem_of1 c (off7 c) _) _) $$ [R3 HO]
  · isplitr; · iexact HI
    isplitl [R3]; · iexact R3
    iexact HO
  iintro ⟨HO, E0_3⟩
  iapply (at_read c (m := Memref.whole cc0_stg0_0)) $$ HX
  iintro HX
  iapply (at_read c (m := Memref.whole cc0_stg0_0)) $$ HX
  iintro HX
  iapply (at_head c 0 0 1 rfl rfl rfl rfl) $$ HC
  iintro HC
  iapply (at_read c (m := Memref.whole cc0_stg0_0)) $$ HX
  iintro HX
  iapply (at_read c (m := Memref.whole cc0_stg0_0)) $$ HX
  iintro HX
  iapply (at_end c)
  iapply Hk
  isplitl [HX]; · iexact HX
  isplitl [HC]; · iexact HC
  isplitl [G1]; · iexact G1
  isplitl [G2]; · iexact G2
  isplitl [G3]; · iexact G3
  isplitl [E0_1]; · iexact E0_1
  isplitl [E0_2]; · iexact E0_2
  isplitl [E0_3]; · iexact E0_3
  iexact HO

end Cert.KernelIdeal.Ring
-- ==== Proof.KernelIdeal.Part6.lean ====
/-
The heads of batch 1.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The second and the third head of batch 1. -/
theorem part6_spec (Q : (Σ' (v205 : FVec F S256x64 .bf16), FVec F S256x64 .bf16) → sProp 𝕄) :
    iprop(iprop(((Memref.whole cc0_stg0_0).view.loc (c : Thread nD τ) ↦[Finset.univ]{fullShare} X) ∗ heads c 256 (by decide) (head1 X W) 1)
        ∗ (iprop(((Memref.whole cc0_stg0_0).view.loc (c : Thread nD τ) ↦[Finset.univ]{fullShare} X) ∗ heads c 256 (by decide) (head1 X W) 3) -∗ Q ⟨k0_pay17 (k0_pay10 (k0_pay1 (acts X) (wq W))), k0_pay18 (keys X ![3, 0, 192] (by decide))⟩))
      ⊢ wp frame (wpE (defs₀ (F := F)) 𝒱₀ (c : Thread nD τ) none) Set.univ (k0_part6_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 k0_pay2 (k0_pay10 (k0_pay1 (acts X) (wq W))) (k0_pay12 (k0_pay1 (acts X) (wq W))) (k0_pay13 (keys X ![3, 0, 64] (by decide))) (k0_pay14 (keys X ![3, 0, 320] (by decide))) (constant S256x256 .f32 0x00000000#32)) Q := by
  unfold k0_part6_skel
  iintro ⟨⟨HX, HC⟩, Hk⟩
  iapply (at_head c 1 1 2 rfl rfl rfl rfl) $$ HC
  iintro HC
  iapply (at_read c (m := Memref.whole cc0_stg0_0)) $$ HX
  iintro HX
  iapply (at_read c (m := Memref.whole cc0_stg0_0)) $$ HX
  iintro HX
  iapply (at_head c 2 2 3 rfl rfl rfl rfl) $$ HC
  iintro HC
  iapply (at_read c (m := Memref.whole cc0_stg0_0)) $$ HX
  iintro HX
  iapply (at_end c)
  iapply Hk
  isplitl [HX]; · iexact HX
  iexact HC

end Cert.KernelIdeal.Ring
-- ==== Proof.KernelIdeal.Part7.lean ====
/-
The partial product of batch 1 and its copies.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The fourth head of batch 1, the product of batch 1, and the copies of segments 4 to 6. -/
theorem part7_spec (Q : PUnit → sProp 𝕄) :
    iprop(iprop(fam.cellInvs ER (Rd P) κ ∗ Lvs ∗ ((Memref.whole cc0_stg0_0).view.loc (c : Thread nD τ) ↦[Finset.univ]{fullShare} X) ∗ ((Memref.whole cc0_stg2_0).view.loc (c : Thread nD τ) ↦[Finset.univ]{fullShare} O) ∗ heads c 256 (by decide) (head1 X W) 3 ∗ (∃ f, half (F := F) c 1 f) ∗ ifp 4 c (rowPre (F := F) c 4) ∗ ifp 5 c (rowPre (F := F) c 5) ∗ ifp 6 c (rowPre (F := F) c 6) ∗ owesE c (dueRow c 4 + (dueRow c 5 + (dueRow c 6 + (dueRow c 7 + D3 c)))))
        ∗ (iprop(((Memref.whole cc0_stg0_0).view.loc (c : Thread nD τ) ↦[Finset.univ]{fullShare} X) ∗ ((Memref.whole cc0_stg2_0).view.loc (c : Thread nD τ) ↦[Finset.univ]{fullShare} O) ∗ heads c 256 (by decide) (head1 X W) 4 ∗ own 4 c (seg c 4 (P c)) ∗ own 5 c (seg c 5 (P c)) ∗ own 6 c (seg c 6 (P c)) ∗ seg c 7 (P c) ∗ ifp 4 c (cred (tallyAt (semC 0 4 c) 0 N)) ∗ ifp 5 c (cred (tallyAt (semC 0 5 c) 0 N)) ∗ ifp 6 c (cred (tallyAt (semC 0 6 c) 0 N)) ∗ owesE c (dueRow c 7 + D3 c)) -∗ Q ⟨⟩))
      ⊢ wp frame (wpE (defs₀ (F := F)) 𝒱₀ (c : Thread nD τ) none) Set.univ (k0_part7_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c) k0_pay2 (k0_pay17 (k0_pay10 (k0_pay1 (acts X) (wq W)))) (k0_pay18 (keys X ![3, 0, 192] (by decide)))) Q := by
  unfold k0_part7_skel
  iintro ⟨⟨#HI, #HL, HX, HB, HC, HA, R4, R5, R6, HO⟩, Hk⟩
  iapply (at_read c (m := Memref.whole cc0_stg0_0)) $$ HX
  iintro HX
  iapply (at_head c 3 3 4 rfl rfl rfl rfl) $$ HC
  iintro HC
  iapply (at_ctx c rfl) $$ HC
  iintro HC
  iapply (at_read c (m := Memref.whole cc0_stg2_0)) $$ HB
  iintro HB
  icases HA with ⟨%fA, HA⟩
  iapply (at_half1 P c X W O hP) $$ HA
  iintro HA
  icases (Entails.of_eq (half1_segs c (P c))) $$ HA with ⟨G4, G5, G6, G7⟩
  icases (ready_row P c 4) $$ [R4 G4] with ⟨R4, G4⟩
  · isplitl [R4]; · iexact R4
    iexact G4
  iapply (at_row P κ c 4 (cond13 c) (fun _ => rfl) (seg_of 4 (off := ![256, 0]) (by decide) _) (fun _ => row_of c (off10 c) _) (sem_of0 4 rfl _) (fun _ => sem_of1 c (off9 c) _) _) $$ [R4 HO]
  · isplitr; · iexact HI
    isplitl [R4]; · iexact R4
    iexact HO
  iintro ⟨HO, E0_4⟩
  icases (ready_row P c 5) $$ [R5 G5] with ⟨R5, G5⟩
  · isplitl [R5]; · iexact R5
    iexact G5
  iapply (at_row P κ c 5 (cond14 c) (fun _ => rfl) (seg_of 5 (off := ![320, 0]) (by decide) _) (fun _ => row_of c (off12 c) _) (sem_of0 5 rfl _) (fun _ => sem_of1 c (off11 c) _) _) $$ [R5 HO]
  · isplitr; · iexact HI
    isplitl [R5]; · iexact R5
    iexact HO
  iintro ⟨HO, E0_5⟩
  icases (ready_row P c 6) $$ [R6 G6] with ⟨R6, G6⟩
  · isplitl [R6]; · iexact R6
    iexact G6
  iapply (at_row P κ c 6 (cond15 c) (fun _ => rfl) (seg_of 6 (off := ![384, 0]) (by decide) _) (fun _ => row_of c (off14 c) _) (sem_of0 6 rfl _) (fun _ => sem_of1 c (off13 c) _) _) $$ [R6 HO]
  · isplitr; · iexact HI
    isplitl [R6]; · iexact R6
    iexact HO
  iintro ⟨HO, E0_6⟩
  iapply (at_end c)
  iapply Hk
  isplitl [HX]; · iexact HX
  isplitl [HB]; · iexact HB
  isplitl [HC]; · iexact HC
  isplitl [G4]; · iexact G4
  isplitl [G5]; · iexact G5
  isplitl [G6]; · iexact G6
  isplitl [G7]; · iexact G7
  isplitl [E0_4]; · iexact E0_4
  isplitl [E0_5]; · iexact E0_5
  isplitl [E0_6]; · iexact E0_6
  iexact HO

end Cert.KernelIdeal.Ring
-- ==== Proof.KernelIdeal.Part8.lean ====
/-
The arrivals in the inbox.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The copy of segment 7, the device's own segment put in its own row, and the arrivals from devices 0 to 5. -/
theorem part8_spec (Q : (BitVec 1) → sProp 𝕄) :
    iprop(iprop(fam.cellInvs ER (Rd P) κ ∗ Lvs ∗ own 0 c (seg c 0 (P c)) ∗ own 1 c (seg c 1 (P c)) ∗ own 2 c (seg c 2 (P c)) ∗ own 3 c (seg c 3 (P c)) ∗ own 4 c (seg c 4 (P c)) ∗ own 5 c (seg c 5 (P c)) ∗ own 6 c (seg c 6 (P c)) ∗ seg c 7 (P c) ∗ ifp 7 c (rowPre (F := F) c 7) ∗ (∃ f, row (F := F) c c f) ∗ ifp 0 c (cred (tallyAt (semC 1 0 c) 2 N)) ∗ ifp 1 c (cred (tallyAt (semC 1 1 c) 2 N)) ∗ ifp 2 c (cred (tallyAt (semC 1 2 c) 2 N)) ∗ ifp 3 c (cred (tallyAt (semC 1 3 c) 2 N)) ∗ ifp 4 c (cred (tallyAt (semC 1 4 c) 2 N)) ∗ ifp 5 c (cred (tallyAt (semC 1 5 c) 2 N)) ∗ posBefore c 1 0 ∗ posBefore c 1 1 ∗ posBefore c 1 2 ∗ posBefore c 1 3 ∗ posBefore c 1 4 ∗ posBefore c 1 5 ∗ owesE c (dueRow c 7 + D3 c))
        ∗ (iprop(seg c c (P c) ∗ row c c (inbox P c) ∗ ifp 7 c (cred (tallyAt (semC 0 7 c) 0 N)) ∗ posAfter c 1 0 ∗ posAfter c 1 1 ∗ posAfter c 1 2 ∗ posAfter c 1 3 ∗ posAfter c 1 4 ∗ posAfter c 1 5 ∗ ifp 0 c (copyPay P c 1 0) ∗ ifp 1 c (copyPay P c 1 1) ∗ ifp 2 c (copyPay P c 1 2) ∗ ifp 3 c (copyPay P c 1 3) ∗ ifp 4 c (copyPay P c 1 4) ∗ ifp 5 c (copyPay P c 1 5) ∗ owesE c (D3 c)) -∗ Q (Scalar.cmpi .ne (Scalar.extui (Scalar.cmpi .ne (me c) 6#32) : BitVec 32) 0#32)))
      ⊢ wp frame (wpE (defs₀ (F := F)) 𝒱₀ (c : Thread nD τ) none) Set.univ (k0_part8_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c)) Q := by
  unfold k0_part8_skel
  iintro ⟨⟨#HI, #HL, G0, G1, G2, G3, G4, G5, G6, G7, R7, RC, E1_0, E1_1, E1_2, E1_3, E1_4, E1_5, T1_0, T1_1, T1_2, T1_3, T1_4, T1_5, HO⟩, Hk⟩
  icases (ready_row P c 7) $$ [R7 G7] with ⟨R7, G7⟩
  · isplitl [R7]; · iexact R7
    iexact G7
  iapply (at_row P κ c 7 (cond16 c) (fun _ => rfl) (seg_of 7 (off := ![448, 0]) (by decide) _) (fun _ => row_of c (off16 c) _) (sem_of0 7 rfl _) (fun _ => sem_of1 c (off15 c) _) _) $$ [R7 HO]
  · isplitr; · iexact HI
    isplitl [R7]; · iexact R7
    iexact HO
  iintro ⟨HO, E0_7⟩
  ihave GC := (Entails.of_eq (own8 c fun p => seg c p (P c))) $$ [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  iapply (at_own_row P c (off17 c) (off18 c)) $$ [GC RC]
  · isplitl [GC]; · iexact GC
    iexact RC
  iintro ⟨GC, RC⟩
  iapply (at_wait P κ c 1 0 2 (guard0 c) (sem_of1 0 rfl _) (credit_row 0 (off := ![0, 0, 0]) (by decide) _) (D3 c) Lvs (mayWait c _ (by decide) (above_D3 c (by decide)))) $$ [E1_0 T1_0 HO]
  · isplitr; · iexact HI
    isplitr; · iexact HL
    isplitl [E1_0]; · iexact E1_0
    isplitl [T1_0]; · iexact T1_0
    iexact HO
  iintro ⟨HO, T1_0, Y1_0⟩
  iapply (at_wait P κ c 1 1 2 (guard1 c) (sem_of1 1 rfl _) (credit_row 1 (off := ![1, 0, 0]) (by decide) _) (D3 c) Lvs (mayWait c _ (by decide) (above_D3 c (by decide)))) $$ [E1_1 T1_1 HO]
  · isplitr; · iexact HI
    isplitr; · iexact HL
    isplitl [E1_1]; · iexact E1_1
    isplitl [T1_1]; · iexact T1_1
    iexact HO
  iintro ⟨HO, T1_1, Y1_1⟩
  iapply (at_wait P κ c 1 2 2 (guard2 c) (sem_of1 2 rfl _) (credit_row 2 (off := ![2, 0, 0]) (by decide) _) (D3 c) Lvs (mayWait c _ (by decide) (above_D3 c (by decide)))) $$ [E1_2 T1_2 HO]
  · isplitr; · iexact HI
    isplitr; · iexact HL
    isplitl [E1_2]; · iexact E1_2
    isplitl [T1_2]; · iexact T1_2
    iexact HO
  iintro ⟨HO, T1_2, Y1_2⟩
  iapply (at_wait P κ c 1 3 2 (guard3 c) (sem_of1 3 rfl _) (credit_row 3 (off := ![3, 0, 0]) (by decide) _) (D3 c) Lvs (mayWait c _ (by decide) (above_D3 c (by decide)))) $$ [E1_3 T1_3 HO]
  · isplitr; · iexact HI
    isplitr; · iexact HL
    isplitl [E1_3]; · iexact E1_3
    isplitl [T1_3]; · iexact T1_3
    iexact HO
  iintro ⟨HO, T1_3, Y1_3⟩
  iapply (at_wait P κ c 1 4 2 (guard4 c) (sem_of1 4 rfl _) (credit_row 4 (off := ![4, 0, 0]) (by decide) _) (D3 c) Lvs (mayWait c _ (by decide) (above_D3 c (by decide)))) $$ [E1_4 T1_4 HO]
  · isplitr; · iexact HI
    isplitr; · iexact HL
    isplitl [E1_4]; · iexact E1_4
    isplitl [T1_4]; · iexact T1_4
    iexact HO
  iintro ⟨HO, T1_4, Y1_4⟩
  iapply (at_wait P κ c 1 5 2 (guard5 c) (sem_of1 5 rfl _) (credit_row 5 (off := ![5, 0, 0]) (by decide) _) (D3 c) Lvs (mayWait c _ (by decide) (above_D3 c (by decide)))) $$ [E1_5 T1_5 HO]
  · isplitr; · iexact HI
    isplitr; · iexact HL
    isplitl [E1_5]; · iexact E1_5
    isplitl [T1_5]; · iexact T1_5
    iexact HO
  iintro ⟨HO, T1_5, Y1_5⟩
  iapply (at_end c)
  iapply Hk
  isplitl [GC]; · iexact GC
  isplitl [RC]; · iexact RC
  isplitl [E0_7]; · iexact E0_7
  isplitl [T1_0]; · iexact T1_0
  isplitl [T1_1]; · iexact T1_1
  isplitl [T1_2]; · iexact T1_2
  isplitl [T1_3]; · iexact T1_3
  isplitl [T1_4]; · iexact T1_4
  isplitl [T1_5]; · iexact T1_5
  isplitl [Y1_0]; · iexact Y1_0
  isplitl [Y1_1]; · iexact Y1_1
  isplitl [Y1_2]; · iexact Y1_2
  isplitl [Y1_3]; · iexact Y1_3
  isplitl [Y1_4]; · iexact Y1_4
  isplitl [Y1_5]; · iexact Y1_5
  iexact HO

end Cert.KernelIdeal.Ring
-- ==== Proof.KernelIdeal.Part9.lean ====
/-
The sum of the inbox and its copies.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The arrivals from devices 6 and 7, the sum, and the copies of the sum to devices 0 to 5. -/
theorem part9_spec (Q : (BitVec 32) → sProp 𝕄) :
    iprop(iprop(fam.cellInvs ER (Rd P) κ ∗ Lvs ∗ row c c (inbox P c) ∗ ifp 0 c (copyPay P c 1 0) ∗ ifp 1 c (copyPay P c 1 1) ∗ ifp 2 c (copyPay P c 1 2) ∗ ifp 3 c (copyPay P c 1 3) ∗ ifp 4 c (copyPay P c 1 4) ∗ ifp 5 c (copyPay P c 1 5) ∗ ifp 6 c (cred (tallyAt (semC 1 6 c) 2 N)) ∗ ifp 7 c (cred (tallyAt (semC 1 7 c) 2 N)) ∗ posBefore c 1 6 ∗ posBefore c 1 7 ∗ (∃ f : Vec F S64x512 .bf16, ((Memref.whole cc0_scratch2).view.loc (c : Thread nD τ) ↦[Finset.univ]{fullShare} f)) ∗ ifp 0 c (outPre (F := F) c 0) ∗ ifp 1 c (outPre (F := F) c 1) ∗ ifp 2 c (outPre (F := F) c 2) ∗ ifp 3 c (outPre (F := F) c 3) ∗ ifp 4 c (outPre (F := F) c 4) ∗ ifp 5 c (outPre (F := F) c 5) ∗ owesE c (D3 c))
        ∗ (iprop(((Memref.whole cc0_scratch3).view.loc (c : Thread nD τ) ↦[Finset.univ]{fullShare} inbox P c) ∗ posAfter c 1 6 ∗ posAfter c 1 7 ∗ own 0 c (redAt c 0 (red P c)) ∗ own 1 c (redAt c 1 (red P c)) ∗ own 2 c (redAt c 2 (red P c)) ∗ own 3 c (redAt c 3 (red P c)) ∗ own 4 c (redAt c 4 (red P c)) ∗ own 5 c (redAt c 5 (red P c)) ∗ redAt c 6 (red P c) ∗ redAt c 7 (red P c) ∗ ifp 0 c (cred (tallyAt (semC 2 0 c) 0 N)) ∗ ifp 1 c (cred (tallyAt (semC 2 1 c) 0 N)) ∗ ifp 2 c (cred (tallyAt (semC 2 2 c) 0 N)) ∗ ifp 3 c (cred (tallyAt (semC 2 3 c) 0 N)) ∗ ifp 4 c (cred (tallyAt (semC 2 4 c) 0 N)) ∗ ifp 5 c (cred (tallyAt (semC 2 5 c) 0 N)) ∗ owesE c (dueOut c 6 + (dueOut c 7 + 0))) -∗ Q (Scalar.extui (Scalar.cmpi .ne (me c) 6#32) : BitVec 32)))
      ⊢ wp frame (wpE (defs₀ (F := F)) 𝒱₀ (c : Thread nD τ) none) Set.univ (k0_part9_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c) (Scalar.cmpi .ne (Scalar.extui (Scalar.cmpi .ne (me c) 6#32) : BitVec 32) 0#32)) Q := by
  unfold k0_part9_skel
  iintro ⟨⟨#HI, #HL, RC, Y1_0, Y1_1, Y1_2, Y1_3, Y1_4, Y1_5, E1_6, E1_7, T1_6, T1_7, HS, U0, U1, U2, U3, U4, U5, HO⟩, Hk⟩
  iapply (at_wait P κ c 1 6 2 (guard6 c) (sem_of1 6 rfl _) (credit_row 6 (off := ![6, 0, 0]) (by decide) _) (D3 c) Lvs (mayWait c _ (by decide) (above_D3 c (by decide)))) $$ [E1_6 T1_6 HO]
  · isplitr; · iexact HI
    isplitr; · iexact HL
    isplitl [E1_6]; · iexact E1_6
    isplitl [T1_6]; · iexact T1_6
    iexact HO
  iintro ⟨HO, T1_6, Y1_6⟩
  iapply (at_wait P κ c 1 7 2 (guard7 c) (sem_of1 7 rfl _) (credit_row 7 (off := ![7, 0, 0]) (by decide) _) (D3 c) Lvs (mayWait c _ (by decide) (above_D3 c (by decide)))) $$ [E1_7 T1_7 HO]
  · isplitr; · iexact HI
    isplitr; · iexact HL
    isplitl [E1_7]; · iexact E1_7
    isplitl [T1_7]; · iexact T1_7
    iexact HO
  iintro ⟨HO, T1_7, Y1_7⟩
  ihave HM := (inbox_whole P c) $$ [RC Y1_0 Y1_1 Y1_2 Y1_3 Y1_4 Y1_5 Y1_6 Y1_7]
  · isplitl [RC]; · iexact RC
    isplitl [Y1_0]; · iexact Y1_0
    isplitl [Y1_1]; · iexact Y1_1
    isplitl [Y1_2]; · iexact Y1_2
    isplitl [Y1_3]; · iexact Y1_3
    isplitl [Y1_4]; · iexact Y1_4
    isplitl [Y1_5]; · iexact Y1_5
    isplitl [Y1_6]; · iexact Y1_6
    iexact Y1_7
  icases HS with ⟨%fS, HS⟩
  iapply (at_sum P c) $$ [HM HS]
  · isplitl [HM]; · iexact HM
    iexact HS
  iintro ⟨HM, V0, V1, V2, V3, V4, V5, V6, V7⟩
  icases (ready_out P c 0) $$ [U0 V0] with ⟨U0, V0⟩
  · isplitl [U0]; · iexact U0
    iexact V0
  iapply (at_out P κ c 0 (cond25 c) (fun _ => rfl) (fun _ => out_of c (off20 c) _) (sem_of2 0 rfl _) (fun _ => sem_of3 c (off19 c) _) _) $$ [U0 HO]
  · isplitr; · iexact HI
    isplitl [U0]; · iexact U0
    iexact HO
  iintro ⟨HO, E2_0⟩
  icases (ready_out P c 1) $$ [U1 V1] with ⟨U1, V1⟩
  · isplitl [U1]; · iexact U1
    iexact V1
  iapply (at_out P κ c 1 (cond26 c) (fun _ => rfl) (fun _ => out_of c (off22 c) _) (sem_of2 1 rfl _) (fun _ => sem_of3 c (off21 c) _) _) $$ [U1 HO]
  · isplitr; · iexact HI
    isplitl [U1]; · iexact U1
    iexact HO
  iintro ⟨HO, E2_1⟩
  icases (ready_out P c 2) $$ [U2 V2] with ⟨U2, V2⟩
  · isplitl [U2]; · iexact U2
    iexact V2
  iapply (at_out P κ c 2 (cond27 c) (fun _ => rfl) (fun _ => out_of c (off24 c) _) (sem_of2 2 rfl _) (fun _ => sem_of3 c (off23 c) _) _) $$ [U2 HO]
  · isplitr; · iexact HI
    isplitl [U2]; · iexact U2
    iexact HO
  iintro ⟨HO, E2_2⟩
  icases (ready_out P c 3) $$ [U3 V3] with ⟨U3, V3⟩
  · isplitl [U3]; · iexact U3
    iexact V3
  iapply (at_out P κ c 3 (cond28 c) (fun _ => rfl) (fun _ => out_of c (off26 c) _) (sem_of2 3 rfl _) (fun _ => sem_of3 c (off25 c) _) _) $$ [U3 HO]
  · isplitr; · iexact HI
    isplitl [U3]; · iexact U3
    iexact HO
  iintro ⟨HO, E2_3⟩
  icases (ready_out P c 4) $$ [U4 V4] with ⟨U4, V4⟩
  · isplitl [U4]; · iexact U4
    iexact V4
  iapply (at_out P κ c 4 (cond29 c) (fun _ => rfl) (fun _ => out_of c (off28 c) _) (sem_of2 4 rfl _) (fun _ => sem_of3 c (off27 c) _) _) $$ [U4 HO]
  · isplitr; · iexact HI
    isplitl [U4]; · iexact U4
    iexact HO
  iintro ⟨HO, E2_4⟩
  icases (ready_out P c 5) $$ [U5 V5] with ⟨U5, V5⟩
  · isplitl [U5]; · iexact U5
    iexact V5
  iapply (at_out P κ c 5 (cond30 c) (fun _ => rfl) (fun _ => out_of c (off30 c) _) (sem_of2 5 rfl _) (fun _ => sem_of3 c (off29 c) _) _) $$ [U5 HO]
  · isplitr; · iexact HI
    isplitl [U5]; · iexact U5
    iexact HO
  iintro ⟨HO, E2_5⟩
  iapply (at_end c)
  iapply Hk
  isplitl [HM]; · iexact HM
  isplitl [T1_6]; · iexact T1_6
  isplitl [T1_7]; · iexact T1_7
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [E2_0]; · iexact E2_0
  isplitl [E2_1]; · iexact E2_1
  isplitl [E2_2]; · iexact E2_2
  isplitl [E2_3]; · iexact E2_3
  isplitl [E2_4]; · iexact E2_4
  isplitl [E2_5]; · iexact E2_5
  iexact HO

end Cert.KernelIdeal.Ring
-- ==== Proof.KernelIdeal.Part10.lean ====
/-
The last copies of the sum.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The copies of the sum to devices 6 and 7, and the device's own sum in its own rows. -/
theorem part10_spec (Q : PUnit → sProp 𝕄) :
    iprop(iprop(fam.cellInvs ER (Rd P) κ ∗ Lvs ∗ own 0 c (redAt c 0 (red P c)) ∗ own 1 c (redAt c 1 (red P c)) ∗ own 2 c (redAt c 2 (red P c)) ∗ own 3 c (redAt c 3 (red P c)) ∗ own 4 c (redAt c 4 (red P c)) ∗ own 5 c (redAt c 5 (red P c)) ∗ redAt c 6 (red P c) ∗ redAt c 7 (red P c) ∗ ifp 6 c (outPre (F := F) c 6) ∗ ifp 7 c (outPre (F := F) c 7) ∗ (∃ f, outs (F := F) c c f) ∗ owesE c (dueOut c 6 + (dueOut c 7 + 0)))
        ∗ (iprop(redAt c c (red P c) ∗ outs c c (out P) ∗ ifp 6 c (cred (tallyAt (semC 2 6 c) 0 N)) ∗ ifp 7 c (cred (tallyAt (semC 2 7 c) 0 N)) ∗ owesE c (0)) -∗ Q ⟨⟩))
      ⊢ wp frame (wpE (defs₀ (F := F)) 𝒱₀ (c : Thread nD τ) none) Set.univ (k0_part10_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 c (me c) (Scalar.extui (Scalar.cmpi .ne (me c) 6#32) : BitVec 32)) Q := by
  unfold k0_part10_skel
  iintro ⟨⟨#HI, #HL, V0, V1, V2, V3, V4, V5, V6, V7, U6, U7, OC, HO⟩, Hk⟩
  icases (ready_out P c 6) $$ [U6 V6] with ⟨U6, V6⟩
  · isplitl [U6]; · iexact U6
    iexact V6
  iapply (at_out P κ c 6 (cond31 c) (fun _ => rfl) (fun _ => out_of c (off32 c) _) (sem_of2 6 rfl _) (fun _ => sem_of3 c (off31 c) _) _) $$ [U6 HO]
  · isplitr; · iexact HI
    isplitl [U6]; · iexact U6
    iexact HO
  iintro ⟨HO, E2_6⟩
  icases (ready_out P c 7) $$ [U7 V7] with ⟨U7, V7⟩
  · isplitl [U7]; · iexact U7
    iexact V7
  iapply (at_out P κ c 7 (cond32 c) (fun _ => rfl) (fun _ => out_of c (off34 c) _) (sem_of2 7 rfl _) (fun _ => sem_of3 c (off33 c) _) _) $$ [U7 HO]
  · isplitr; · iexact HI
    isplitl [U7]; · iexact U7
    iexact HO
  iintro ⟨HO, E2_7⟩
  ihave VC := (Entails.of_eq (own8 c fun p => redAt c p (red P c))) $$ [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  iapply (at_own_out P c (off35 c)) $$ [VC OC]
  · isplitl [VC]; · iexact VC
    iexact OC
  iintro ⟨VC, OC⟩
  iapply (at_end c)
  iapply Hk
  isplitl [VC]; · iexact VC
  isplitl [OC]; · iexact OC
  isplitl [E2_6]; · iexact E2_6
  isplitl [E2_7]; · iexact E2_7
  iexact HO

end Cert.KernelIdeal.Ring
-- ==== Proof.KernelIdeal.Part11.lean ====
/-
The arrivals in the result.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The arrivals of the sums, and the departures of segments 0 and 1. -/
theorem part11_spec (Q : PUnit → sProp 𝕄) :
    iprop(iprop(fam.cellInvs ER (Rd P) κ ∗ Lvs ∗ ifp 0 c (cred (tallyAt (semC 3 0 c) 3 N)) ∗ ifp 1 c (cred (tallyAt (semC 3 1 c) 3 N)) ∗ ifp 2 c (cred (tallyAt (semC 3 2 c) 3 N)) ∗ ifp 3 c (cred (tallyAt (semC 3 3 c) 3 N)) ∗ ifp 4 c (cred (tallyAt (semC 3 4 c) 3 N)) ∗ ifp 5 c (cred (tallyAt (semC 3 5 c) 3 N)) ∗ ifp 6 c (cred (tallyAt (semC 3 6 c) 3 N)) ∗ ifp 7 c (cred (tallyAt (semC 3 7 c) 3 N)) ∗ ifp 0 c (cred (tallyAt (semC 0 0 c) 0 N)) ∗ ifp 1 c (cred (tallyAt (semC 0 1 c) 0 N)) ∗ posBefore c 3 0 ∗ posBefore c 3 1 ∗ posBefore c 3 2 ∗ posBefore c 3 3 ∗ posBefore c 3 4 ∗ posBefore c 3 5 ∗ posBefore c 3 6 ∗ posBefore c 3 7 ∗ posBefore c 0 0 ∗ posBefore c 0 1 ∗ owesE c (0))
        ∗ (iprop(posAfter c 3 0 ∗ posAfter c 3 1 ∗ posAfter c 3 2 ∗ posAfter c 3 3 ∗ posAfter c 3 4 ∗ posAfter c 3 5 ∗ posAfter c 3 6 ∗ posAfter c 3 7 ∗ posAfter c 0 0 ∗ posAfter c 0 1 ∗ ifp 0 c (copyPay P c 3 0) ∗ ifp 1 c (copyPay P c 3 1) ∗ ifp 2 c (copyPay P c 3 2) ∗ ifp 3 c (copyPay P c 3 3) ∗ ifp 4 c (copyPay P c 3 4) ∗ ifp 5 c (copyPay P c 3 5) ∗ ifp 6 c (copyPay P c 3 6) ∗ ifp 7 c (copyPay P c 3 7) ∗ ifp 0 c (copyPay P c 0 0) ∗ ifp 1 c (copyPay P c 0 1) ∗ owesE c (0)) -∗ Q ⟨⟩))
      ⊢ wp frame (wpE (defs₀ (F := F)) 𝒱₀ (c : Thread nD τ) none) Set.univ (k0_part11_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 (me c)) Q := by
  unfold k0_part11_skel
  iintro ⟨⟨#HI, #HL, E3_0, E3_1, E3_2, E3_3, E3_4, E3_5, E3_6, E3_7, E0_0, E0_1, T3_0, T3_1, T3_2, T3_3, T3_4, T3_5, T3_6, T3_7, T0_0, T0_1, HO⟩, Hk⟩
  iapply (at_wait P κ c 3 0 3 (guard0 c) (sem_of3 0 rfl _) (credit_out 0 (off := ![0, 0, 0]) (by decide) _) 0 Lvs (mayWait c _ (by decide) (Above.zero 3))) $$ [E3_0 T3_0 HO]
  · isplitr; · iexact HI
    isplitr; · iexact HL
    isplitl [E3_0]; · iexact E3_0
    isplitl [T3_0]; · iexact T3_0
    iexact HO
  iintro ⟨HO, T3_0, Y3_0⟩
  iapply (at_wait P κ c 3 1 3 (guard1 c) (sem_of3 1 rfl _) (credit_out 1 (off := ![0, 64, 0]) (by decide) _) 0 Lvs (mayWait c _ (by decide) (Above.zero 3))) $$ [E3_1 T3_1 HO]
  · isplitr; · iexact HI
    isplitr; · iexact HL
    isplitl [E3_1]; · iexact E3_1
    isplitl [T3_1]; · iexact T3_1
    iexact HO
  iintro ⟨HO, T3_1, Y3_1⟩
  iapply (at_wait P κ c 3 2 3 (guard2 c) (sem_of3 2 rfl _) (credit_out 2 (off := ![0, 128, 0]) (by decide) _) 0 Lvs (mayWait c _ (by decide) (Above.zero 3))) $$ [E3_2 T3_2 HO]
  · isplitr; · iexact HI
    isplitr; · iexact HL
    isplitl [E3_2]; · iexact E3_2
    isplitl [T3_2]; · iexact T3_2
    iexact HO
  iintro ⟨HO, T3_2, Y3_2⟩
  iapply (at_wait P κ c 3 3 3 (guard3 c) (sem_of3 3 rfl _) (credit_out 3 (off := ![0, 192, 0]) (by decide) _) 0 Lvs (mayWait c _ (by decide) (Above.zero 3))) $$ [E3_3 T3_3 HO]
  · isplitr; · iexact HI
    isplitr; · iexact HL
    isplitl [E3_3]; · iexact E3_3
    isplitl [T3_3]; · iexact T3_3
    iexact HO
  iintro ⟨HO, T3_3, Y3_3⟩
  iapply (at_wait P κ c 3 4 3 (guard4 c) (sem_of3 4 rfl _) (credit_out 4 (off := ![1, 0, 0]) (by decide) _) 0 Lvs (mayWait c _ (by decide) (Above.zero 3))) $$ [E3_4 T3_4 HO]
  · isplitr; · iexact HI
    isplitr; · iexact HL
    isplitl [E3_4]; · iexact E3_4
    isplitl [T3_4]; · iexact T3_4
    iexact HO
  iintro ⟨HO, T3_4, Y3_4⟩
  iapply (at_wait P κ c 3 5 3 (guard5 c) (sem_of3 5 rfl _) (credit_out 5 (off := ![1, 64, 0]) (by decide) _) 0 Lvs (mayWait c _ (by decide) (Above.zero 3))) $$ [E3_5 T3_5 HO]
  · isplitr; · iexact HI
    isplitr; · iexact HL
    isplitl [E3_5]; · iexact E3_5
    isplitl [T3_5]; · iexact T3_5
    iexact HO
  iintro ⟨HO, T3_5, Y3_5⟩
  iapply (at_wait P κ c 3 6 3 (guard6 c) (sem_of3 6 rfl _) (credit_out 6 (off := ![1, 128, 0]) (by decide) _) 0 Lvs (mayWait c _ (by decide) (Above.zero 3))) $$ [E3_6 T3_6 HO]
  · isplitr; · iexact HI
    isplitr; · iexact HL
    isplitl [E3_6]; · iexact E3_6
    isplitl [T3_6]; · iexact T3_6
    iexact HO
  iintro ⟨HO, T3_6, Y3_6⟩
  iapply (at_wait P κ c 3 7 3 (guard7 c) (sem_of3 7 rfl _) (credit_out 7 (off := ![1, 192, 0]) (by decide) _) 0 Lvs (mayWait c _ (by decide) (Above.zero 3))) $$ [E3_7 T3_7 HO]
  · isplitr; · iexact HI
    isplitr; · iexact HL
    isplitl [E3_7]; · iexact E3_7
    isplitl [T3_7]; · iexact T3_7
    iexact HO
  iintro ⟨HO, T3_7, Y3_7⟩
  iapply (at_wait P κ c 0 0 0 (guard0 c) (sem_of0 0 rfl _) credit_red 0 Lvs (mayWait c _ (by decide) (Above.zero 0))) $$ [E0_0 T0_0 HO]
  · isplitr; · iexact HI
    isplitr; · iexact HL
    isplitl [E0_0]; · iexact E0_0
    isplitl [T0_0]; · iexact T0_0
    iexact HO
  iintro ⟨HO, T0_0, Y0_0⟩
  iapply (at_wait P κ c 0 1 0 (guard1 c) (sem_of0 1 rfl _) credit_red 0 Lvs (mayWait c _ (by decide) (Above.zero 0))) $$ [E0_1 T0_1 HO]
  · isplitr; · iexact HI
    isplitr; · iexact HL
    isplitl [E0_1]; · iexact E0_1
    isplitl [T0_1]; · iexact T0_1
    iexact HO
  iintro ⟨HO, T0_1, Y0_1⟩
  iapply (at_end c)
  iapply Hk
  isplitl [T3_0]; · iexact T3_0
  isplitl [T3_1]; · iexact T3_1
  isplitl [T3_2]; · iexact T3_2
  isplitl [T3_3]; · iexact T3_3
  isplitl [T3_4]; · iexact T3_4
  isplitl [T3_5]; · iexact T3_5
  isplitl [T3_6]; · iexact T3_6
  isplitl [T3_7]; · iexact T3_7
  isplitl [T0_0]; · iexact T0_0
  isplitl [T0_1]; · iexact T0_1
  isplitl [Y3_0]; · iexact Y3_0
  isplitl [Y3_1]; · iexact Y3_1
  isplitl [Y3_2]; · iexact Y3_2
  isplitl [Y3_3]; · iexact Y3_3
  isplitl [Y3_4]; · iexact Y3_4
  isplitl [Y3_5]; · iexact Y3_5
  isplitl [Y3_6]; · iexact Y3_6
  isplitl [Y3_7]; · iexact Y3_7
  isplitl [Y0_0]; · iexact Y0_0
  isplitl [Y0_1]; · iexact Y0_1
  iexact HO

end Cert.KernelIdeal.Ring
-- ==== Proof.KernelIdeal.Part12.lean ====
/-
The departures.
-/
module

public import proofs.«01_k».proof.Proof.KernelIdeal.Moves
public import proofs.«01_k».proof.Proof.KernelIdeal.Facts

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

variable (hP : P c = part X W O)
include P X W O κ hP

/-- The departures of segments 2 to 7, and those of the sum to devices 0 to 3. -/
theorem part12_spec (Q : PUnit → sProp 𝕄) :
    iprop(iprop(fam.cellInvs ER (Rd P) κ ∗ Lvs ∗ ifp 2 c (cred (tallyAt (semC 0 2 c) 0 N)) ∗ ifp 3 c (cred (tallyAt (semC 0 3 c) 0 N)) ∗ ifp 4 c (cred (tallyAt (semC 0 4 c) 0 N)) ∗ ifp 5 c (cred (tallyAt (semC 0 5 c) 0 N)) ∗ ifp 6 c (cred (tallyAt (semC 0 6 c) 0 N)) ∗ ifp 7 c (cred (tallyAt (semC 0 7 c) 0 N)) ∗ ifp 0 c (cred (tallyAt (semC 2 0 c) 0 N)) ∗ ifp 1 c (cred (tallyAt (semC 2 1 c) 0 N)) ∗ ifp 2 c (cred (tallyAt (semC 2 2 c) 0 N)) ∗ ifp 3 c (cred (tallyAt (semC 2 3 c) 0 N)) ∗ posBefore c 0 2 ∗ posBefore c 0 3 ∗ posBefore c 0 4 ∗ posBefore c 0 5 ∗ posBefore c 0 6 ∗ posBefore c 0 7 ∗ posBefore c 2 0 ∗ posBefore c 2 1 ∗ posBefore c 2 2 ∗ posBefore c 2 3 ∗ owesE c (0))
        ∗ (iprop(posAfter c 0 2 ∗ posAfter c 0 3 ∗ posAfter c 0 4 ∗ posAfter c 0 5 ∗ posAfter c 0 6 ∗ posAfter c 0 7 ∗ posAfter c 2 0 ∗ posAfter c 2 1 ∗ posAfter c 2 2 ∗ posAfter c 2 3 ∗ ifp 2 c (copyPay P c 0 2) ∗ ifp 3 c (copyPay P c 0 3) ∗ ifp 4 c (copyPay P c 0 4) ∗ ifp 5 c (copyPay P c 0 5) ∗ ifp 6 c (copyPay P c 0 6) ∗ ifp 7 c (copyPay P c 0 7) ∗ ifp 0 c (copyPay P c 2 0) ∗ ifp 1 c (copyPay P c 2 1) ∗ ifp 2 c (copyPay P c 2 2) ∗ ifp 3 c (copyPay P c 2 3) ∗ owesE c (0)) -∗ Q ⟨⟩))
      ⊢ wp frame (wpE (defs₀ (F := F)) 𝒱₀ (c : Thread nD τ) none) Set.univ (k0_part12_skel (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7 (me c)) Q := by
  unfold k0_part12_skel
  iintro ⟨⟨#HI, #HL, E0_2, E0_3, E0_4, E0_5, E0_6, E0_7, E2_0, E2_1, E2_2, E2_3, T0_2, T0_3, T0_4, T0_5, T0_6, T0_7, T2_0, T2_1, T2_2, T2_3, HO⟩, Hk⟩
  iapply (at_wait P κ c 0 2 0 (guard2 c) (sem_of0 2 rfl _) credit_red 0 Lvs (mayWait c _ (by decide) (Above.zero 0))) $$ [E0_2 T0_2 HO]
  · isplitr; · iexact HI
    isplitr; · iexact HL
    isplitl [E0_2]; · iexact E0_2
    isplitl [T0_2]; · iexact T0_2
    iexact HO
  iintro ⟨HO, T0_2, Y0_2⟩
  iapply (at_wait P κ c 0 3 0 (guard3 c) (sem_of0 3 rfl _) credit_red 0 Lvs (mayWait c _ (by decide) (Above.zero 0))) $$ [E0_3 T0_3 HO]
  · isplitr; · iexact HI
    isplitr; · iexact HL
    isplitl [E0_3]; · iexact E0_3
    isplitl [T0_3]; · iexact T0_3
    iexact HO
  iintro ⟨HO, T0_3, Y0_3⟩
  iapply (at_wait P κ c 0 4 0 (guard4 c) (sem_of0 4 rfl _) credit_red 0 Lvs (mayWait c _ (by decide) (Above.zero 0))) $$ [E0_4 T0_4 HO]
  · isplitr; · iexact HI
    isplitr; · iexact HL
    isplitl [E0_4]; · iexact E0_4
    isplitl [T0_4]; · iexact T0_4
    iexact HO
  iintro ⟨HO, T0_4, Y0_4⟩
  iapply (at_wait P κ c 0 5 0 (guard5 c) (sem_of0 5 rfl _) credit_red 0 Lvs (mayWait c _ (by decide) (Above.zero 0))) $$ [E0_5 T0_5 HO]
  · isplitr; · iexact HI
    isplitr; · iexact HL
    isplitl [E0_5]; · iexact E0_5
    isplitl [T0_5]; · iexact T0_5
    iexact HO
  iintro ⟨HO, T0_5, Y0_5⟩
  iapply (at_wait P κ c 0 6 0 (guard6 c) (sem_of0 6 rfl _) credit_red 0 Lvs (mayWait c _ (by decide) (Above.zero 0))) $$ [E0_6 T0_6 HO]
  · isplitr; · iexact HI
    isplitr; · iexact HL
    isplitl [E0_6]; · iexact E0_6
    isplitl [T0_6]; · iexact T0_6
    iexact HO
  iintro ⟨HO, T0_6, Y0_6⟩
  iapply (at_wait P κ c 0 7 0 (guard7 c) (sem_of0 7 rfl _) credit_red 0 Lvs (mayWait c _ (by decide) (Above.zero 0))) $$ [E0_7 T0_7 HO]
  · isplitr; · iexact HI
    isplitr; · iexact HL
    isplitl [E0_7]; · iexact E0_7
    isplitl [T0_7]; · iexact T0_7
    iexact HO
  iintro ⟨HO, T0_7, Y0_7⟩
  iapply (at_wait P κ c 2 0 0 (guard0 c) (sem_of2 0 rfl _) credit_red 0 Lvs (mayWait c _ (by decide) (Above.zero 0))) $$ [E2_0 T2_0 HO]
  · isplitr; · iexact HI
    isplitr; · iexact HL
    isplitl [E2_0]; · iexact E2_0
    isplitl [T2_0]; · iexact T2_0
    iexact HO
  iintro ⟨HO, T2_0, Y2_0⟩
  iapply (at_wait P κ c 2 1 0 (guard1 c) (sem_of2 1 rfl _) credit_red 0 Lvs (mayWait c _ (by decide) (Above.zero 0))) $$ [E2_1 T2_1 HO]
  · isplitr; · iexact HI
    isplitr; · iexact HL
    isplitl [E2_1]; · iexact E2_1
    isplitl [T2_1]; · iexact T2_1
    iexact HO
  iintro ⟨HO, T2_1, Y2_1⟩
  iapply (at_wait P κ c 2 2 0 (guard2 c) (sem_of2 2 rfl _) credit_red 0 Lvs (mayWait c _ (by decide) (Above.zero 0))) $$ [E2_2 T2_2 HO]
  · isplitr; · iexact HI
    isplitr; · iexact HL
    isplitl [E2_2]; · iexact E2_2
    isplitl [T2_2]; · iexact T2_2
    iexact HO
  iintro ⟨HO, T2_2, Y2_2⟩
  iapply (at_wait P κ c 2 3 0 (guard3 c) (sem_of2 3 rfl _) credit_red 0 Lvs (mayWait c _ (by decide) (Above.zero 0))) $$ [E2_3 T2_3 HO]
  · isplitr; · iexact HI
    isplitr; · iexact HL
    isplitl [E2_3]; · iexact E2_3
    isplitl [T2_3]; · iexact T2_3
    iexact HO
  iintro ⟨HO, T2_3, Y2_3⟩
  iapply (at_end c)
  iapply Hk
  isplitl [T0_2]; · iexact T0_2
  isplitl [T0_3]; · iexact T0_3
  isplitl [T0_4]; · iexact T0_4
  isplitl [T0_5]; · iexact T0_5
  isplitl [T0_6]; · iexact T0_6
  isplitl [T0_7]; · iexact T0_7
  isplitl [T2_0]; · iexact T2_0
  isplitl [T2_1]; · iexact T2_1
  isplitl [T2_2]; · iexact T2_2
  isplitl [T2_3]; · iexact T2_3
  isplitl [Y0_2]; · iexact Y0_2
  isplitl [Y0_3]; · iexact Y0_3
  isplitl [Y0_4]; · iexact Y0_4
  isplitl [Y0_5]; · iexact Y0_5
  isplitl [Y0_6]; · iexact Y0_6
  isplitl [Y0_7]; · iexact Y0_7
  isplitl [Y2_0]; · iexact Y2_0
  isplitl [Y2_1]; · iexact Y2_1
  isplitl [Y2_2]; · iexact Y2_2
  isplitl [Y2_3]; · iexact Y2_3
  iexact HO

end Cert.KernelIdeal.Ring
-- ==== Proof.KernelIdeal.Body.lean ====
/-
The kernel's body, whole.
-/
module

public import proofs.«01_k».proof.Proof.KernelIdeal.Part1
public import proofs.«01_k».proof.Proof.KernelIdeal.Part2
public import proofs.«01_k».proof.Proof.KernelIdeal.Part4
public import proofs.«01_k».proof.Proof.KernelIdeal.Part5
public import proofs.«01_k».proof.Proof.KernelIdeal.Part6
public import proofs.«01_k».proof.Proof.KernelIdeal.Part7
public import proofs.«01_k».proof.Proof.KernelIdeal.Part8
public import proofs.«01_k».proof.Proof.KernelIdeal.Part9
public import proofs.«01_k».proof.Proof.KernelIdeal.Part10
public import proofs.«01_k».proof.Proof.KernelIdeal.Part11
public import proofs.«01_k».proof.Proof.KernelIdeal.Part12

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (X : Vec F S4x256x512 .bf16) (W : Vec F S512x256 .bf16) (O : Vec F S256x512 .bf16) (κ : GSem nD τ sig → ℕ) (c : Dev nD)
variable (h0 : (Memref.whole cc0_stg0_0 : Memref sig .tc .vmem S4x256x512 .bf16).IsWhole) (h1 : (Memref.whole cc0_stg1_0 : Memref sig .tc .vmem S512x256 .bf16).IsWhole)
  (h2 : (Memref.whole cc0_stg2_0 : Memref sig .tc .vmem S256x512 .bf16).IsWhole) (h3 : (Memref.whole cc0_stg3_0 : Memref sig .tc .vmem S2x256x512 .bf16).IsWhole)
  (h4 : (Memref.whole cc0_scratch0 : Memref sig .tc .vmem S512x256 .bf16).IsWhole) (h5 : (Memref.whole cc0_scratch1 : Memref sig .tc .vmem S512x512 .bf16).IsWhole)
  (h6 : (Memref.whole cc0_scratch2 : Memref sig .tc .vmem S64x512 .bf16).IsWhole) (h7 : (Memref.whole cc0_scratch3 : Memref sig .tc .vmem S8x64x512 .bf16).IsWhole)

/-- A program's first part, with its rule, at the head of the rest. -/
theorem at_part {α β : Type} {A : Prog (TpuEff nD τ sig (Elt F) Λ₀ .tc) α} {K : α → Prog (TpuEff nD τ sig (Elt F) Λ₀ .tc) β} {Q : β → sProp 𝕄} {R R' : sProp 𝕄} {a : α}
    (h : ∀ Q' : α → sProp 𝕄, iprop(R ∗ (R' -∗ Q' a)) ⊢ wp frame (wpE (defs₀ (F := F)) 𝒱₀ (c : Thread nD τ) none) Set.univ A Q') :
    R ⊢ iprop((R' -∗ wp frame (wpE (defs₀ (F := F)) 𝒱₀ (c : Thread nD τ) none) Set.univ (K a) Q)
      -∗ wp frame (wpE (defs₀ (F := F)) 𝒱₀ (c : Thread nD τ) none) Set.univ (A >>= K) Q) := by
  rw [wp_bind]
  exact BIClass.wand_intro (h fun x => wp frame (wpE (defs₀ (F := F)) 𝒱₀ (c : Thread nD τ) none) Set.univ (K x) Q)

/-- The device's own tickets for the copy of a segment to `p`. -/
def rowTok (p : Fin 8) : sProp 𝕄 := iprop(dutyTok ER (semC 0 p c) 0 c ∗ reached ER (semC 0 p c) 0 ∗ dutyTok ER (semC 1 c p) 0 c)

/-- The device's own tickets for the copy of the sum to `p`. -/
def outTok (p : Fin 8) : sProp 𝕄 := iprop(dutyTok ER (semC 2 p c) 0 c ∗ reached ER (semC 2 p c) 0 ∗ dutyTok ER (semC 3 c p) 0 c)

/-- With what `p` handed over at the barrier, the tickets are all a copy takes besides its source. -/
theorem tickets (p : Fin 8) : iprop(ifp p c (rowTok (F := F) c p) ∗ ifp p c (outTok (F := F) c p) ∗ ifp p c (barPay c p))
    ⊢ iprop(ifp p c (rowPre (F := F) c p) ∗ ifp p c (outPre (F := F) c p)) := by
  rw [← ifp_sep, ← ifp_sep, ← ifp_sep]
  refine ifp_mono c p ?_
  unfold rowTok outTok barPay rowPre outPre
  iintro ⟨Hr, Ho, H1, H2, H3, H4⟩
  isplitl [Hr H1 H3]
  · isplitl [Hr]; · iexact Hr
    isplitl [H1]; · iexact H1
    iexact H3
  · isplitl [Ho]; · iexact Ho
    isplitl [H2]; · iexact H2
    iexact H4

variable (hP : P c = part X W O)
include P X W O κ hP

set_option maxHeartbeats 4000000 in
set_option maxRecDepth 65536 in
/-- The kernel's body on device `c`: from its inputs and the tickets of the launch, it leaves the sum of all partial products, split and put
    together, in its result. -/
theorem body_spec (Q : PUnit → sProp 𝕄) :
    iprop(iprop(fam.cellInvs ER (Rd P) κ ∗ Lvs ∗ ((Memref.whole cc0_stg0_0).view.loc (c : Thread nD τ) ↦[Finset.univ]{fullShare} X) ∗ ((Memref.whole cc0_stg1_0).view.loc (c : Thread nD τ) ↦[Finset.univ]{fullShare} W) ∗ ((Memref.whole cc0_stg2_0).view.loc (c : Thread nD τ) ↦[Finset.univ]{fullShare} O) ∗ (∃ f : Vec F S512x256 .bf16, ((Memref.whole cc0_scratch0).view.loc (c : Thread nD τ) ↦[Finset.univ]{fullShare} f)) ∗ (∃ f : Vec F S512x512 .bf16, ((Memref.whole cc0_scratch1).view.loc (c : Thread nD τ) ↦[Finset.univ]{fullShare} f)) ∗ (∃ f : Vec F S64x512 .bf16, ((Memref.whole cc0_scratch2).view.loc (c : Thread nD τ) ↦[Finset.univ]{fullShare} f)) ∗ (∃ f, row (F := F) c c f) ∗ (∃ f, outs (F := F) c c f) ∗ (all8 fun p => ifp p c (sigRes c p)) ∗ (all8 fun p => ifp p c (rowTok c p)) ∗ (all8 fun p => ifp p c (outTok c p)) ∗ (all8 fun p => ifp p c (cred (tallyAt (semC 1 p c) 2 N))) ∗ (all8 fun p => ifp p c (cred (tallyAt (semC 3 p c) 3 N))) ∗ (all8 fun p => posBefore c 0 p) ∗ (all8 fun p => posBefore c 1 p) ∗ (all8 fun p => posBefore c 2 p) ∗ (all8 fun p => posBefore c 3 p) ∗ owesE c (D1 c) ∗ cred (tallyAt (barC c) 1 7) ∗ atPos ER (barC c) 0 ∅ 0)
        ∗ (iprop(((Memref.whole cc0_stg0_0).view.loc (c : Thread nD τ) ↦[Finset.univ]{fullShare} X) ∗ ((Memref.whole cc0_stg1_0).view.loc (c : Thread nD τ) ↦[Finset.univ]{fullShare} W) ∗ ((Memref.whole cc0_stg2_0).view.loc (c : Thread nD τ) ↦[Finset.univ]{fullShare} O) ∗ (∃ f : Vec F S512x256 .bf16, ((Memref.whole cc0_scratch0).view.loc (c : Thread nD τ) ↦[Finset.univ]{fullShare} f)) ∗ ((Memref.whole cc0_scratch1).view.loc (c : Thread nD τ) ↦[Finset.univ]{fullShare} P c) ∗ ((Memref.whole cc0_scratch2).view.loc (c : Thread nD τ) ↦[Finset.univ]{fullShare} red P c) ∗ ((Memref.whole cc0_scratch3).view.loc (c : Thread nD τ) ↦[Finset.univ]{fullShare} inbox P c) ∗ ((Memref.whole cc0_stg3_0).view.loc (c : Thread nD τ) ↦[Finset.univ]{fullShare} out P) ∗ (all8 fun p => posAfter c 0 p) ∗ (all8 fun p => posAfter c 1 p) ∗ (all8 fun p => posAfter c 2 p) ∗ (all8 fun p => posAfter c 3 p) ∗ owesE c 0 ∗ atPos ER (barC c) 1 ∅ 0) -∗ Q ⟨⟩))
      ⊢ wp frame (wpE (defs₀ (F := F)) 𝒱₀ (c : Thread nD τ) none) Set.univ (cc0_body (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 cc0_scratch4 cc0_scratch5 cc0_scratch6 cc0_scratch7) Q := by
  rw [cc0_body_eq_skeleton]
  unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  iintro ⟨⟨#HI, #HL, HX, HW, HB, HC, HA, HS, RC, OC, SG, K, M, E1, E3, T0, T1, T2, T3, HO, Hc, Hat⟩, Hk⟩
  iapply (at_part c (fun Q' => part1_spec P κ c h0 h1 h2 h3 h4 h5 h6 h7 Q')) $$ [SG HO Hc Hat]
  · isplitr; · iexact HI
    isplitr; · iexact HL
    isplitl [SG]; · iexact SG
    isplitl [HO]; · iexact HO
    isplitl [Hc]; · iexact Hc
    iexact Hat
  iintro ⟨HO, Hat, HP⟩
  ihave HP := (Entails.of_eq (ifp8_erase c fun d => barPay c d).symm) $$ HP
  icases HP with ⟨B0, B1, B2, B3, B4, B5, B6, B7⟩
  icases K with ⟨K0, K1, K2, K3, K4, K5, K6, K7⟩
  icases M with ⟨M0, M1, M2, M3, M4, M5, M6, M7⟩
  icases (tickets c 0) $$ [K0 M0 B0] with ⟨R0, U0⟩
  · isplitl [K0]; · iexact K0
    isplitl [M0]; · iexact M0
    iexact B0
  icases (tickets c 1) $$ [K1 M1 B1] with ⟨R1, U1⟩
  · isplitl [K1]; · iexact K1
    isplitl [M1]; · iexact M1
    iexact B1
  icases (tickets c 2) $$ [K2 M2 B2] with ⟨R2, U2⟩
  · isplitl [K2]; · iexact K2
    isplitl [M2]; · iexact M2
    iexact B2
  icases (tickets c 3) $$ [K3 M3 B3] with ⟨R3, U3⟩
  · isplitl [K3]; · iexact K3
    isplitl [M3]; · iexact M3
    iexact B3
  icases (tickets c 4) $$ [K4 M4 B4] with ⟨R4, U4⟩
  · isplitl [K4]; · iexact K4
    isplitl [M4]; · iexact M4
    iexact B4
  icases (tickets c 5) $$ [K5 M5 B5] with ⟨R5, U5⟩
  · isplitl [K5]; · iexact K5
    isplitl [M5]; · iexact M5
    iexact B5
  icases (tickets c 6) $$ [K6 M6 B6] with ⟨R6, U6⟩
  · isplitl [K6]; · iexact K6
    isplitl [M6]; · iexact M6
    iexact B6
  icases (tickets c 7) $$ [K7 M7 B7] with ⟨R7, U7⟩
  · isplitl [K7]; · iexact K7
    isplitl [M7]; · iexact M7
    iexact B7
  ihave HC := (heads_zero c 0 (by decide) (head0 X W)) $$ HC
  iapply (at_part c (fun Q' => part2_spec P X W O κ c h0 h1 h2 h3 h4 h5 h6 h7 hP Q')) $$ [HX HW HC]
  · isplitl [HX]; · iexact HX
    isplitl [HW]; · iexact HW
    iexact HC
  iintro ⟨HX, HW, HC⟩
  iapply (at_part c (fun Q' => part3_spec P X W O κ c h0 h1 h2 h3 h4 h5 h6 h7 hP Q')) $$ [HX HC]
  · isplitl [HX]; · iexact HX
    iexact HC
  iintro ⟨HX, HC⟩
  icases HA with ⟨%fA, HA⟩
  icases (Entails.of_eq (halves c fA)) $$ HA with ⟨HA, HA1⟩
  ihave HA := (half_some c 0 fA) $$ HA
  iapply (at_part c (fun Q' => part4_spec P X W O κ c h0 h1 h2 h3 h4 h5 h6 h7 hP Q')) $$ [HX HB HC HA R0 HO]
  · isplitr; · iexact HI
    isplitr; · iexact HL
    isplitl [HX]; · iexact HX
    isplitl [HB]; · iexact HB
    isplitl [HC]; · iexact HC
    isplitl [HA]; · iexact HA
    isplitl [R0]; · iexact R0
    iexact HO
  iintro ⟨HX, HB, HC, G0, G1, G2, G3, E0_0, HO⟩
  ihave HC := (heads_drop c 0 _ (head0 X W) 4) $$ HC
  ihave HC := (heads_zero c 256 (by decide) (head1 X W)) $$ HC
  iapply (at_part c (fun Q' => part5_spec P X W O κ c h0 h1 h2 h3 h4 h5 h6 h7 hP Q')) $$ [HX HC G1 G2 G3 R1 R2 R3 HO]
  · isplitr; · iexact HI
    isplitr; · iexact HL
    isplitl [HX]; · iexact HX
    isplitl [HC]; · iexact HC
    isplitl [G1]; · iexact G1
    isplitl [G2]; · iexact G2
    isplitl [G3]; · iexact G3
    isplitl [R1]; · iexact R1
    isplitl [R2]; · iexact R2
    isplitl [R3]; · iexact R3
    iexact HO
  iintro ⟨HX, HC, G1, G2, G3, E0_1, E0_2, E0_3, HO⟩
  iapply (at_part c (fun Q' => part6_spec P X W O κ c h0 h1 h2 h3 h4 h5 h6 h7 hP Q')) $$ [HX HC]
  · isplitl [HX]; · iexact HX
    iexact HC
  iintro ⟨HX, HC⟩
  ihave HA := (half_some c 1 fA) $$ HA1
  iapply (at_part c (fun Q' => part7_spec P X W O κ c h0 h1 h2 h3 h4 h5 h6 h7 hP Q')) $$ [HX HB HC HA R4 R5 R6 HO]
  · isplitr; · iexact HI
    isplitr; · iexact HL
    isplitl [HX]; · iexact HX
    isplitl [HB]; · iexact HB
    isplitl [HC]; · iexact HC
    isplitl [HA]; · iexact HA
    isplitl [R4]; · iexact R4
    isplitl [R5]; · iexact R5
    isplitl [R6]; · iexact R6
    iexact HO
  iintro ⟨HX, HB, HC, G4, G5, G6, G7, E0_4, E0_5, E0_6, HO⟩
  icases E1 with ⟨E1_0, E1_1, E1_2, E1_3, E1_4, E1_5, E1_6, E1_7⟩
  icases T1 with ⟨T1_0, T1_1, T1_2, T1_3, T1_4, T1_5, T1_6, T1_7⟩
  iapply (at_part c (fun Q' => part8_spec P X W O κ c h0 h1 h2 h3 h4 h5 h6 h7 hP Q')) $$ [G0 G1 G2 G3 G4 G5 G6 G7 R7 RC E1_0 E1_1 E1_2 E1_3 E1_4 E1_5 T1_0 T1_1 T1_2 T1_3 T1_4 T1_5 HO]
  · isplitr; · iexact HI
    isplitr; · iexact HL
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [R7]; · iexact R7
    isplitl [RC]; · iexact RC
    isplitl [E1_0]; · iexact E1_0
    isplitl [E1_1]; · iexact E1_1
    isplitl [E1_2]; · iexact E1_2
    isplitl [E1_3]; · iexact E1_3
    isplitl [E1_4]; · iexact E1_4
    isplitl [E1_5]; · iexact E1_5
    isplitl [T1_0]; · iexact T1_0
    isplitl [T1_1]; · iexact T1_1
    isplitl [T1_2]; · iexact T1_2
    isplitl [T1_3]; · iexact T1_3
    isplitl [T1_4]; · iexact T1_4
    isplitl [T1_5]; · iexact T1_5
    iexact HO
  iintro ⟨GC, RC, E0_7, T1_0, T1_1, T1_2, T1_3, T1_4, T1_5, Y1_0, Y1_1, Y1_2, Y1_3, Y1_4, Y1_5, HO⟩
  iapply (at_part c (fun Q' => part9_spec P X W O κ c h0 h1 h2 h3 h4 h5 h6 h7 hP Q')) $$ [RC Y1_0 Y1_1 Y1_2 Y1_3 Y1_4 Y1_5 E1_6 E1_7 T1_6 T1_7 HS U0 U1 U2 U3 U4 U5 HO]
  · isplitr; · iexact HI
    isplitr; · iexact HL
    isplitl [RC]; · iexact RC
    isplitl [Y1_0]; · iexact Y1_0
    isplitl [Y1_1]; · iexact Y1_1
    isplitl [Y1_2]; · iexact Y1_2
    isplitl [Y1_3]; · iexact Y1_3
    isplitl [Y1_4]; · iexact Y1_4
    isplitl [Y1_5]; · iexact Y1_5
    isplitl [E1_6]; · iexact E1_6
    isplitl [E1_7]; · iexact E1_7
    isplitl [T1_6]; · iexact T1_6
    isplitl [T1_7]; · iexact T1_7
    isplitl [HS]; · iexact HS
    isplitl [U0]; · iexact U0
    isplitl [U1]; · iexact U1
    isplitl [U2]; · iexact U2
    isplitl [U3]; · iexact U3
    isplitl [U4]; · iexact U4
    isplitl [U5]; · iexact U5
    iexact HO
  iintro ⟨HM, T1_6, T1_7, V0, V1, V2, V3, V4, V5, V6, V7, E2_0, E2_1, E2_2, E2_3, E2_4, E2_5, HO⟩
  iapply (at_part c (fun Q' => part10_spec P X W O κ c h0 h1 h2 h3 h4 h5 h6 h7 hP Q')) $$ [V0 V1 V2 V3 V4 V5 V6 V7 U6 U7 OC HO]
  · isplitr; · iexact HI
    isplitr; · iexact HL
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [U6]; · iexact U6
    isplitl [U7]; · iexact U7
    isplitl [OC]; · iexact OC
    iexact HO
  iintro ⟨VC, OC, E2_6, E2_7, HO⟩
  icases E3 with ⟨E3_0, E3_1, E3_2, E3_3, E3_4, E3_5, E3_6, E3_7⟩
  icases T3 with ⟨T3_0, T3_1, T3_2, T3_3, T3_4, T3_5, T3_6, T3_7⟩
  icases T0 with ⟨T0_0, T0_1, T0_2, T0_3, T0_4, T0_5, T0_6, T0_7⟩
  icases T2 with ⟨T2_0, T2_1, T2_2, T2_3, T2_4, T2_5, T2_6, T2_7⟩
  iapply (at_part c (fun Q' => part11_spec P X W O κ c h0 h1 h2 h3 h4 h5 h6 h7 hP Q')) $$ [E3_0 E3_1 E3_2 E3_3 E3_4 E3_5 E3_6 E3_7 E0_0 E0_1 T3_0 T3_1 T3_2 T3_3 T3_4 T3_5 T3_6 T3_7 T0_0 T0_1 HO]
  · isplitr; · iexact HI
    isplitr; · iexact HL
    isplitl [E3_0]; · iexact E3_0
    isplitl [E3_1]; · iexact E3_1
    isplitl [E3_2]; · iexact E3_2
    isplitl [E3_3]; · iexact E3_3
    isplitl [E3_4]; · iexact E3_4
    isplitl [E3_5]; · iexact E3_5
    isplitl [E3_6]; · iexact E3_6
    isplitl [E3_7]; · iexact E3_7
    isplitl [E0_0]; · iexact E0_0
    isplitl [E0_1]; · iexact E0_1
    isplitl [T3_0]; · iexact T3_0
    isplitl [T3_1]; · iexact T3_1
    isplitl [T3_2]; · iexact T3_2
    isplitl [T3_3]; · iexact T3_3
    isplitl [T3_4]; · iexact T3_4
    isplitl [T3_5]; · iexact T3_5
    isplitl [T3_6]; · iexact T3_6
    isplitl [T3_7]; · iexact T3_7
    isplitl [T0_0]; · iexact T0_0
    isplitl [T0_1]; · iexact T0_1
    iexact HO
  iintro ⟨T3_0, T3_1, T3_2, T3_3, T3_4, T3_5, T3_6, T3_7, T0_0, T0_1, Y3_0, Y3_1, Y3_2, Y3_3, Y3_4, Y3_5, Y3_6, Y3_7, Y0_0, Y0_1, HO⟩
  iapply (at_part c (fun Q' => part12_spec P X W O κ c h0 h1 h2 h3 h4 h5 h6 h7 hP Q')) $$ [E0_2 E0_3 E0_4 E0_5 E0_6 E0_7 E2_0 E2_1 E2_2 E2_3 T0_2 T0_3 T0_4 T0_5 T0_6 T0_7 T2_0 T2_1 T2_2 T2_3 HO]
  · isplitr; · iexact HI
    isplitr; · iexact HL
    isplitl [E0_2]; · iexact E0_2
    isplitl [E0_3]; · iexact E0_3
    isplitl [E0_4]; · iexact E0_4
    isplitl [E0_5]; · iexact E0_5
    isplitl [E0_6]; · iexact E0_6
    isplitl [E0_7]; · iexact E0_7
    isplitl [E2_0]; · iexact E2_0
    isplitl [E2_1]; · iexact E2_1
    isplitl [E2_2]; · iexact E2_2
    isplitl [E2_3]; · iexact E2_3
    isplitl [T0_2]; · iexact T0_2
    isplitl [T0_3]; · iexact T0_3
    isplitl [T0_4]; · iexact T0_4
    isplitl [T0_5]; · iexact T0_5
    isplitl [T0_6]; · iexact T0_6
    isplitl [T0_7]; · iexact T0_7
    isplitl [T2_0]; · iexact T2_0
    isplitl [T2_1]; · iexact T2_1
    isplitl [T2_2]; · iexact T2_2
    isplitl [T2_3]; · iexact T2_3
    iexact HO
  iintro ⟨T0_2, T0_3, T0_4, T0_5, T0_6, T0_7, T2_0, T2_1, T2_2, T2_3, Y0_2, Y0_3, Y0_4, Y0_5, Y0_6, Y0_7, Y2_0, Y2_1, Y2_2, Y2_3, HO⟩
  iapply (at_wait P κ c 2 4 0 (guard4 c) (sem_of2 4 rfl _) credit_red 0 Lvs (mayWait c _ (by decide) (Above.zero 0))) $$ [E2_4 T2_4 HO]
  · isplitr; · iexact HI
    isplitr; · iexact HL
    isplitl [E2_4]; · iexact E2_4
    isplitl [T2_4]; · iexact T2_4
    iexact HO
  iintro ⟨HO, T2_4, Y2_4⟩
  iapply (at_wait P κ c 2 5 0 (guard5 c) (sem_of2 5 rfl _) credit_red 0 Lvs (mayWait c _ (by decide) (Above.zero 0))) $$ [E2_5 T2_5 HO]
  · isplitr; · iexact HI
    isplitr; · iexact HL
    isplitl [E2_5]; · iexact E2_5
    isplitl [T2_5]; · iexact T2_5
    iexact HO
  iintro ⟨HO, T2_5, Y2_5⟩
  iapply (at_wait P κ c 2 6 0 (guard6 c) (sem_of2 6 rfl _) credit_red 0 Lvs (mayWait c _ (by decide) (Above.zero 0))) $$ [E2_6 T2_6 HO]
  · isplitr; · iexact HI
    isplitr; · iexact HL
    isplitl [E2_6]; · iexact E2_6
    isplitl [T2_6]; · iexact T2_6
    iexact HO
  iintro ⟨HO, T2_6, Y2_6⟩
  iapply (at_wait P κ c 2 7 0 (guard7 c) (sem_of2 7 rfl _) credit_red 0 Lvs (mayWait c _ (by decide) (Above.zero 0))) $$ [E2_7 T2_7 HO]
  · isplitr; · iexact HI
    isplitr; · iexact HL
    isplitl [E2_7]; · iexact E2_7
    isplitl [T2_7]; · iexact T2_7
    iexact HO
  iintro ⟨HO, T2_7, Y2_7⟩
  iapply (at_end c)
  iapply Hk
  ihave HA := (part_whole P c) $$ [GC Y0_0 Y0_1 Y0_2 Y0_3 Y0_4 Y0_5 Y0_6 Y0_7]
  · isplitl [GC]; · iexact GC
    isplitl [Y0_0]; · iexact Y0_0
    isplitl [Y0_1]; · iexact Y0_1
    isplitl [Y0_2]; · iexact Y0_2
    isplitl [Y0_3]; · iexact Y0_3
    isplitl [Y0_4]; · iexact Y0_4
    isplitl [Y0_5]; · iexact Y0_5
    isplitl [Y0_6]; · iexact Y0_6
    iexact Y0_7
  ihave HS := (sum_whole P c) $$ [VC Y2_0 Y2_1 Y2_2 Y2_3 Y2_4 Y2_5 Y2_6 Y2_7]
  · isplitl [VC]; · iexact VC
    isplitl [Y2_0]; · iexact Y2_0
    isplitl [Y2_1]; · iexact Y2_1
    isplitl [Y2_2]; · iexact Y2_2
    isplitl [Y2_3]; · iexact Y2_3
    isplitl [Y2_4]; · iexact Y2_4
    isplitl [Y2_5]; · iexact Y2_5
    isplitl [Y2_6]; · iexact Y2_6
    iexact Y2_7
  ihave HR := (out_whole P c) $$ [OC Y3_0 Y3_1 Y3_2 Y3_3 Y3_4 Y3_5 Y3_6 Y3_7]
  · isplitl [OC]; · iexact OC
    isplitl [Y3_0]; · iexact Y3_0
    isplitl [Y3_1]; · iexact Y3_1
    isplitl [Y3_2]; · iexact Y3_2
    isplitl [Y3_3]; · iexact Y3_3
    isplitl [Y3_4]; · iexact Y3_4
    isplitl [Y3_5]; · iexact Y3_5
    isplitl [Y3_6]; · iexact Y3_6
    iexact Y3_7
  ihave HC := (heads_drop c 256 _ (head1 X W) 4) $$ HC
  isplitl [HX]; · iexact HX
  isplitl [HW]; · iexact HW
  isplitl [HB]; · iexact HB
  isplitl [HC]; · iexact HC
  isplitl [HA]; · iexact HA
  isplitl [HS]; · iexact HS
  isplitl [HM]; · iexact HM
  isplitl [HR]; · iexact HR
  isplitl [T0_0 T0_1 T0_2 T0_3 T0_4 T0_5 T0_6 T0_7]
  · isplitl [T0_0]; · iexact T0_0
    isplitl [T0_1]; · iexact T0_1
    isplitl [T0_2]; · iexact T0_2
    isplitl [T0_3]; · iexact T0_3
    isplitl [T0_4]; · iexact T0_4
    isplitl [T0_5]; · iexact T0_5
    isplitl [T0_6]; · iexact T0_6
    iexact T0_7
  isplitl [T1_0 T1_1 T1_2 T1_3 T1_4 T1_5 T1_6 T1_7]
  · isplitl [T1_0]; · iexact T1_0
    isplitl [T1_1]; · iexact T1_1
    isplitl [T1_2]; · iexact T1_2
    isplitl [T1_3]; · iexact T1_3
    isplitl [T1_4]; · iexact T1_4
    isplitl [T1_5]; · iexact T1_5
    isplitl [T1_6]; · iexact T1_6
    iexact T1_7
  isplitl [T2_0 T2_1 T2_2 T2_3 T2_4 T2_5 T2_6 T2_7]
  · isplitl [T2_0]; · iexact T2_0
    isplitl [T2_1]; · iexact T2_1
    isplitl [T2_2]; · iexact T2_2
    isplitl [T2_3]; · iexact T2_3
    isplitl [T2_4]; · iexact T2_4
    isplitl [T2_5]; · iexact T2_5
    isplitl [T2_6]; · iexact T2_6
    iexact T2_7
  isplitl [T3_0 T3_1 T3_2 T3_3 T3_4 T3_5 T3_6 T3_7]
  · isplitl [T3_0]; · iexact T3_0
    isplitl [T3_1]; · iexact T3_1
    isplitl [T3_2]; · iexact T3_2
    isplitl [T3_3]; · iexact T3_3
    isplitl [T3_4]; · iexact T3_4
    isplitl [T3_5]; · iexact T3_5
    isplitl [T3_6]; · iexact T3_6
    iexact T3_7
  isplitl [HO]; · iexact HO
  iexact Hat

end Cert.KernelIdeal.Ring
-- ==== Proof.KernelIdeal.Deal.lean ====
/-
What each device holds when the kernel starts: the launch's credit dealt out by cell, the tickets dealt out by peer, its
own copy cells opened, and at the end closed again with their counters at zero.
-/
module

public import proofs.«01_k».proof.Proof.KernelIdeal.Pieces

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S512x512 .bf16) (κ : GSem nD τ sig → ℕ) (c : Dev nD)

/-! ## The credit of the launch -/

/-- What device `c` waits for: seven units on its barrier, an arrival of each peer's segment, an arrival of each peer's sum. -/
abbrev awaited (c : Dev nD) : CellTallies nD τ sig ℕ :=
  tallyAt (barC c) 1 7 + (∑ p : Fin 8, tallyAt (semC 1 p c) 2 (if p = c then 0 else N) + ∑ p : Fin 8, tallyAt (semC 3 p c) 3 (if p = c then 0 else N))

theorem sum_tallyAt (g : GSem nD τ sig) (i : ℕ) (n : Fin 8 → ℕ) : (∑ d : Fin 8, tallyAt g i (n d)) = (tallyAt g i (∑ d : Fin 8, n d) : CellTallies nD τ sig ℕ) := by
  simp only [Fin.sum_univ_eight, tallyAt_add]

theorem D1_sum (c : Dev nD) : D1 c = ∑ p : Fin 8, dueBar c p + (∑ p : Fin 8, dueRow c p + ∑ p : Fin 8, dueOut c p) := by
  simp only [Fin.sum_univ_eight, D1, D2, D3, add_zero, add_assoc]

theorem bar_units : ∀ p : Fin 8, (∑ d : Fin 8, if p = d then 0 else 1) = 7 := by decide

/-- All that is owed is all that is awaited. -/
theorem dues_awaited : (∑ d : Dev nD, D1 d) = ∑ d : Dev nD, awaited d := by
  simp only [D1_sum, Finset.sum_add_distrib]
  refine congrArg₂ _ ?_ (congrArg₂ _ ?_ ?_)
  · rw [Finset.sum_comm]
    refine Finset.sum_congr rfl fun p _ => ?_
    unfold dueBar
    rw [sum_tallyAt (barC p) 1 fun d => if p = d then 0 else 1, bar_units]
  · rw [Finset.sum_comm]
    refine Finset.sum_congr rfl fun p _ => Finset.sum_congr rfl fun d _ => ?_
    unfold dueRow
    by_cases h : p = d
    · rw [if_pos h, if_pos h.symm]
    · rw [if_neg h, if_neg (Ne.symm h)]
  · rw [Finset.sum_comm]
    refine Finset.sum_congr rfl fun p _ => Finset.sum_congr rfl fun d _ => ?_
    unfold dueOut
    by_cases h : p = d
    · rw [if_pos h, if_pos h.symm]
    · rw [if_neg h, if_neg (Ne.symm h)]

theorem awaited_own (d : Dev nD) (g : GSem nD τ sig) (h : awaited d g ≠ 0) : g.1 = (d.tc : Thread nD τ) := by
  by_contra hne
  refine h ?_
  have hz : ∀ (s : SemLoc sig) (i n : ℕ), (tallyAt (((d : Thread nD τ), s) : GSem nD τ sig) i n : CellTallies nD τ sig ℕ) g = 0 :=
    fun s i n => tallyAt_ne_cell (fun e => hne (congrArg Prod.fst e)) i n
  simp only [awaited, Pi.add_apply, Finset.sum_apply, hz, Finset.sum_const_zero, add_zero]

/-- The credit device `c` waits with. -/
def credits (c : Dev nD) : sProp 𝕄 :=
  iprop(cred (tallyAt (barC c) 1 7) ∗ (all8 fun p => ifp p c (cred (tallyAt (semC 1 p c) 2 N))) ∗ (all8 fun p => ifp p c (cred (tallyAt (semC 3 p c) 3 N))))

theorem cred_ifp (k : Fin 4) (i : ℕ) :
    (cred (∑ p : Fin 8, tallyAt (semC k p c) i (if p = c then 0 else N)) : sProp 𝕄) = all8 fun p => ifp p c (cred (tallyAt (semC k p c) i N)) := by
  rw [Pipeline.cred_finsetSum, ← all8_eq]
  refine bigSep_congr fun p _ => ?_
  unfold ifp
  by_cases h : p = c
  · rw [if_pos h, if_pos h, tallyAt_nil, cred_zero]
  · rw [if_neg h, if_neg h]

theorem launch_credits : (Pipeline.launchCred D1 c : sProp 𝕄) ⊢ credits c := by
  rw [Pipeline.launchCred_of_sum D1 awaited dues_awaited awaited_own c]
  have h : ∀ A B : CellTallies nD τ sig ℕ, (cred (A + B) : sProp 𝕄) ⊢ iprop(cred A ∗ cred B) := fun A B => (cred_add A B).1
  unfold credits
  iintro H
  icases (h _ _) $$ H with ⟨H1, H⟩
  icases (h _ _) $$ H with ⟨H2, H3⟩
  isplitl [H1]; · iexact H1
  isplitl [H2]
  · iapply (Entails.of_eq (cred_ifp c 1 2)); iexact H2
  · iapply (Entails.of_eq (cred_ifp c 3 3)); iexact H3

/-! ## The tickets -/

theorem tickets_of (Φ : GSem nD τ sig × ℕ × Dev nD → sProp 𝕄) (k : Fin 5) :
    (bigSep Finset.univ fun p : Fin 8 => if (k, p).2 ≠ c then Φ (tokOf c (k, p)) else (BI.emp : sProp 𝕄)) = all8 fun p => ifp p c (Φ (tokOf c (k, p))) := by
  rw [← all8_eq]
  refine bigSep_congr fun p _ => ?_
  unfold ifp
  by_cases h : p = c
  · rw [if_pos h, if_neg (not_not.mpr h)]; rfl
  · rw [if_neg h, if_pos h]

/-- A device's tickets, by kind and peer. -/
theorem tickets_all (Φ : GSem nD τ sig × ℕ × Dev nD → sProp 𝕄) : bigSep (fam.toks c 0) Φ
    = iprop((all8 fun p => ifp p c (Φ (tokOf c (0, p)))) ∗ (all8 fun p => ifp p c (Φ (tokOf c (1, p)))) ∗ (all8 fun p => ifp p c (Φ (tokOf c (2, p))))
      ∗ (all8 fun p => ifp p c (Φ (tokOf c (3, p)))) ∗ (all8 fun p => ifp p c (Φ (tokOf c (4, p))))) := by
  show bigSep ((Finset.univ.filter fun x : Fin 5 × Fin 8 => x.2 ≠ c).map ⟨tokOf c, tokOf_inj c⟩) Φ = _
  rw [bigSep_map, bigSep_filter, bigSep_univ_prod]
  refine (bigSep_univ_eq_bigSepL [(0 : Fin 5), 1, 2, 3, 4] (by decide) (by decide) _).trans ?_
  rw [← tickets_of c Φ 0, ← tickets_of c Φ 1, ← tickets_of c Φ 2, ← tickets_of c Φ 3, ← tickets_of c Φ 4]
  rfl

/-! ## The copy cells, opened and closed -/

/-- What the launch keeps for the kernel on device `c`. -/
def kept (c : Dev nD) : sProp 𝕄 := iprop(fam.barPos ER (Rd P) c 0 Finset.univ ∗ fam.rides ER (Rd P) c 0 ∗ credits c)

/-- What device `c` knows once its copy cells are open. -/
def known (c : Dev nD) : sProp 𝕄 :=
  iprop((bigSep Finset.univ fun n : Dev nD => reached ER (barC n) 0) ∗ (bigSep Finset.univ fun x : Fin 4 × Fin 8 => reached ER (semC x.1 x.2 c) 0))

instance known_persistent : BI.Persistent (known (F := F) c) := by unfold known; infer_instance

/-- What device `c` enters the kernel with. -/
def opened (c : Dev nD) : sProp 𝕄 :=
  iprop((∃ κ, fam.cellInvs ER (Rd P) κ) ∗ Lvs ∗ known c ∗ (bigSep Finset.univ fun x : Fin 4 × Fin 8 => atPos ER (semC x.1 x.2 c) 0 ∅ 0)
    ∗ (bigSep (fam.toks c 0) fun x => dutyTok ER x.1 x.2.1 x.2.2) ∗ credits c ∗ atPos ER (barC c) 0 ∅ 0)

theorem invs_at (κ : GSem nD τ sig → ℕ) (Φ : Fin 4 × Fin 8 → sProp 𝕄) :
    iprop(fam.cellInvs ER (Rd P) κ ∗ bigSep Finset.univ Φ)
      ⊢ bigSep Finset.univ fun x : Fin 4 × Fin 8 => iprop(cellInv ER (Rd P) (κ (semC x.1 x.2 c)) (semC x.1 x.2 c) ∗ Φ x) :=
  bigSep_with_persistent fun x _ => by
    iintro ⟨#HI, H⟩
    isplitr
    · iapply (fam.cellInvs_dorm ER (Rd P) κ c (mem_dorm x.1 x.2)); iexact HI
    iexact H

theorem open_cells : iprop(kept P c ∗ Pipeline.ownSems0 osem c ∗ Lvs) ⊢ (|={Set.univ}=> opened P c : sProp 𝕄) := by
  unfold kept opened known TalkSites.Fam.barPos TalkSites.Fam.rides Pipeline.ownSems0
  iintro ⟨⟨⟨⟨%κ, #HI⟩, Hat, #HR⟩, ⟨-, Ho, Ht⟩, Hc⟩, Hs, #HL⟩
  ihave Ho := (show (bigSep (fam.dorm 0) fun sm => (openTok ER ((c.tc : Thread nD τ), sm) : sProp 𝕄)) ⊢ bigSep Finset.univ fun x : Fin 4 × Fin 8 => openTok ER (semC x.1 x.2 c)
    from Entails.of_eq (bigSep_map (s := Finset.univ) (⟨osem, sem_inj⟩ : Fin 4 × Fin 8 ↪ SemLoc sig))) $$ Ho
  ihave Ho := (invs_at P c κ fun x => openTok ER (semC x.1 x.2 c)) $$ [Ho]
  · isplitr; · iexact HI
    iexact Ho
  imod (Rounds.cells_open ER (Rd P) Finset.univ (fun x : Fin 4 × Fin 8 => semC x.1 x.2 c) (fun x => κ (semC x.1 x.2 c)) (Es := Set.univ)
    (fun _ _ => Set.mem_univ _)) $$ [Ho Hs] with Ho
  · isplitl [Ho]; · iexact Ho
    iexact Hs
  ihave Ho := (Entails.of_eq (bigSep_sep' Finset.univ (fun x : Fin 4 × Fin 8 => (atPos ER (semC x.1 x.2 c) 0 ∅ 0 : sProp 𝕄)) fun x => reached ER (semC x.1 x.2 c) 0)) $$ Ho
  icases Ho with ⟨Ho, #Hr⟩
  imodintro
  isplitr; · iexists κ; iexact HI
  isplitr; · iexact HL
  isplitr
  · isplitr; · iexact HR
    iexact Hr
  isplitl [Ho]; · iexact Ho
  isplitl [Ht]; · iexact Ht
  isplitl [Hc]; · iexact Hc
  iexact Hat

/-- The positions of the opened cells, by kind. -/
theorem positions : (bigSep Finset.univ fun x : Fin 4 × Fin 8 => atPos ER (semC x.1 x.2 c) 0 ∅ 0 : sProp 𝕄)
    = iprop((all8 fun p => posBefore c 0 p) ∗ (all8 fun p => posBefore c 1 p) ∗ (all8 fun p => posBefore c 2 p) ∗ (all8 fun p => posBefore c 3 p)) := by
  rw [bigSep_univ_prod]
  refine (bigSep_univ_eq_bigSepL [(0 : Fin 4), 1, 2, 3] (by decide) (by decide) _).trans ?_
  rw [← all8_eq, ← all8_eq, ← all8_eq, ← all8_eq]
  rfl

@[inherit_doc positions] theorem positions_after :
    iprop((all8 fun p => posAfter c 0 p) ∗ (all8 fun p => posAfter c 1 p) ∗ (all8 fun p => posAfter c 2 p) ∗ (all8 fun p => posAfter c 3 p))
      = (bigSep Finset.univ fun x : Fin 4 × Fin 8 => atPos ER (semC x.1 x.2 c) (if x.2 = c then 0 else 1) ∅ 0 : sProp 𝕄) := by
  rw [bigSep_univ_prod]
  refine Eq.trans ?_ (bigSep_univ_eq_bigSepL [(0 : Fin 4), 1, 2, 3] (by decide) (by decide) _).symm
  rw [← all8_eq, ← all8_eq, ← all8_eq, ← all8_eq]
  rfl

theorem close_cells : iprop(fam.cellInvs ER (Rd P) κ ∗ (all8 fun p => posAfter c 0 p) ∗ (all8 fun p => posAfter c 1 p) ∗ (all8 fun p => posAfter c 2 p)
      ∗ (all8 fun p => posAfter c 3 p)) ⊢ (|={Set.univ}=> Pipeline.ownSems0 osem c : sProp 𝕄) := by
  rw [positions_after]
  refine BI.Entails.trans (invs_at P c κ _) ?_
  unfold Pipeline.ownSems0
  refine Rounds.cells_close ER (Rd P) Finset.univ (fun x : Fin 4 × Fin 8 => semC x.1 x.2 c) (fun x => κ (semC x.1 x.2 c)) (fun _ _ => Set.mem_univ _)
    (fun _ _ => id) (fun x => if x.2 = c then 0 else 1) (fun x _ r hr => ?_)
  obtain ⟨k, p⟩ := x
  by_cases h0 : r = 0
  · subst h0
    have hr' : (if p = c then 0 else 1) ≤ 0 := hr
    have h : p = c := by
      by_contra h; rw [if_neg h] at hr'; omega
    subst h; exact duties_sem_self P p k
  · exact duties_later P _ r (Nat.pos_of_ne_zero h0)

/-! ## What goes to each peer -/

theorem known_bar (p : Dev nD) : known (F := F) c ⊢ reached ER (barC p) 0 := by
  unfold known
  have h : (bigSep Finset.univ fun n : Dev nD => (reached ER (barC n) 0 : sProp 𝕄)) ⊢ reached ER (barC p) 0 := bigSep_elim (Finset.mem_univ p)
  iintro ⟨H, -⟩
  iapply h; iexact H

theorem known_sem (k : Fin 4) (p : Fin 8) : known (F := F) c ⊢ reached ER (semC k p c) 0 := by
  unfold known
  have h : (bigSep Finset.univ fun x : Fin 4 × Fin 8 => (reached ER (semC x.1 x.2 c) 0 : sProp 𝕄)) ⊢ reached ER (semC k p c) 0 := bigSep_elim (Finset.mem_univ (k, p))
  iintro ⟨-, H⟩
  iapply h; iexact H

/-- A fact known on the device goes with every peer's share. -/
theorem with_known (A B : Fin 8 → sProp 𝕄) (h : ∀ p, iprop(known c ∗ A p) ⊢ B p) :
    iprop(known c ∗ all8 fun p => ifp p c (A p)) ⊢ all8 fun p => ifp p c (B p) := by
  rw [← all8_eq, ← all8_eq]
  refine bigSep_with_persistent fun p _ => ?_
  unfold ifp
  by_cases e : p = c
  · rw [if_pos e, if_pos e]; iintro ⟨-, H⟩; iexact H
  · rw [if_neg e, if_neg e]; exact h p

theorem all8_sep (A B : Fin 8 → sProp 𝕄) : iprop((all8 fun p => ifp p c (A p)) ∗ all8 fun p => ifp p c (B p)) = all8 fun p => ifp p c iprop(A p ∗ B p) := by
  rw [← all8_eq, ← all8_eq, ← all8_eq, ← bigSep_sep']
  exact bigSep_congr fun p _ => (ifp_sep c p _ _).symm

/-- A row whose contents are not chosen. -/
def rowAny (p : Fin 8) : sProp 𝕄 := iprop(∃ f, row (F := F) c p f)
@[inherit_doc rowAny] def outAny (p : Fin 8) : sProp 𝕄 := iprop(∃ f, outs (F := F) c p f)

theorem rows_any (f : Vec F S8x64x512 .bf16) : ((Memref.whole cc0_scratch3).view.loc (c : Thread nD τ) ↦[Finset.univ]{fullShare} f : sProp 𝕄)
    ⊢ iprop(rowAny c c ∗ all8 fun p => ifp p c (rowAny (F := F) c p)) := by
  rw [rows_whole, ← ifp8 c fun s => row c s f, ← all8_eq, ← all8_eq]
  refine BIClass.sep_mono ?_ (bigSep_mono fun p _ => ifp_mono c p ?_)
  · unfold rowAny; iintro H; iexists f; iexact H
  · unfold rowAny; iintro H; iexists f; iexact H

theorem outs_any (f : Vec F S2x256x512 .bf16) : ((Memref.whole cc0_stg3_0).view.loc (c : Thread nD τ) ↦[Finset.univ]{fullShare} f : sProp 𝕄)
    ⊢ iprop(outAny c c ∗ all8 fun p => ifp p c (outAny (F := F) c p)) := by
  rw [outs_whole, ← ifp8 c fun s => outs c s f, ← all8_eq, ← all8_eq]
  refine BIClass.sep_mono ?_ (bigSep_mono fun p _ => ifp_mono c p ?_)
  · unfold outAny; iintro H; iexists f; iexact H
  · unfold outAny; iintro H; iexists f; iexact H

theorem deal_signals : iprop(known c ∗ (all8 fun p => ifp p c (dutyTok ER (barC p) 0 c)) ∗ (all8 fun p => ifp p c (rowAny c p)) ∗ (all8 fun p => ifp p c (outAny c p)))
    ⊢ (all8 fun p => ifp p c (sigRes (F := F) c p)) := by
  rw [all8_sep, all8_sep]
  refine with_known c _ _ fun p => ?_
  unfold sigRes rowAny outAny
  iintro ⟨#HK, Ht, Hr, Ho⟩
  isplitl [Ht]; · iexact Ht
  isplitr; · iapply (known_bar c p); iexact HK
  isplitl [Hr]; · iexact Hr
  isplitl [Ho]; · iexact Ho
  isplitr; · iapply (known_sem c 1 p); iexact HK
  iapply (known_sem c 3 p); iexact HK

end Cert.KernelIdeal.Ring
-- ==== Proof.KernelIdeal.BodyRun.lean ====
/-
What the kernel enters with and leaves on each device, and its body between the two.
-/
module

public import proofs.«01_k».proof.Proof.KernelIdeal.Body
public import proofs.«01_k».proof.Proof.KernelIdeal.Deal
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## What the kernel reads and leaves -/

/-- The four batches and keys device `c` enters with, its columns of the query weights and its rows of the output weights. -/
abbrev xIn (c : Dev nD) : Vec F S4x256x512 .bf16 := V1 m c main_v18
@[inherit_doc xIn] abbrev wIn (c : Dev nD) : Vec F S512x256 .bf16 := V1 m c main_v9
@[inherit_doc xIn] abbrev oIn (c : Dev nD) : Vec F S256x512 .bf16 := V1 m c main_v14

/-- Device `c`'s partial product. -/
def partials (c : Dev nD) : Vec F S512x512 .bf16 := part (xIn m c) (wIn m c) (oIn m c)

/-- What the kernel leaves in its result: on every device the same. -/
def outsM : Outs (F := F) := fun _ r d => Function.update (V1 m d) main_v19 (out (partials m)) r

theorem V2_v19 : V2 m (outsM m) c main_v19 = out (partials m) := by
  simp only [V2, outsM, Function.update_self]

/-- The buffers no window stages, at any contents. -/
abbrev rest (c : Dev nD) : sProp 𝕄 := Pipeline.scopedRest (Ix := ℕ) (Name := ℕ) (U := UU) (Lvl := ℕ) (Val := Elt F) spec0 c

/-- The kernel's proof data: the windows' arrays as the host program left them, the inputs left in place, the result `out`. -/
def dat0 (c : Dev nD) : Pipeline.Dat τ (Elt F) ℕ ℕ UU ℕ cfg0 c where
  A w := match w with
    | ⟨0, _⟩ => xIn m c
    | ⟨1, _⟩ => wIn m c
    | ⟨2, _⟩ => oIn m c
    | ⟨3, _⟩ => V1 m c main_v19
    | ⟨_ + 4, h⟩ => absurd h (Nat.not_lt.mpr (Nat.le_add_left 4 _))
  after w _ := match w with
    | ⟨0, _⟩ => xIn m c
    | ⟨1, _⟩ => wIn m c
    | ⟨2, _⟩ => oIn m c
    | ⟨3, _⟩ => out (partials m)
    | ⟨_ + 4, h⟩ => absurd h (Nat.not_lt.mpr (Nat.le_add_left 4 _))
  Φ t := if t.val = 0 then iprop(rest c ∗ (∃ r, prngReg c r) ∗ opened (partials m) c)
    else iprop(rest c ∗ (∃ r, prngReg c r) ∗ Pipeline.ownSems0 osem c ∗ fam.barPos ER (Rd (partials m)) c 1 ∅)
  q _ := fullShare
  owed t := if t.val = 0 then D1 c else 0

def pdats : (p : Fin 1) → (c : Dev nD) → Pipeline.Dat τ (Elt F) ℕ ℕ UU ℕ (cfgs p) c := fun p => match p with
  | ⟨0, _⟩ => dat0 m
  | ⟨_ + 1, h⟩ => absurd h (Nat.not_lt.mpr (Nat.le_add_left 1 _))

theorem owed_first : (dat0 m c).owed t0_0.castSucc = D1 c := by
  show (if (t0_0.castSucc : Fin (cfg0.N + 1)).val = 0 then D1 c else 0) = D1 c; exact if_pos rfl
theorem owed_last : (dat0 m c).owed t0_0.succ = 0 := by
  show (if (t0_0.succ : Fin (cfg0.N + 1)).val = 0 then D1 c else 0) = 0; exact if_neg (by decide)
theorem phi_eq (t : Fin (cfg0.N + 1)) : (dat0 m c).Φ t = if t.val = 0 then iprop(rest c ∗ (∃ r, prngReg c r) ∗ opened (partials m) c)
    else iprop(rest c ∗ (∃ r, prngReg c r) ∗ Pipeline.ownSems0 osem c ∗ fam.barPos ER (Rd (partials m)) c 1 ∅) := rfl
theorem phi_first : (dat0 m c).Φ t0_0.castSucc = iprop(rest c ∗ (∃ r, prngReg c r) ∗ opened (partials m) c) := by
  rw [phi_eq]; exact if_pos rfl
theorem phi_last : (dat0 m c).Φ t0_0.succ = iprop(rest c ∗ (∃ r, prngReg c r) ∗ Pipeline.ownSems0 osem c ∗ fam.barPos ER (Rd (partials m)) c 1 ∅) := by
  rw [phi_eq]; exact if_neg (by decide)

theorem owes_enter : ((dat0 m c).owesAt 0 t0_0.castSucc : sProp 𝕄) ⊢ owesE c (D1 c) := by
  unfold Pipeline.Dat.owesAt Pipeline.owesWithin; rw [owed_first]; unfold owesE
  iintro ⟨%W, -, HO⟩; iexists W; iexact HO

theorem owes_leave : (owesE c 0 : sProp 𝕄) ⊢ (dat0 m c).owesAt 0 t0_0.succ := by
  unfold Pipeline.Dat.owesAt Pipeline.owesWithin Pipeline.Dat.bound; rw [owed_last]; unfold owesE
  iintro ⟨%W, HO⟩; iexists W; isplitr; · ipureintro; exact fun _ _ => Or.inl trivial
  iexact HO

/-! ## What the windows hold -/

theorem before0 (d) : (dat0 m c).before 0 t0_0 d = xIn m c := by
  unfold Pipeline.Dat.before; rw [if_pos (fetch0_0 t0_0)]
  funext j
  show xIn m c _ = xIn m c j
  refine congrArg (xIn m c) (funext fun a => Fin.ext ?_)
  blk_simp
  rw [(by decide +kernel : ∀ a, win0_0.index t0_0 a = 0) a, zero_mul, zero_add]
theorem before1 (d) : (dat0 m c).before 1 t0_0 d = wIn m c := by
  unfold Pipeline.Dat.before; rw [if_pos (fetch0_1 t0_0)]
  funext j
  show wIn m c _ = wIn m c j
  refine congrArg (wIn m c) (funext fun a => Fin.ext ?_)
  blk_simp
  rw [(by decide +kernel : ∀ a, win0_1.index t0_0 a = 0) a, zero_mul, zero_add]
theorem before2 (d) : (dat0 m c).before 2 t0_0 d = oIn m c := by
  unfold Pipeline.Dat.before; rw [if_pos (fetch0_2 t0_0)]
  funext j
  show oIn m c _ = oIn m c j
  refine congrArg (oIn m c) (funext fun a => Fin.ext ?_)
  blk_simp
  rw [(by decide +kernel : ∀ a, win0_2.index t0_0 a = 0) a, zero_mul, zero_add]

theorem result_last : (dat0 m c).arrAt 3 cfg0.N = out (partials m) := by
  refine (dat0 m c).arrAt_eq_of_after_last 3 t0_0 (by decide +kernel) _ fun j => ?_
  blk_simp
  rfl

/-! ## The tickets a copy takes -/

theorem deal_rows : iprop(known c ∗ (all8 fun p => ifp p c (dutyTok ER (semC 0 p c) 0 c)) ∗ (all8 fun p => ifp p c (dutyTok ER (semC 1 c p) 0 c)))
    ⊢ (all8 fun p => ifp p c (rowTok (F := F) c p)) := by
  rw [all8_sep]
  refine with_known c _ _ fun p => ?_
  unfold rowTok
  iintro ⟨#HK, Ht, Hr⟩
  isplitl [Ht]; · iexact Ht
  isplitr; · iapply (known_sem c 0 p); iexact HK
  iexact Hr

theorem deal_outs : iprop(known c ∗ (all8 fun p => ifp p c (dutyTok ER (semC 2 p c) 0 c)) ∗ (all8 fun p => ifp p c (dutyTok ER (semC 3 c p) 0 c)))
    ⊢ (all8 fun p => ifp p c (outTok (F := F) c p)) := by
  rw [all8_sep]
  refine with_known c _ _ fun p => ?_
  unfold outTok
  iintro ⟨#HK, Ht, Hr⟩
  isplitl [Ht]; · iexact Ht
  isplitr; · iapply (known_sem c 2 p); iexact HK
  iexact Hr

theorem deal_tickets : (bigSep (fam.toks c 0) fun x => (dutyTok ER x.1 x.2.1 x.2.2 : sProp 𝕄))
    ⊢ iprop((all8 fun p => ifp p c (dutyTok ER (semC 0 p c) 0 c)) ∗ (all8 fun p => ifp p c (dutyTok ER (semC 1 c p) 0 c)) ∗ (all8 fun p => ifp p c (dutyTok ER (semC 2 p c) 0 c))
      ∗ (all8 fun p => ifp p c (dutyTok ER (semC 3 c p) 0 c)) ∗ (all8 fun p => ifp p c (dutyTok ER (barC p) 0 c))) :=
  Entails.of_eq (tickets_all c fun x => dutyTok ER x.1 x.2.1 x.2.2)

/-! ## The body, as the region calls it -/

/-- The kernel's body on device `c`, between the memory it enters with and the memory it leaves. -/
theorem body_run (Q : PUnit → sProp 𝕄) :
    iprop(iprop((rest c ∗ (∃ r, prngReg c r) ∗ opened (partials m) c) ∗ owesE c (D1 c)
        ∗ ((Memref.whole cc0_stg0_0).view.loc (c : Thread nD τ) ↦[Finset.univ]{fullShare} xIn m c) ∗ ((Memref.whole cc0_stg1_0).view.loc (c : Thread nD τ) ↦[Finset.univ]{fullShare} wIn m c)
        ∗ ((Memref.whole cc0_stg2_0).view.loc (c : Thread nD τ) ↦[Finset.univ]{fullShare} oIn m c)
        ∗ (∃ f : Vec F S2x256x512 .bf16, ((Memref.whole cc0_stg3_0).view.loc (c : Thread nD τ) ↦[Finset.univ]{fullShare} f)))
      ∗ (iprop((rest c ∗ (∃ r, prngReg c r) ∗ Pipeline.ownSems0 osem c ∗ fam.barPos ER (Rd (partials m)) c 1 ∅) ∗ owesE c 0
        ∗ ((Memref.whole cc0_stg0_0).view.loc (c : Thread nD τ) ↦[Finset.univ]{fullShare} xIn m c) ∗ ((Memref.whole cc0_stg1_0).view.loc (c : Thread nD τ) ↦[Finset.univ]{fullShare} wIn m c)
        ∗ ((Memref.whole cc0_stg2_0).view.loc (c : Thread nD τ) ↦[Finset.univ]{fullShare} oIn m c)
        ∗ ((Memref.whole cc0_stg3_0).view.loc (c : Thread nD τ) ↦[Finset.univ]{fullShare} out (partials m))) -∗ Q ⟨⟩))
      ⊢ wp frame (wpE (defs₀ (F := F)) 𝒱₀ (c : Thread nD τ) none) Set.univ (bodyAt0 t0_0) Q := by
  rw [show (rest c : sProp 𝕄) = _ from scopedRest0_eq c]
  unfold opened credits
  iintro ⟨⟨⟨⟨Hc0, Hc1, Hc2, ⟨%f3, Hc3⟩⟩, Hp, ⟨⟨%κ, #HI⟩, #HL, #HK, Hpos, Htok, ⟨Hcb, Hcr, Hco⟩, Hat⟩⟩, HO, H0, H1, H2, ⟨%g, H3⟩⟩, Hk⟩
  icases (deal_tickets c) $$ Htok with ⟨T0, T1, T2, T3, T4⟩
  ihave Hpos := (Entails.of_eq (positions c)) $$ Hpos
  icases Hpos with ⟨P0, P1, P2, P3⟩
  ihave Hc3 := (show ((c : Thread nD τ).loc cc0_scratch3 ↦{fullShare} f3 : sProp 𝕄) ⊢ iprop(rowAny c c ∗ all8 fun p => ifp p c (rowAny (F := F) c p)) from rows_any c f3) $$ Hc3
  icases Hc3 with ⟨R, Rs⟩
  icases (outs_any c g) $$ H3 with ⟨U, Us⟩
  ihave SG := (deal_signals c) $$ [T4 Rs Us]
  · isplitr; · iexact HK
    isplitl [T4]; · iexact T4
    isplitl [Rs]; · iexact Rs
    iexact Us
  ihave K := (deal_rows c) $$ [T0 T1]
  · isplitr; · iexact HK
    isplitl [T0]; · iexact T0
    iexact T1
  ihave M := (deal_outs c) $$ [T2 T3]
  · isplitr; · iexact HK
    isplitl [T2]; · iexact T2
    iexact T3
  iapply wp_fupd
  iapply (body_spec (partials m) (xIn m c) (wIn m c) (oIn m c) κ c (hstage0_0 0) (hstage0_1 0) (hstage0_2 0) (hstage0_3 0) (Memref.isWhole_whole _) (Memref.isWhole_whole _) (Memref.isWhole_whole _) (Memref.isWhole_whole _) rfl _)
  isplitr [Hk Hp]
  · isplitr; · iexact HI
    isplitr; · iexact HL
    isplitl [H0]; · iexact H0
    isplitl [H1]; · iexact H1
    isplitl [H2]; · iexact H2
    isplitl [Hc0]; · iexact Hc0
    isplitl [Hc1]; · iexact Hc1
    isplitl [Hc2]; · iexact Hc2
    isplitl [R]; · unfold rowAny; iexact R
    isplitl [U]; · unfold outAny; iexact U
    isplitl [SG]; · iexact SG
    isplitl [K]; · iexact K
    isplitl [M]; · iexact M
    isplitl [Hcr]; · iexact Hcr
    isplitl [Hco]; · iexact Hco
    isplitl [P0]; · iexact P0
    isplitl [P1]; · iexact P1
    isplitl [P2]; · iexact P2
    isplitl [P3]; · iexact P3
    isplitl [HO]; · iexact HO
    isplitl [Hcb]; · iexact Hcb
    iexact Hat
  iintro ⟨H0, H1, H2, Hc0, Hc1, Hc2, Hc3, H3, P0, P1, P2, P3, HO, Hat⟩
  imod (close_cells (partials m) κ c) $$ [P0 P1 P2 P3] with Hs
  · isplitr; · iexact HI
    isplitl [P0]; · iexact P0
    isplitl [P1]; · iexact P1
    isplitl [P2]; · iexact P2
    iexact P3
  imodintro
  iapply Hk
  isplitl [Hc0 Hc1 Hc2 Hc3 Hp Hs Hat]
  · isplitl [Hc0 Hc1 Hc2 Hc3]
    · isplitl [Hc0]; · iexact Hc0
      isplitl [Hc1]; · iexists (partials m c); iexact Hc1
      isplitl [Hc2]; · iexists (red (partials m) c); iexact Hc2
      iexists (inbox (partials m) c); iexact Hc3
    isplitl [Hp]; · iexact Hp
    isplitl [Hs]; · iexact Hs
    unfold TalkSites.Fam.barPos
    isplitr; · iexists κ; iexact HI
    isplitl [Hat]; · iexact Hat
    rw [BI.bigSep_empty]; iempintro
  isplitl [HO]; · iexact HO
  isplitl [H0]; · iexact H0
  isplitl [H1]; · iexact H1
  isplitl [H2]; · iexact H2
  iexact H3

end Cert.KernelIdeal.Ring
-- ==== Proof.KernelIdeal.Region.lean ====
/-
The body as the pipeline calls it, and what the windows' arrays hold before and after.
-/
module

public import proofs.«01_k».proof.Proof.KernelIdeal.BodyRun

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## The body obligation -/

theorem own0 (X : Vec F S4x256x512 .bf16) : (owns (c : Thread nD τ) (st0_0 t0_0) fullShare X : sProp 𝕄)
    = ((Memref.whole cc0_stg0_0).view.loc (c : Thread nD τ) ↦[Finset.univ]{fullShare} X) := owns_whole (c : Thread nD τ) cc0_stg0_0 fullShare X
theorem own1 (X : Vec F S512x256 .bf16) : (owns (c : Thread nD τ) (st0_1 t0_0) fullShare X : sProp 𝕄)
    = ((Memref.whole cc0_stg1_0).view.loc (c : Thread nD τ) ↦[Finset.univ]{fullShare} X) := owns_whole (c : Thread nD τ) cc0_stg1_0 fullShare X
theorem own2 (X : Vec F S256x512 .bf16) : (owns (c : Thread nD τ) (st0_2 t0_0) fullShare X : sProp 𝕄)
    = ((Memref.whole cc0_stg2_0).view.loc (c : Thread nD τ) ↦[Finset.univ]{fullShare} X) := owns_whole (c : Thread nD τ) cc0_stg2_0 fullShare X
theorem own3 (X : Vec F S2x256x512 .bf16) : (owns (c : Thread nD τ) (st0_3 t0_0) fullShare X : sProp 𝕄)
    = ((Memref.whole cc0_stg3_0).view.loc (c : Thread nD τ) ↦[Finset.univ]{fullShare} X) := owns_whole (c : Thread nD τ) cc0_stg3_0 fullShare X

theorem bodyOb : Pipeline.BodyObligation (dat0 m c) defs₀ 𝒱₀ 0 Set.univ := fun t => by
  obtain rfl := fin_N0 t
  rw [bigSep_W0, bigSep_W0, phi_first, phi_last]
  iintro ⟨HΦ, HO, ⟨%d0, H0⟩, ⟨%d1, H1⟩, ⟨%d2, H2⟩, ⟨%d3, H3⟩⟩
  ihave H0 := (show (owns (c : Thread nD τ) (st0_0 t0_0) fullShare ((dat0 m c).before 0 t0_0 d0) : sProp 𝕄) ⊢ _ from Entails.of_eq ((congrArg _ (before0 m c d0)).trans (own0 c (xIn m c)))) $$ H0
  ihave H1 := (show (owns (c : Thread nD τ) (st0_1 t0_0) fullShare ((dat0 m c).before 1 t0_0 d1) : sProp 𝕄) ⊢ _ from Entails.of_eq ((congrArg _ (before1 m c d1)).trans (own1 c (wIn m c)))) $$ H1
  ihave H2 := (show (owns (c : Thread nD τ) (st0_2 t0_0) fullShare ((dat0 m c).before 2 t0_0 d2) : sProp 𝕄) ⊢ _ from Entails.of_eq ((congrArg _ (before2 m c d2)).trans (own2 c (oIn m c)))) $$ H2
  ihave H3 := (show (owns (c : Thread nD τ) (st0_3 t0_0) fullShare ((dat0 m c).before 3 t0_0 d3) : sProp 𝕄) ⊢ _ from Entails.of_eq (own3 c _)) $$ H3
  ihave HO := (owes_enter m c) $$ HO
  iapply (body_run m c _)
  isplitl [HΦ HO H0 H1 H2 H3]
  · isplitl [HΦ]; · iexact HΦ
    isplitl [HO]; · iexact HO
    isplitl [H0]; · iexact H0
    isplitl [H1]; · iexact H1
    isplitl [H2]; · iexact H2
    iexists _; iexact H3
  iintro ⟨HΦ, HO, H0, H1, H2, H3⟩
  isplitl [HΦ]; · iexact HΦ
  isplitl [HO]; · iapply (owes_leave m c); iexact HO
  isplitl [H0]; · iapply (Entails.of_eq (own0 c (xIn m c)).symm); iexact H0
  isplitl [H1]; · iapply (Entails.of_eq (own1 c (wIn m c)).symm); iexact H1
  isplitl [H2]; · iapply (Entails.of_eq (own2 c (oIn m c)).symm); iexact H2
  iapply (Entails.of_eq (own3 c (out (partials m))).symm); iexact H3

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers no window's array is. -/
abbrev others : Finset (DevRef τ sig) := Pipeline.ucRefs τ sig \ Pipeline.arrRefs (τ := τ) spec0

theorem v19_notin : (Proc.devRef .tc main_v19 : DevRef τ sig) ∉ others \ ∅ := by decide

theorem above_dueBar (p : Fin 8) : Above 0 (dueBar c p) := Above.tallyAt _ rfl (by decide) (by decide) _

theorem above_D1 : Above 0 (D1 c) :=
  (above_dueBar c 0).add <| (above_dueBar c 1).add <| (above_dueBar c 2).add <| (above_dueBar c 3).add <|
    (above_dueBar c 4).add <| (above_dueBar c 5).add <| (above_dueBar c 6).add <| (above_dueBar c 7).add <| above_D2 c (by decide)

theorem owed_above (t : Fin ((Pipeline.pin (pcfgs (F := F)) adm 0).N + 1)) (g : GSem nD τ sig) (i : ℕ) (h : 0 < (pdats m 0 c).owed t g i) :
    i ∈ SiteBlocks.L 4 g ∧ (0 : ℕ) < SiteBlocks.lv g i := by
  have e : (pdats m 0 c).owed t = if t.val = 0 then D1 c else 0 := rfl
  rw [e] at h
  split at h
  · exact above_D1 c g i h
  · exact absurd h (Nat.lt_irrefl 0)

theorem arr_first (w : Fin 4) : (dat0 m c).arrAt w 0 = V1 m c (Proc.devRef .tc (Pipeline.arrRef spec0 w)) := by
  fin_cases w <;> rfl

theorem arr_last (w : Fin 4) : (dat0 m c).arrAt w cfg0.N = V2 m (outsM m) c (Proc.devRef .tc (Pipeline.arrRef spec0 w)) := by
  fin_cases w
  · exact ((dat0 m c).arrAt_in 0 rfl _).trans (V2_of m (outsM m) c main_v18 (by decide)).symm
  · exact ((dat0 m c).arrAt_in 1 rfl _).trans (V2_of m (outsM m) c main_v9 (by decide)).symm
  · exact ((dat0 m c).arrAt_in 2 rfl _).trans (V2_of m (outsM m) c main_v14 (by decide)).symm
  · exact (result_last m c).trans (V2_v19 m c).symm

/-- What stays of the protocol after the kernel: the barrier's cell, past its one round. -/
abbrev left (c : Dev nD) : sProp 𝕄 := fam.barPos ER (Rd (partials m)) c 1 ∅

theorem region_in : iprop(Pipeline.scopedRest (Pipeline.pin (pcfgs (F := F)) adm 0).spec c ∗ (∃ r, prngReg c r) ∗ StableHlo.held (c.tc : Thread nD τ) ∅ (V1 m c) ∗ opened (partials m) c)
    ⊢ (pdats m 0 c).Φ 0 := by
  rw [show (pdats m 0 c).Φ 0 = iprop(rest c ∗ (∃ r, prngReg c r) ∗ opened (partials m) c) from phi_first m c]
  iintro ⟨Hs, Hp, -, Ho⟩
  isplitl [Hs]; · iexact Hs
  isplitl [Hp]; · iexact Hp
  iexact Ho

theorem region_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outsM m) c)
      ∗ Pipeline.ownSems0 osem c ∗ left m c) := by
  rw [show (pdats m 0 c).Φ (Fin.last _) = iprop(rest c ∗ (∃ r, prngReg c r) ∗ Pipeline.ownSems0 osem c ∗ left m c) from phi_last m c]
  iintro ⟨Hs, Hp, Ho, Hb⟩
  isplitl [Hs]; · iexact Hs
  isplitl [Hp]; · iexact Hp
  isplitr
  · unfold StableHlo.held; rw [BI.bigSep_empty]; iempintro
  isplitl [Ho]; · iexact Ho
  iexact Hb

set_option backward.isDefEq.respectTransparency.types false in
/-- The kernel's region: entered with what the launch kept for it and owing `D1`, left owing nothing. -/
def reg0 : Pipeline.RegionSeg (pcfgs (F := F)) adm (pdats m) 0 defs₀ 𝒱₀ (SiteBlocks.L 4) SiteBlocks.lv 0 :=
  Pipeline.RegionSeg.ofTalk (pcfgs (F := F)) adm (pdats m) 0 defs₀ 𝒱₀ (SiteBlocks.L 4) SiteBlocks.lv 0 osem (by decide : Pipeline.OwnSemFacts spec0 osem)
    ∅ others (Finset.empty_subset _) kit rfl (fun c => (bodyOb m c).loose)
    (fun _ => 0) D1 (fun c => (owed_first m c).trans (zero_add _).symm) (owed_last m) (fun _ => rfl)
    (fun c w => by unfold Pipeline.Dat.share; split <;> rfl)
    (V1 m) (V2 m (outsM m))
    (fun c b hb => Function.update_of_ne (by
      rintro rfl
      exact v19_notin hb) _ _)
    (kept (partials m)) (left m) (opened (partials m)) (left m) (open_cells (partials m)) (region_in m) (region_out m)
    (fun c => by iintro H; imodintro; iexact H)
    (fun _ => 0)
    ⟨fun c w s => by
        show 0 ∈ SiteBlocks.L 4 _
        unfold SiteBlocks.L; rw [if_pos rfl]; decide,
      fun c w s => Nat.le_refl 0, fun c t g i h => owed_above m c t g i h⟩
    (fun _ => iprop(emp))
    (arr_first m) (arr_last m)

end Cert.KernelIdeal.Ring
-- ==== Proof.KernelIdeal.Launch.lean ====
/-
The launch: what is dealt to each device before the kernel, and what is read after it.
-/
module

public import proofs.«01_k».proof.Proof.KernelIdeal.Region

@[expose] public section

noncomputable section

namespace Cert.KernelIdeal.Ring

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What rides with each device around the kernel -/

/-- Before the kernel: what the launch keeps for it, what the device owes, its generator register. -/
def before (c : Dev nD) : sProp 𝕄 := iprop(kept (partials m) c ∗ (∃ W, owes (c : Thread nD τ) (D1 c) W) ∗ ∃ r, prngReg c r)

/-- The rest of the device's state before and after the kernel. -/
def restAt : Fin 2 → Dev nD → sProp 𝕄
  | 0, c => before m c
  | 1, c => iprop(left m c ∗ ∃ W, owes (c : Thread nD τ) (0 : CellTallies nD τ sig ℕ) W)

theorem arr_sub : Pipeline.arrRefs (τ := τ) spec0 ⊆ Pipeline.ucRefs τ sig := by decide

theorem region_pre : iprop(StableHlo.held (c : Thread nD τ) (Pipeline.ucRefs τ sig) (V1 m c) ∗ restAt m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept (partials m) c ∗ ∃ Wd, owes (c : Thread nD τ) (0 + D1 c) Wd)
  rw [zero_add, StableHlo.held_sub_split (c.tc : Thread nD τ) arr_sub (V1 m c)]
  unfold restAt before
  iintro ⟨⟨Ha, Ho⟩, HK, HO, Hp⟩
  isplitl [Ha]; · iexact Ha
  isplitl [Hp]; · iexact Hp
  isplitl [Ho]
  · isplitl [Ho]; · iexact Ho
    iempintro
  isplitl [HK]; · iexact HK
  iexact HO

theorem region_post : (reg0 m).post c ⊢ iprop(StableHlo.held (c : Thread nD τ) (Pipeline.ucRefs τ sig) (V2 m (outsM m) c) ∗ restAt m 1 c) := by
  show iprop(StableHlo.held (c.tc : Thread nD τ) (Pipeline.arrRefs (τ := τ) spec0) (V2 m (outsM m) c) ∗ (∃ r, prngReg c r)
    ∗ (StableHlo.held (c.tc : Thread nD τ) others (V2 m (outsM m) c) ∗ emp) ∗ left m c ∗ ∃ Wd, owes (c : Thread nD τ) (0 : CellTallies nD τ sig ℕ) Wd) ⊢ _
  rw [StableHlo.held_sub_split (c.tc : Thread nD τ) arr_sub (V2 m (outsM m) c)]
  unfold restAt
  iintro ⟨Ha, -, ⟨Ho, -⟩, Hb, HO⟩
  isplitl [Ha Ho]
  · isplitl [Ha]; · iexact Ha
    iexact Ho
  isplitl [Hb]; · iexact Hb
  iexact HO

/-! ## The launch -/

theorem sems_bar : (unscopedSems0 c : sProp 𝕄) = semVal (barC c) 0 := by
  unfold unscopedSems0
  rw [show (Finset.univ.filter fun sm : SemLoc sig => ¬ sm.isScoped .tc) = {barS} from by decide, BI.bigSep_singleton]

theorem unscoped_eq : ∀ sm : SemLoc sig, sm.isScoped .tc = false → sm = barS := by decide

/-- What the launch starts from: the pipeline's cells, and the protocol's. -/
def u₀ : UU :=
  (initOf (Pipeline.cells cfgs cellOf_inj) (Pipeline.launchToks cfgs cellOf_inj), launchOf fam.S fam.Sd fam.T)

/-- The protocol's part of the launch, in device 0's hands until it is dealt. -/
def G (c : Dev nD) : sProp 𝕄 := if c = 0 then BI.own (ER (launchOf fam.S fam.Sd fam.T)) else iprop(emp)

theorem G_all : bigSep Finset.univ (G (F := F)) = BI.own (ER (launchOf fam.S fam.Sd fam.T)) := by
  rw [bigSep_univ_at _ (0 : Dev nD), bigSep_congr (s := Finset.univ.erase (0 : Dev nD)) (Ψ := fun _ => (BI.emp : sProp 𝕄))
    (fun c hc => by unfold G; rw [if_neg (Finset.ne_of_mem_erase hc)]; rfl), BI.bigSep_emp_const]
  unfold G; rw [if_pos rfl]
  exact BI.equiv_iff.mp sep_emp

theorem no_credit : (Pipeline.launchCred (fun _ : Dev nD => (0 : CellTallies nD τ sig ℕ)) c : sProp 𝕄) = (BI.emp : sProp 𝕄) := by
  rw [Pipeline.launchCred_of_sum (fun _ : Dev nD => (0 : CellTallies nD τ sig ℕ)) (fun _ => 0) rfl (fun _ _ h => absurd rfl h) c, cred_zero]; rfl

/-- Every device's barrier position, and what rides with it to the kernel, of the barrier counters and the protocol's part of the launch. -/
theorem funded : iprop((bigSep Finset.univ fun c : Dev nD => semVal (barC c) 0) ∗ BI.own (ER (launchOf fam.S fam.Sd fam.T)))
    ⊢ (|={Set.univ}=> bigSep Finset.univ fun c : Dev nD => fam.launched ER (Rd (partials m)) (fun _ => Finset.univ) c : sProp 𝕄) := by
  have h := fam.funds ER (Rd (partials m)) (fun g _ h => h) (fun _ => Finset.univ) (Es := Set.univ)
  unfold SiteBlocks.Funds at h
  simp only [no_credit] at h
  have h1 (c : Dev nD) : (semVal (barC c) 0 : sProp 𝕄) ⊢ iprop(semVal (barC c) 0 ∗ emp) := by
    iintro H
    isplitl [H]; · iexact H
    iempintro
  have h' : (bigSep Finset.univ fun c : Dev nD => semVal (barC c) 0 : sProp 𝕄) ⊢ bigSep Finset.univ fun c : Dev nD => iprop(semVal (barC c) 0 ∗ emp) :=
    bigSep_mono fun c _ => h1 c
  iintro ⟨H, Hu⟩
  iapply h
  isplitl [H]; · iapply h'; iexact H
  iexact Hu

/-- Before the host program: the unscoped buffers as launched, and the rest. -/
abbrev T₀ (c : Dev nD) : sProp 𝕄 := iprop(StableHlo.held (c : Thread nD τ) (Pipeline.ucRefs τ sig) (V0 m c) ∗ restAt m 0 c)

/-- At the end: the unscoped buffers, and the barrier's cell past its round. -/
abbrev Tₙ (c : Dev nD) : sProp 𝕄 := iprop(StableHlo.held (c : Thread nD τ) (Pipeline.ucRefs τ sig) (V2 m (outsM m) c) ∗ left m c)

theorem launch_all :
    iprop((bigSep Finset.univ fun c : Dev nD => iprop(unscopedBufs c (fun b => m ((c : Thread nD τ).loc b)) ∗ unscopedSems0 c
          ∗ owes (c : Thread nD τ) (D1 c) ∅ ∗ Pipeline.launchCred D1 c ∗ prngReg c (ρ c) ∗ G c)) ∗ levAts (SiteBlocks.L 4) SiteBlocks.lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (D1 c) ∅ ∗ Pipeline.launchCred D1 c ∗ prngReg c (ρ c) ∗ G c)
      ⊢ (iprop((StableHlo.held (c : Thread nD τ) (Pipeline.ucRefs τ sig) (V0 m c) ∗ owes (c : Thread nD τ) (D1 c) ∅ ∗ credits c ∗ prngReg c (ρ c))
        ∗ semVal (barC c) 0 ∗ G c) : sProp 𝕄) := by
    rw [← Pipeline.unscopedBufs_held (Ix := ℕ) (Name := ℕ) (U := UU) (Lvl := ℕ) c (V0 m c), sems_bar]
    iintro ⟨Hh, Hs, HO, Hc, Hp, HG⟩
    isplitl [Hh HO Hc Hp]
    · isplitl [Hh]; · iexact Hh
      isplitl [HO]; · iexact HO
      isplitl [Hc]; · iapply (launch_credits c); iexact Hc
      iexact Hp
    isplitl [Hs]; · iexact Hs
    iexact HG
  have hlast (c : Dev nD) : iprop((StableHlo.held (c : Thread nD τ) (Pipeline.ucRefs τ sig) (V0 m c) ∗ owes (c : Thread nD τ) (D1 c) ∅ ∗ credits c ∗ prngReg c (ρ c))
        ∗ fam.launched ER (Rd (partials m)) (fun _ => Finset.univ) c) ⊢ (T₀ m c : sProp 𝕄) := by
    have hr : (bigSep Finset.univ fun j : Fin 1 => fam.rides ER (Rd (partials m)) c j : sProp 𝕄) ⊢ fam.rides ER (Rd (partials m)) c 0 := bigSep_elim (Finset.mem_univ (0 : Fin 1))
    unfold T₀ restAt before kept TalkSites.Fam.launched
    iintro ⟨⟨Hh, HO, Hc, Hp⟩, Hb, Hr⟩
    isplitl [Hh]; · iexact Hh
    isplitl [Hb Hr Hc]
    · isplitl [Hb]; · iexact Hb
      isplitl [Hr]; · iapply hr; iexact Hr
      iexact Hc
    isplitl [HO]; · iexists ∅; iexact HO
    iexists (ρ c); iexact Hp
  iintro ⟨H, -⟩
  ihave H := (show (bigSep Finset.univ fun c : Dev nD => iprop(unscopedBufs c (fun b => m ((c : Thread nD τ).loc b)) ∗ unscopedSems0 c
          ∗ owes (c : Thread nD τ) (D1 c) ∅ ∗ Pipeline.launchCred D1 c ∗ prngReg c (ρ c) ∗ G c))
      ⊢ (bigSep Finset.univ fun c : Dev nD => iprop((StableHlo.held (c : Thread nD τ) (Pipeline.ucRefs τ sig) (V0 m c) ∗ owes (c : Thread nD τ) (D1 c) ∅ ∗ credits c ∗ prngReg c (ρ c))
        ∗ semVal (barC c) 0 ∗ G c) : sProp 𝕄) from bigSep_mono fun c _ => hcore c) $$ H
  ihave H := (show (bigSep Finset.univ fun c : Dev nD => iprop((StableHlo.held (c : Thread nD τ) (Pipeline.ucRefs τ sig) (V0 m c) ∗ owes (c : Thread nD τ) (D1 c) ∅ ∗ credits c ∗ prngReg c (ρ c))
        ∗ semVal (barC c) 0 ∗ G c) : sProp 𝕄)
      ⊢ iprop((bigSep Finset.univ fun c : Dev nD => iprop(StableHlo.held (c : Thread nD τ) (Pipeline.ucRefs τ sig) (V0 m c) ∗ owes (c : Thread nD τ) (D1 c) ∅ ∗ credits c ∗ prngReg c (ρ c)))
        ∗ (bigSep Finset.univ fun c : Dev nD => semVal (barC c) 0) ∗ BI.own (ER (launchOf fam.S fam.Sd fam.T)))
      from Entails.of_eq (by rw [bigSep_sep', bigSep_sep' Finset.univ (fun c : Dev nD => (semVal (barC c) 0 : sProp 𝕄)), G_all])) $$ H
  icases H with ⟨HB, Hv, Hu⟩
  imod (funded m) $$ [Hv Hu] with HF
  · isplitl [Hv]; · iexact Hv
    iexact Hu
  imodintro
  iapply (show iprop((bigSep Finset.univ fun c : Dev nD => iprop(StableHlo.held (c : Thread nD τ) (Pipeline.ucRefs τ sig) (V0 m c) ∗ owes (c : Thread nD τ) (D1 c) ∅ ∗ credits c ∗ prngReg c (ρ c)))
      ∗ bigSep Finset.univ fun c : Dev nD => fam.launched ER (Rd (partials m)) (fun _ => Finset.univ) c) ⊢ (bigSep Finset.univ (T₀ m) : sProp 𝕄)
    from by rw [← bigSep_sep']; exact bigSep_mono fun c _ => hlast c)
  isplitl [HB]; · iexact HB
  iexact HF

/-! ## The run -/

set_option backward.isDefEq.respectTransparency.types false in
/-- From any memory with zero counters, the program on the eight devices ends, every argument as launched, every device's result `out` of the partial
    products, every counter at zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.mem ((c.tc : Thread nD τ).loc main_v19) = out (partials m))
    ∧ r.2.sem = fun _ => 0) := by
  refine Pipeline.θ_run_regions_kit_dev_sems (pcfgs (F := F)) adm (pdats m) 0 cellOf_inj EP defs₀ 𝒱₀ (SiteBlocks.L 4) SiteBlocks.lv m ρ main
    (segs m 𝒱₀ (SiteBlocks.L 4) SiteBlocks.lv (restAt m) 0 (pdats m) (reg0 m))
    (fun c Q => by
      rewrite [main_chain c, Pipeline.Seg.run_eq_chain,
        show (segs m 𝒱₀ (SiteBlocks.L 4) SiteBlocks.lv (restAt m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    D1 (fun g h => by unfold SiteBlocks.L; exact if_neg h) G u₀
    (by
      unfold u₀
      iintro Hu
      ihave H := (ownU_pair _ _) $$ Hu
      icases H with ⟨HP, HX⟩
      imodintro
      isplitl [HP]; · iexact HP
      rw [G_all]; iexact HX)
    (T₀ m) (Tₙ m)
    (fun c => ⟨.rfl, region_pre m c, (region_post m c).trans (by
      unfold restAt
      iintro ⟨Hh, Hb, HO⟩
      isplitr [HO]
      · isplitl [Hh]; · iexact Hh
        iexact Hb
      · iexact HO)⟩)
    (launch_all m ρ)
    (fun c s => ((s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4))
      ∧ s.mem ((c.tc : Thread nD τ).loc main_v19) = out (partials m)) ∧ s.sem (barC c) = 0)
    (fun c s' => ?_)
    (fun s h hs => ⟨fun c => (h c).1, sem_eq_zero hs fun c sm hsm => by
      obtain rfl := unscoped_eq sm hsm
      exact (h c).2⟩)
  dsimp only [Tₙ, left]
  unfold StableHlo.held
  iintro ⟨⟨Hh, Hb⟩, HSI⟩
  imod (fam.barPos_read ER (Rd (partials m)) c (duties_later (partials m) _ 1 (by decide)) ∅ s') $$ [Hb HSI] with ⟨%hb, HSI⟩
  · isplitl [Hb]; · iexact Hb
    iexact HSI
  ihave Hr := (pointsTo_read_all (Pipeline.ucRefs τ sig) (fun b => ((c : Thread nD τ).1, b)) (V2 m (outsM m) c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V2_main_arg0 m (outsM m) c),
      (h (Proc.devRef .tc main_arg1) (Finset.mem_filter.mpr ⟨StableHlo.devRef_mem_tcRefs main_arg1, by decide⟩)).trans (V2_main_arg1 m (outsM m) c),
      (h (Proc.devRef .tc main_arg2) (Finset.mem_filter.mpr ⟨StableHlo.devRef_mem_tcRefs main_arg2, by decide⟩)).trans (V2_main_arg2 m (outsM m) c),
      (h (Proc.devRef .tc main_arg3) (Finset.mem_filter.mpr ⟨StableHlo.devRef_mem_tcRefs main_arg3, by decide⟩)).trans (V2_main_arg3 m (outsM m) c),
      (h (Proc.devRef .tc main_arg4) (Finset.mem_filter.mpr ⟨StableHlo.devRef_mem_tcRefs main_arg4, by decide⟩)).trans (V2_main_arg4 m (outsM m) c)⟩,
      (h (Proc.devRef .tc main_v19) (Finset.mem_filter.mpr ⟨StableHlo.devRef_mem_tcRefs main_v19, by decide⟩)).trans (V2_v19 m c)⟩, hb⟩
  · iexact HSI

end Cert.KernelIdeal.Ring
-- ==== Proof.Value.Host.lean ====
/-
What each device's launch reads, by coordinates of the device's arguments: the device's columns of the query weights
and rows of the output weights, and the activations stacked on its keys and values.
-/
module

public import proofs.«01_k».proof.Proof.KernelIdeal.BodyRun
public import Idealize.ShloMosaic.Lib.StableHlo.ReadAt
public import Idealize.ShloMosaic.Lib.Pointwise

@[expose] public section

noncomputable section

namespace Cert.KernelIdeal.Ring

open Cert.KernelIdeal Cert.KernelIdeal.Gen
open Idealize.ShloMosaic Idealize.ShloMosaic.TcCoe

variable (m : (ℓ : Loc nD τ sig) → Buf (Elt Ideal) ℓ) (c : Dev nD)

/-- The word the columns start at. -/
theorem colWord : (StableHlo.upto (hostOps0 (F := Ideal) c) (V0 m c) 14 (Proc.tc.devRef main_v8) : S_.Idx → BitVec 32) (Shape.Idx.first h_S_)
    = BitVec.ofNat 32 (256 * c.val) := by
  after_reads_at
  fin_cases c <;> decide +kernel

/-- The word the rows start at. -/
theorem rowWord : (StableHlo.upto (hostOps0 (F := Ideal) c) (V0 m c) 23 (Proc.tc.devRef main_v13) : S_.Idx → BitVec 32) (Shape.Idx.first h_S_)
    = BitVec.ofNat 32 (256 * c.val) := by
  after_reads_at
  fin_cases c <;> decide +kernel

/-- The columns are cut from the first row on. -/
theorem colZero : (StableHlo.upto (hostOps0 (F := Ideal) c) (V0 m c) 14 (Proc.tc.devRef main_c_4) : S_.Idx → BitVec 32) (Shape.Idx.first h_S_) = 0#32 := by
  after_reads_at

/-- The rows are cut from the first column on. -/
theorem rowZero : (StableHlo.upto (hostOps0 (F := Ideal) c) (V0 m c) 23 (Proc.tc.devRef main_c_8) : S_.Idx → BitVec 32) (Shape.Idx.first h_S_) = 0#32 := by
  after_reads_at

/-- The keys, the four heads side by side. -/
theorem keyIn (b : Fin 2) (j n : Fin 256) : @Eq EReal
    ((StableHlo.upto (hostOps0 (F := Ideal) c) (V0 m c) 26 (Proc.tc.devRef main_v15) : S2x256x256.Idx → EReal) (ix3 b j n))
    ((m ((c.tc : Thread nD τ).loc main_arg2) : S2x256x4x64.Idx → EReal) (ix4 b j ⟨n.val / 64, by omega⟩ ⟨n.val % 64, by omega⟩)) := by
  after_reads_at

/-- The values, the four heads side by side. -/
theorem valIn (b : Fin 2) (j n : Fin 256) : @Eq EReal
    ((StableHlo.upto (hostOps0 (F := Ideal) c) (V0 m c) 26 (Proc.tc.devRef main_v16) : S2x256x256.Idx → EReal) (ix3 b j n))
    ((m ((c.tc : Thread nD τ).loc main_arg3) : S2x256x4x64.Idx → EReal) (ix4 b j ⟨n.val / 64, by omega⟩ ⟨n.val % 64, by omega⟩)) := by
  after_reads_at

/-- The word of a device's offset, as an integer. -/
theorem word_int (d : Dev nD) : (BitVec.ofNat 32 (256 * d.val)).toInt = ((256 * d.val : ℕ) : ℤ) := by
  revert d
  decide +kernel

/-- A device's columns of the query weights. -/
theorem wIn_apply (t : Fin 512) (k : Fin 256) :
    @Eq EReal (wIn m c (ix2 t k)) ((m ((c.tc : Thread nD τ).loc main_arg1) : S512x2048.Idx → EReal) (ix2 t ⟨256 * c.val + k.val, by have : c.val < 8 := c.isLt; omega⟩)) := by
  have hc : c.val < 8 := c.isLt
  unfold wIn V1
  after_reads_at
  refine congrArg (m ((c.tc : Thread nD τ).loc main_arg1) : S512x2048.Idx → EReal) ?_
  refine congrArg₂ ix2 (Fin.ext ?_) (Fin.ext ?_)
  · refine (congrArg (· + t.val) (Host.clampedStart_of_le _ _ 0 0 ?_ (by decide))).trans (Nat.zero_add _)
    exact congrArg BitVec.toInt (colZero m c)
  · refine congrArg (· + k.val) (Host.clampedStart_of_le _ _ 1 (256 * c.val) ?_ (by show 256 * c.val + 256 ≤ 2048; omega))
    exact (congrArg BitVec.toInt (colWord m c)).trans (word_int c)

/-- A device's rows of the output weights. -/
theorem oIn_apply (k : Fin 256) (e : Fin 512) :
    @Eq EReal (oIn m c (ix2 k e)) ((m ((c.tc : Thread nD τ).loc main_arg4) : S2048x512.Idx → EReal) (ix2 ⟨256 * c.val + k.val, by have : c.val < 8 := c.isLt; omega⟩ e)) := by
  have hc : c.val < 8 := c.isLt
  unfold oIn V1
  after_reads_at
  refine congrArg (m ((c.tc : Thread nD τ).loc main_arg4) : S2048x512.Idx → EReal) ?_
  refine congrArg₂ ix2 (Fin.ext ?_) (Fin.ext ?_)
  · refine congrArg (· + k.val) (Host.clampedStart_of_le _ _ 0 (256 * c.val) ?_ (by show 256 * c.val + 256 ≤ 2048; omega))
    exact (congrArg BitVec.toInt (rowWord m c)).trans (word_int c)
  · refine (congrArg (· + e.val) (Host.clampedStart_of_le _ _ 1 0 ?_ (by decide))).trans (Nat.zero_add _)
    exact congrArg BitVec.toInt (rowZero m c)

/-- Rows 0 and 1 of the stack are the activations. -/
theorem xIn_acts (b : Fin 2) (i : Fin 256) (t : Fin 512) :
    @Eq EReal (xIn m c (ix3 ⟨b.val, by omega⟩ i t)) ((m ((c.tc : Thread nD τ).loc main_arg0) : S2x256x512.Idx → EReal) (ix3 b i t)) := by
  unfold xIn V1
  after_reads_at

/-- Rows 2 and 3, left half, are the keys. -/
theorem xIn_keys (b : Fin 2) (j : Fin 256) (h : Fin 4) (d : Fin 64) :
    @Eq EReal (xIn m c (ix3 ⟨2 + b.val, by omega⟩ j ⟨64 * h.val + d.val, by omega⟩))
      ((m ((c.tc : Thread nD τ).loc main_arg2) : S2x256x4x64.Idx → EReal) (ix4 b j h d)) := by
  unfold xIn V1
  after_reads_at
  refine (dif_pos (show 64 * h.val + d.val < 256 by omega)).trans ?_
  refine (keyIn m c b j ⟨64 * h.val + d.val, by omega⟩).trans (congrArg (m ((c.tc : Thread nD τ).loc main_arg2) : S2x256x4x64.Idx → EReal) ?_)
  exact congrArg₂ (ix4 b j) (Fin.ext (by show (64 * h.val + d.val) / 64 = h.val; omega)) (Fin.ext (by show (64 * h.val + d.val) % 64 = d.val; omega))

/-- Rows 2 and 3, right half, are the values. -/
theorem xIn_vals (b : Fin 2) (j : Fin 256) (h : Fin 4) (d : Fin 64) :
    @Eq EReal (xIn m c (ix3 ⟨2 + b.val, by omega⟩ j ⟨256 + (64 * h.val + d.val), by omega⟩))
      ((m ((c.tc : Thread nD τ).loc main_arg3) : S2x256x4x64.Idx → EReal) (ix4 b j h d)) := by
  unfold xIn V1
  after_reads_at
  refine (valIn m c b j ⟨64 * h.val + d.val, by omega⟩).trans (congrArg (m ((c.tc : Thread nD τ).loc main_arg3) : S2x256x4x64.Idx → EReal) ?_)
  exact congrArg₂ (ix4 b j) (Fin.ext (by show (64 * h.val + d.val) / 64 = h.val; omega)) (Fin.ext (by show (64 * h.val + d.val) % 64 = d.val; omega))

end Cert.KernelIdeal.Ring

end
-- ==== Proof.Value.Attention.lean ====
/-
One row of windowed attention over the extended reals, written twice: as the kernel computes it (weights not
shifted, one division after the sum) and as the reference computes it (weights shifted by their maximum, each
divided before the sum). The two are the same whenever the scores are real numbers; the values may be anything.
-/
module

public import Idealize.ShloMosaic.Lib.Pointwise
public import Idealize.ShloMosaic.Lib.IdealHost

@[expose] public section

noncomputable section

namespace Cert.Attention

open Idealize.ShloMosaic

/-- The bit that says row `i` attends to column `j`: they are at most 128 apart. -/
abbrev near (i j : Fin 256) : BitVec 1 :=
  IntOp.cmpi CmpIPredicate.sle (IntOp.absi (IntOp.subi (BitVec.ofNat 32 i.val) (BitVec.ofNat 32 j.val))) 128#32

/-- The score of a masked column. -/
abbrev low : EReal := Ideal.ofBits FTy.f32 3463342888#32

/-- The scale of the scores. -/
abbrev eighth : EReal := Ideal.ofBits FTy.f32 1040187392#32

/-- A row attends to itself. -/
theorem near_self (i : Fin 256) : near i i = 1#1 := by
  revert i; decide +kernel

/-- So every row attends to something. -/
theorem near_any (i : Fin 256) : Finset.fold IntOp.ori (0#1) (fun j => near i j) Finset.univ = 1#1 := by
  rw [← Finset.insert_erase (Finset.mem_univ i), Finset.fold_insert (Finset.notMem_erase _ _), near_self]
  generalize Finset.fold IntOp.ori (0#1) (fun j => near i j) _ = b
  revert b; decide

/-- The masked score is a real number. -/
theorem low_real : ∃ r : ℝ, low = (r : EReal) := by
  refine ⟨-1000000000, ?_⟩
  simp [low, Ideal.ofBits, Ideal.ieee, -EReal.coe_mul]; norm_num

/-- So is the scale. -/
theorem eighth_real : ∃ r : ℝ, eighth = (r : EReal) := by
  refine ⟨1 / 8, ?_⟩
  simp [eighth, Ideal.ofBits, Ideal.ieee, -EReal.coe_mul]; norm_num

/-- A real factor that is not negative goes into a sum of extended reals. -/
theorem sum_mul_real {n : ℕ} (f : Fin n → EReal) (c : ℝ) (hc : 0 ≤ c) : (∑ j, f j) * (c : EReal) = ∑ j, f j * (c : EReal) := by
  have key : ∀ s : Finset (Fin n), (∑ j ∈ s, f j) * (c : EReal) = ∑ j ∈ s, f j * (c : EReal) := by
    intro s
    induction s using Finset.induction_on with
    | empty => simp
    | insert a s ha ih =>
      rw [Finset.sum_insert ha, Finset.sum_insert ha, ← ih, mul_comm, mul_comm (f a), mul_comm (Finset.sum s f)]
      exact EReal.left_distrib_of_nonneg_of_ne_top (EReal.coe_nonneg.2 hc) (EReal.coe_ne_top c) _ _
  exact key Finset.univ

/-- A finite sum of reals, read in the extended reals. -/
theorem coe_sum {n : ℕ} (f : Fin n → ℝ) : ((∑ j, f j : ℝ) : EReal) = ∑ j, (f j : EReal) := by
  have key : ∀ s : Finset (Fin n), ((∑ j ∈ s, f j : ℝ) : EReal) = ∑ j ∈ s, (f j : EReal) := by
    intro s
    induction s using Finset.induction_on with
    | empty => simp
    | insert a s ha ih => rw [Finset.sum_insert ha, Finset.sum_insert ha, EReal.coe_add, ih]
  exact key Finset.univ

/-- The largest of a row of reals, started at the least extended real, is a real. -/
theorem max_real (s : Fin 256 → ℝ) :
    ∃ μ : ℝ, Finset.fold max (Ideal.ofBits FTy.f32 4286578688#32) (fun j => (s j : EReal)) Finset.univ = (μ : EReal) := by
  have hb : Ideal.ofBits FTy.f32 4286578688#32 = ⊥ := by simp [Ideal.ofBits, Ideal.ieee]
  rw [hb]
  have key : ∀ t : Finset (Fin 256), Finset.fold max (⊥ : EReal) (fun j => (s j : EReal)) t = ⊥
      ∨ ∃ μ : ℝ, Finset.fold max (⊥ : EReal) (fun j => (s j : EReal)) t = (μ : EReal) := by
    intro t
    induction t using Finset.induction_on with
    | empty => left; simp
    | insert a t ha ih =>
      right
      rw [Finset.fold_insert ha]
      rcases ih with h | ⟨μ, h⟩
      · exact ⟨s a, by rw [h]; exact max_eq_left bot_le⟩
      · exact ⟨max (s a) μ, by rw [h]; exact (EReal.coe_strictMono.monotone.map_max).symm⟩
  rcases key Finset.univ with h | h
  · exfalso
    rw [← Finset.insert_erase (Finset.mem_univ (0 : Fin 256)), Finset.fold_insert (Finset.notMem_erase _ _)] at h
    exact absurd (le_antisymm ((le_max_left _ _).trans h.le) bot_le) (EReal.coe_ne_bot (s 0))
  · exact h

/-- The kernel's row: weigh, sum, divide. -/
def rowK (s v : Fin 256 → EReal) : EReal :=
  Ideal.div (∑ j, Ideal.exp (s j) * v j) (∑ j, Ideal.exp (s j))

/-- The largest score of a row. -/
def top (s : Fin 256 → EReal) : EReal :=
  Finset.fold max (Ideal.ofBits FTy.f32 4286578688#32) (fun j => s j) Finset.univ

/-- The reference's row: shift by the largest score, weigh, divide each weight, sum. -/
def rowR (s v : Fin 256 → EReal) : EReal :=
  ∑ j, v j * Ideal.div (Ideal.exp (s j - top s)) (∑ j', Ideal.exp (s j' - top s))

/-- The two rows are one when the scores are real. -/
theorem rowK_eq_rowR (s v : Fin 256 → EReal) (hs : ∀ j, ∃ r : ℝ, s j = (r : EReal)) : rowK s v = rowR s v := by
  choose σ hσ using hs
  obtain rfl : s = fun j => (σ j : EReal) := funext hσ
  obtain ⟨μ, hμ⟩ := max_real σ
  have hpos : 0 < ∑ j, Real.exp (σ j) := Finset.sum_pos (fun j _ => Real.exp_pos _) Finset.univ_nonempty
  have hpos' : 0 < ∑ j, Real.exp (σ j - μ) := Finset.sum_pos (fun j _ => Real.exp_pos _) Finset.univ_nonempty
  have hK : rowK (fun j => (σ j : EReal)) v
      = (∑ j, (Real.exp (σ j) : EReal) * v j) * ((1 / ∑ j, Real.exp (σ j) : ℝ) : EReal) := by
    rw [← Ideal.div_coe hpos.ne', coe_sum]; rfl
  have hsh : ∀ j, Ideal.exp ((σ j : EReal) - (μ : EReal)) = (Real.exp (σ j - μ) : EReal) := fun j => by
    rw [← EReal.coe_sub]; rfl
  have hR : rowR (fun j => (σ j : EReal)) v
      = ∑ j, v j * ((Real.exp (σ j - μ) : EReal) * ((1 / ∑ j, Real.exp (σ j - μ) : ℝ) : EReal)) := by
    unfold rowR top
    rw [hμ]
    refine Finset.sum_congr rfl fun j _ => ?_
    rw [hsh, ← Ideal.div_coe hpos'.ne', coe_sum, Finset.sum_congr rfl fun j' _ => hsh j']
  rw [hK, hR, sum_mul_real _ _ (by positivity)]
  refine Finset.sum_congr rfl fun j _ => ?_
  have hr : Real.exp (σ j) * (1 / ∑ j, Real.exp (σ j)) = Real.exp (σ j - μ) * (1 / ∑ j, Real.exp (σ j - μ)) := by
    simp only [Real.exp_sub, ← Finset.sum_div]
    have := Real.exp_pos μ
    field_simp
  rw [mul_comm (Real.exp (σ j) : EReal), mul_assoc, ← EReal.coe_mul, ← EReal.coe_mul, hr]

/-- A sum of products of reals is a real. -/
theorem dot_real {n : ℕ} (f g : Fin n → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [coe_sum]
  exact Finset.sum_congr rfl fun i _ => by rw [ha, hb, EReal.coe_mul]

/-- The scale may be put on the query or on the score, if queries and keys are real. -/
theorem scale_dot {n : ℕ} (f g : Fin n → EReal) (hf : ∀ i, ∃ r : ℝ, f i = (r : EReal)) (hg : ∀ i, ∃ r : ℝ, g i = (r : EReal)) :
    ∑ i, (f i * eighth) * g i = (∑ i, f i * g i) * eighth := by
  choose a ha using hf
  choose b hb using hg
  obtain ⟨c, hc⟩ := eighth_real
  have h1 : ∑ i, (f i * eighth) * g i = ((∑ i, a i * c * b i : ℝ) : EReal) := by
    rw [coe_sum]
    exact Finset.sum_congr rfl fun i _ => by rw [ha, hb, hc, EReal.coe_mul, EReal.coe_mul]
  have h2 : ∑ i, f i * g i = ((∑ i, a i * b i : ℝ) : EReal) := by
    rw [coe_sum]
    exact Finset.sum_congr rfl fun i _ => by rw [ha, hb, EReal.coe_mul]
  rw [h1, h2, hc, ← EReal.coe_mul, Finset.sum_mul]
  exact congrArg _ (Finset.sum_congr rfl fun i _ => by ring)

/-- The column of the projections that is entry `d` of head `h`. -/
abbrev col (h : Fin 32) (d : Fin 64) : Fin 2048 := ⟨h.val * 64 + d.val, by omega⟩

section
variable (x : Fin 2 → Fin 256 → Fin 512 → EReal) (w : Fin 512 → Fin 2048 → EReal)
  (k v : Fin 2 → Fin 256 → Fin 32 → Fin 64 → EReal) (o : Fin 2048 → Fin 512 → EReal)

/-- A query entry, not scaled. -/
def query (b : Fin 2) (i : Fin 256) (h : Fin 32) (d : Fin 64) : EReal := ∑ t, x b i t * w t (col h d)

/-- The kernel's score: the query is scaled. -/
def scoreK (b : Fin 2) (h : Fin 32) (i j : Fin 256) : EReal :=
  Scalar.select (near i j) (∑ d, (query x w b i h d * eighth) * k b j h d) low

/-- The reference's score: the product is scaled. -/
def scoreR (b : Fin 2) (h : Fin 32) (i j : Fin 256) : EReal :=
  Scalar.select (near i j) ((∑ d, query x w b i h d * k b j h d) * eighth) low

/-- The kernel's attention output, row `i`, entry `d` of head `h`. -/
def ctxK (b : Fin 2) (i : Fin 256) (h : Fin 32) (d : Fin 64) : EReal := rowK (scoreK x w k b h i) (fun j => v b j h d)

/-- The reference's. -/
def ctxR (b : Fin 2) (i : Fin 256) (h : Fin 32) (d : Fin 64) : EReal := rowR (scoreR x w k b h i) (fun j => v b j h d)

variable (hx : ∀ b i t, ∃ r : ℝ, x b i t = (r : EReal)) (hw : ∀ t c, ∃ r : ℝ, w t c = (r : EReal))
  (hk : ∀ b j h d, ∃ r : ℝ, k b j h d = (r : EReal))
include hx hw

/-- A query entry is real when activations and query weights are. -/
theorem query_real (b : Fin 2) (i : Fin 256) (h : Fin 32) (d : Fin 64) : ∃ r : ℝ, query x w b i h d = (r : EReal) :=
  dot_real _ _ (hx b i) fun t => hw t _

include hk

/-- The scores agree. -/
theorem scoreK_eq (b : Fin 2) (h : Fin 32) (i j : Fin 256) : scoreK x w k b h i j = scoreR x w k b h i j := by
  unfold scoreK scoreR
  rw [scale_dot _ _ (query_real x w hx hw b i h) (hk b j h)]

/-- A score is real. -/
theorem scoreR_real (b : Fin 2) (h : Fin 32) (i j : Fin 256) : ∃ r : ℝ, scoreR x w k b h i j = (r : EReal) := by
  unfold scoreR Scalar.select
  obtain ⟨r, hr⟩ := dot_real _ _ (query_real x w hx hw b i h) (hk b j h)
  obtain ⟨c, hc⟩ := eighth_real
  obtain ⟨l, hl⟩ := low_real
  split
  · exact ⟨r * c, by rw [hr, hc, EReal.coe_mul]⟩
  · exact ⟨l, hl⟩

/-- The attention outputs agree. -/
theorem ctxK_eq (b : Fin 2) (i : Fin 256) (h : Fin 32) (d : Fin 64) : ctxK x w k v b i h d = ctxR x w k v b i h d := by
  unfold ctxK ctxR
  have e : scoreK x w k b h i = scoreR x w k b h i := funext fun j => scoreK_eq x w k hx hw hk b h i j
  rw [e]
  exact rowK_eq_rowR _ _ (scoreR_real x w k hx hw hk b h i)

end

/-- A sum over 2048 columns, device by device: 8 blocks of 256. -/
theorem sum_blocks (f : Fin 2048 → EReal) : ∑ c, f c = ∑ s : Fin 8, ∑ k : Fin 256, f ⟨256 * s.val + k.val, by omega⟩ := by
  rw [← Finset.sum_product']
  refine (Fintype.sum_equiv (finProdFinEquiv (m := 8) (n := 256)) _ _ fun p => ?_).symm
  refine congrArg f (Fin.ext ?_)
  show 256 * p.1.val + p.2.val = p.2.val + 256 * p.1.val
  omega

end Cert.Attention

end
-- ==== Proof.Value.Heads.lean ====
/-
The kernel's arithmetic at an index, in the words of Value/Attention.lean: the window, the scaled queries, each
head, the product with the output weights and the sum over devices.
-/
module

public import proofs.«01_k».proof.Proof.KernelIdeal.Values
public import proofs.«01_k».proof.Proof.Value.Attention
public import Idealize.ShloMosaic.Lib.Pointwise.IndexBridge

@[expose] public section

noncomputable section

namespace Cert.KernelIdeal.Ring

open Cert.KernelIdeal Cert.KernelIdeal.Gen Cert.Attention
open Idealize.ShloMosaic

/-- Activations as loaded. -/
theorem acts_apply (X : Vec Ideal S4x256x512 .bf16) (b : Fin 2) (i : Fin 256) (t : Fin 512) :
    acts X (ix3 b i t) = X (ix3 ⟨b.val, by omega⟩ i t) :=
  congrArg X (funext fun a => Fin.ext (by
    fin_cases a
    · show 0 + 1 * b.val = b.val; omega
    · show 0 + 1 * i.val = i.val; omega
    · show 0 + 1 * t.val = t.val; omega))

/-- Query weights as loaded. -/
theorem wq_eq (W : Vec Ideal S512x256 .bf16) : wq W = W :=
  funext fun j => congrArg W (funext fun a => Fin.ext (by
    fin_cases a
    · show 0 + 1 * (j 0).val = (j 0).val; omega
    · show 0 + 1 * (j 1).val = (j 1).val; omega))

/-- Output weights as loaded. -/
theorem wo_eq (O : Vec Ideal S256x512 .bf16) : wo O = O :=
  funext fun j => congrArg O (funext fun a => Fin.ext (by
    fin_cases a
    · show 0 + 1 * (j 0).val = (j 0).val; omega
    · show 0 + 1 * (j 1).val = (j 1).val; omega))

/-- Keys and values as loaded. -/
theorem keys_apply (X : Vec Ideal S4x256x512 .bf16) (r : Fin 4) (n : ℕ) (hn : n + 64 ≤ 512) (h) (i : Fin 256) (d : Fin 64) :
    keys X ![r.val, 0, n] h (ix3 0 i d) = X (ix3 r i ⟨n + d.val, by omega⟩) :=
  congrArg X (funext fun a => Fin.ext (by
    fin_cases a
    · show r.val + 1 * 0 = r.val; omega
    · show 0 + 1 * i.val = i.val; omega
    · show n + 1 * d.val = n + d.val; omega))

/-- One head from its scaled queries `q`, keys `k` and values `v`. -/
def headVal (q k v : Fin 256 → Fin 64 → EReal) (i : Fin 256) (d : Fin 64) : EReal :=
  rowK (fun j => Scalar.select (near i j) (∑ t, q i t * k j t) low) (fun j => v j d)

/-- The scaled queries of head `h`, batch `b`. -/
def qVal (X : Vec Ideal S4x256x512 .bf16) (W : Vec Ideal S512x256 .bf16) (b : Fin 2) (h : Fin 4) (i : Fin 256) (d : Fin 64) : EReal :=
  (∑ t : Fin 512, X (ix3 ⟨b.val, by omega⟩ i t) * W (ix2 t ⟨64 * h.val + d.val, by omega⟩)) * eighth

/-- The keys of head `h`, batch `b`. -/
def kVal (X : Vec Ideal S4x256x512 .bf16) (b : Fin 2) (h : Fin 4) (j : Fin 256) (d : Fin 64) : EReal :=
  X (ix3 ⟨2 + b.val, by omega⟩ j ⟨64 * h.val + d.val, by omega⟩)

/-- The values of head `h`, batch `b`. -/
def vVal (X : Vec Ideal S4x256x512 .bf16) (b : Fin 2) (h : Fin 4) (j : Fin 256) (d : Fin 64) : EReal :=
  X (ix3 ⟨2 + b.val, by omega⟩ j ⟨256 + (64 * h.val + d.val), by omega⟩)

/-- The scaled product of activations and query weights at a row of batch `b`. -/
theorem proj_apply (X : Vec Ideal S4x256x512 .bf16) (W : Vec Ideal S512x256 .bf16) (b : Fin 2) (i : Fin 256) (r : Fin 512)
    (hr : r.val = 256 * b.val + i.val) (n : Fin 256) :
    k0_pay1 (acts X) (wq W) (ix2 r n) = (∑ t : Fin 512, X (ix3 ⟨b.val, by omega⟩ i t) * W (ix2 t n)) * eighth := by
  pointwise [k0_pay1]
  rw [wq_eq]
  refine congrArg (· * eighth) (Finset.sum_congr rfl fun t _ => ?_)
  rw [acts_apply]
  have h1 : r.val / 256 = b.val := by omega
  have h2 : r.val % 256 = i.val := by omega
  simp only [h1, h2]

/-- Head 0 of batch 0. -/
theorem head_0_0 (X : Vec Ideal S4x256x512 .bf16) (W : Vec Ideal S512x256 .bf16) (i : Fin 256) (d : Fin 64) :
    head0 X W 0 (ix2 i d) = headVal (qVal X W 0 0) (kVal X 0 0) (vVal X 0 0) i d := by
  have hk : ∀ (j : Fin 256) (t : Fin 64), keys X ![2, 0, 0] (by decide) (ix3 0 j t) = kVal X 0 0 j t := fun j t =>
    keys_apply X 2 0 (by decide) (by decide) j t
  have hv : ∀ (j : Fin 256) (t : Fin 64), keys X ![2, 0, 256] (by decide) (ix3 0 j t) = vVal X 0 0 j t := fun j t =>
    (keys_apply X 2 256 (by decide) (by decide) j t).trans (congrArg X (by
      congr 1; exact Fin.ext (by show 256 + t.val = 256 + (64 * 0 + t.val); omega)))
  have hq : ∀ (t : Fin 64) (p) (p'), k0_pay1 (acts X) (wq W) (ix2 ⟨i.val, p⟩ ⟨t.val, p'⟩) = qVal X W 0 0 i t := fun t p p' =>
    (proj_apply X W 0 i _ (by show i.val = 256 * 0 + i.val; omega) _).trans
      (congrArg (· * eighth) (Finset.sum_congr rfl fun _ _ => congrArg _ (congrArg W (congrArg (ix2 _) (Fin.ext (by
        show t.val = 64 * 0 + t.val; omega))))))
  simp only [head0]
  pointwise [k0_pay2, k0_pay3, k0_pay10, k0_pay4]
  simp only [hq, hk, hv]
  rfl

/-- Head 1 of batch 0. -/
theorem head_0_1 (X : Vec Ideal S4x256x512 .bf16) (W : Vec Ideal S512x256 .bf16) (i : Fin 256) (d : Fin 64) :
    head0 X W 1 (ix2 i d) = headVal (qVal X W 0 1) (kVal X 0 1) (vVal X 0 1) i d := by
  have hk : ∀ (j : Fin 256) (t : Fin 64), keys X ![2, 0, 64] (by decide) (ix3 0 j t) = kVal X 0 1 j t := fun j t =>
    keys_apply X 2 64 (by decide) (by decide) j t
  have hv : ∀ (j : Fin 256) (t : Fin 64), keys X ![2, 0, 320] (by decide) (ix3 0 j t) = vVal X 0 1 j t := fun j t =>
    (keys_apply X 2 320 (by decide) (by decide) j t).trans (congrArg X (by
      congr 1; exact Fin.ext (by show 320 + t.val = 256 + (64 * 1 + t.val); omega)))
  have hq : ∀ (t : Fin 64) (p) (p'), k0_pay1 (acts X) (wq W) (ix2 ⟨i.val, p⟩ ⟨64 + t.val, p'⟩) = qVal X W 0 1 i t := fun t p p' =>
    (proj_apply X W 0 i _ (by show i.val = 256 * 0 + i.val; omega) _).trans
      (congrArg (· * eighth) (Finset.sum_congr rfl fun _ _ => congrArg _ (congrArg W (congrArg (ix2 _) (Fin.ext (by
        show 64 + t.val = 64 * 1 + t.val; omega))))))
  simp only [head0]
  pointwise [k0_pay2, k0_pay3, k0_pay10, k0_pay5, k0_pay6]
  simp only [hq, hk, hv]
  rfl

/-- Head 2 of batch 0. -/
theorem head_0_2 (X : Vec Ideal S4x256x512 .bf16) (W : Vec Ideal S512x256 .bf16) (i : Fin 256) (d : Fin 64) :
    head0 X W 2 (ix2 i d) = headVal (qVal X W 0 2) (kVal X 0 2) (vVal X 0 2) i d := by
  have hk : ∀ (j : Fin 256) (t : Fin 64), keys X ![2, 0, 128] (by decide) (ix3 0 j t) = kVal X 0 2 j t := fun j t =>
    keys_apply X 2 128 (by decide) (by decide) j t
  have hv : ∀ (j : Fin 256) (t : Fin 64), keys X ![2, 0, 384] (by decide) (ix3 0 j t) = vVal X 0 2 j t := fun j t =>
    (keys_apply X 2 384 (by decide) (by decide) j t).trans (congrArg X (by
      congr 1; exact Fin.ext (by show 384 + t.val = 256 + (64 * 2 + t.val); omega)))
  have hq : ∀ (t : Fin 64) (p) (p'), k0_pay1 (acts X) (wq W) (ix2 ⟨i.val, p⟩ ⟨128 + t.val, p'⟩) = qVal X W 0 2 i t := fun t p p' =>
    (proj_apply X W 0 i _ (by show i.val = 256 * 0 + i.val; omega) _).trans
      (congrArg (· * eighth) (Finset.sum_congr rfl fun _ _ => congrArg _ (congrArg W (congrArg (ix2 _) (Fin.ext (by
        show 128 + t.val = 64 * 2 + t.val; omega))))))
  simp only [head0]
  pointwise [k0_pay2, k0_pay3, k0_pay10, k0_pay7]
  simp only [hq, hk, hv]
  rfl

/-- Head 3 of batch 0. -/
theorem head_0_3 (X : Vec Ideal S4x256x512 .bf16) (W : Vec Ideal S512x256 .bf16) (i : Fin 256) (d : Fin 64) :
    head0 X W 3 (ix2 i d) = headVal (qVal X W 0 3) (kVal X 0 3) (vVal X 0 3) i d := by
  have hk : ∀ (j : Fin 256) (t : Fin 64), keys X ![2, 0, 192] (by decide) (ix3 0 j t) = kVal X 0 3 j t := fun j t =>
    keys_apply X 2 192 (by decide) (by decide) j t
  have hv : ∀ (j : Fin 256) (t : Fin 64), keys X ![2, 0, 448] (by decide) (ix3 0 j t) = vVal X 0 3 j t := fun j t =>
    (keys_apply X 2 448 (by decide) (by decide) j t).trans (congrArg X (by
      congr 1; exact Fin.ext (by show 448 + t.val = 256 + (64 * 3 + t.val); omega)))
  have hq : ∀ (t : Fin 64) (p) (p'), k0_pay1 (acts X) (wq W) (ix2 ⟨i.val, p⟩ ⟨192 + t.val, p'⟩) = qVal X W 0 3 i t := fun t p p' =>
    (proj_apply X W 0 i _ (by show i.val = 256 * 0 + i.val; omega) _).trans
      (congrArg (· * eighth) (Finset.sum_congr rfl fun _ _ => congrArg _ (congrArg W (congrArg (ix2 _) (Fin.ext (by
        show 192 + t.val = 64 * 3 + t.val; omega))))))
  simp only [head0]
  pointwise [k0_pay2, k0_pay3, k0_pay10, k0_pay8]
  simp only [hq, hk, hv]
  rfl

/-- Head 0 of batch 1. -/
theorem head_1_0 (X : Vec Ideal S4x256x512 .bf16) (W : Vec Ideal S512x256 .bf16) (i : Fin 256) (d : Fin 64) :
    head1 X W 0 (ix2 i d) = headVal (qVal X W 1 0) (kVal X 1 0) (vVal X 1 0) i d := by
  have hk : ∀ (j : Fin 256) (t : Fin 64), keys X ![3, 0, 0] (by decide) (ix3 0 j t) = kVal X 1 0 j t := fun j t =>
    keys_apply X 3 0 (by decide) (by decide) j t
  have hv : ∀ (j : Fin 256) (t : Fin 64), keys X ![3, 0, 256] (by decide) (ix3 0 j t) = vVal X 1 0 j t := fun j t =>
    (keys_apply X 3 256 (by decide) (by decide) j t).trans (congrArg X (by
      congr 1; exact Fin.ext (by show 256 + t.val = 256 + (64 * 0 + t.val); omega)))
  have hq : ∀ (t : Fin 64) (p) (p'), k0_pay1 (acts X) (wq W) (ix2 ⟨256 + i.val, p⟩ ⟨t.val, p'⟩) = qVal X W 1 0 i t := fun t p p' =>
    (proj_apply X W 1 i _ (by show 256 + i.val = 256 * 1 + i.val; omega) _).trans
      (congrArg (· * eighth) (Finset.sum_congr rfl fun _ _ => congrArg _ (congrArg W (congrArg (ix2 _) (Fin.ext (by
        show t.val = 64 * 0 + t.val; omega))))))
  simp only [head1]
  pointwise [k0_pay2, k0_pay3, k0_pay10, k0_pay11]
  simp only [hq, hk, hv]
  rfl

/-- Head 1 of batch 1. -/
theorem head_1_1 (X : Vec Ideal S4x256x512 .bf16) (W : Vec Ideal S512x256 .bf16) (i : Fin 256) (d : Fin 64) :
    head1 X W 1 (ix2 i d) = headVal (qVal X W 1 1) (kVal X 1 1) (vVal X 1 1) i d := by
  have hk : ∀ (j : Fin 256) (t : Fin 64), keys X ![3, 0, 64] (by decide) (ix3 0 j t) = kVal X 1 1 j t := fun j t =>
    keys_apply X 3 64 (by decide) (by decide) j t
  have hv : ∀ (j : Fin 256) (t : Fin 64), keys X ![3, 0, 320] (by decide) (ix3 0 j t) = vVal X 1 1 j t := fun j t =>
    (keys_apply X 3 320 (by decide) (by decide) j t).trans (congrArg X (by
      congr 1; exact Fin.ext (by show 320 + t.val = 256 + (64 * 1 + t.val); omega)))
  have hq : ∀ (t : Fin 64) (p) (p'), k0_pay1 (acts X) (wq W) (ix2 ⟨256 + i.val, p⟩ ⟨64 + t.val, p'⟩) = qVal X W 1 1 i t := fun t p p' =>
    (proj_apply X W 1 i _ (by show 256 + i.val = 256 * 1 + i.val; omega) _).trans
      (congrArg (· * eighth) (Finset.sum_congr rfl fun _ _ => congrArg _ (congrArg W (congrArg (ix2 _) (Fin.ext (by
        show 64 + t.val = 64 * 1 + t.val; omega))))))
  simp only [head1]
  pointwise [k0_pay2, k0_pay3, k0_pay10, k0_pay12, k0_pay13, k0_pay14, k0_pay15]
  simp only [hq, hk, hv]
  rfl

/-- Head 2 of batch 1. -/
theorem head_1_2 (X : Vec Ideal S4x256x512 .bf16) (W : Vec Ideal S512x256 .bf16) (i : Fin 256) (d : Fin 64) :
    head1 X W 2 (ix2 i d) = headVal (qVal X W 1 2) (kVal X 1 2) (vVal X 1 2) i d := by
  have hk : ∀ (j : Fin 256) (t : Fin 64), keys X ![3, 0, 128] (by decide) (ix3 0 j t) = kVal X 1 2 j t := fun j t =>
    keys_apply X 3 128 (by decide) (by decide) j t
  have hv : ∀ (j : Fin 256) (t : Fin 64), keys X ![3, 0, 384] (by decide) (ix3 0 j t) = vVal X 1 2 j t := fun j t =>
    (keys_apply X 3 384 (by decide) (by decide) j t).trans (congrArg X (by
      congr 1; exact Fin.ext (by show 384 + t.val = 256 + (64 * 2 + t.val); omega)))
  have hq : ∀ (t : Fin 64) (p) (p'), k0_pay1 (acts X) (wq W) (ix2 ⟨256 + i.val, p⟩ ⟨128 + t.val, p'⟩) = qVal X W 1 2 i t := fun t p p' =>
    (proj_apply X W 1 i _ (by show 256 + i.val = 256 * 1 + i.val; omega) _).trans
      (congrArg (· * eighth) (Finset.sum_congr rfl fun _ _ => congrArg _ (congrArg W (congrArg (ix2 _) (Fin.ext (by
        show 128 + t.val = 64 * 2 + t.val; omega))))))
  simp only [head1]
  pointwise [k0_pay2, k0_pay3, k0_pay10, k0_pay16]
  simp only [hq, hk, hv]
  rfl

/-- Head 3 of batch 1. -/
theorem head_1_3 (X : Vec Ideal S4x256x512 .bf16) (W : Vec Ideal S512x256 .bf16) (i : Fin 256) (d : Fin 64) :
    head1 X W 3 (ix2 i d) = headVal (qVal X W 1 3) (kVal X 1 3) (vVal X 1 3) i d := by
  have hk : ∀ (j : Fin 256) (t : Fin 64), keys X ![3, 0, 192] (by decide) (ix3 0 j t) = kVal X 1 3 j t := fun j t =>
    keys_apply X 3 192 (by decide) (by decide) j t
  have hv : ∀ (j : Fin 256) (t : Fin 64), keys X ![3, 0, 448] (by decide) (ix3 0 j t) = vVal X 1 3 j t := fun j t =>
    (keys_apply X 3 448 (by decide) (by decide) j t).trans (congrArg X (by
      congr 1; exact Fin.ext (by show 448 + t.val = 256 + (64 * 3 + t.val); omega)))
  have hq : ∀ (t : Fin 64) (p) (p'), k0_pay1 (acts X) (wq W) (ix2 ⟨256 + i.val, p⟩ ⟨192 + t.val, p'⟩) = qVal X W 1 3 i t := fun t p p' =>
    (proj_apply X W 1 i _ (by show 256 + i.val = 256 * 1 + i.val; omega) _).trans
      (congrArg (· * eighth) (Finset.sum_congr rfl fun _ _ => congrArg _ (congrArg W (congrArg (ix2 _) (Fin.ext (by
        show 192 + t.val = 64 * 3 + t.val; omega))))))
  simp only [head1]
  pointwise [k0_pay2, k0_pay3, k0_pay10, k0_pay17, k0_pay18, k0_pay19]
  simp only [hq, hk, hv]
  rfl

end Cert.KernelIdeal.Ring

end
-- ==== Proof.Value.Result.lean ====
/-
The kernel's result at an index, from what each device's launch reads: the sum over the devices of the attention
outputs of the device's heads times the device's rows of the output weights.
-/
module

public import proofs.«01_k».proof.Proof.Value.Heads

@[expose] public section

noncomputable section

namespace Cert.KernelIdeal.Ring

open Cert.KernelIdeal Cert.KernelIdeal.Gen Cert.Attention
open Idealize.ShloMosaic

/-- A head of batch 0, whichever it is. -/
theorem head0_apply (X : Vec Ideal S4x256x512 .bf16) (W : Vec Ideal S512x256 .bf16) (h : Fin 4) (i : Fin 256) (d : Fin 64) :
    head0 X W h (ix2 i d) = headVal (qVal X W 0 h) (kVal X 0 h) (vVal X 0 h) i d := by
  fin_cases h
  · exact head_0_0 X W i d
  · exact head_0_1 X W i d
  · exact head_0_2 X W i d
  · exact head_0_3 X W i d

/-- A head of batch 1, whichever it is. -/
theorem head1_apply (X : Vec Ideal S4x256x512 .bf16) (W : Vec Ideal S512x256 .bf16) (h : Fin 4) (i : Fin 256) (d : Fin 64) :
    head1 X W h (ix2 i d) = headVal (qVal X W 1 h) (kVal X 1 h) (vVal X 1 h) i d := by
  fin_cases h
  · exact head_1_0 X W i d
  · exact head_1_1 X W i d
  · exact head_1_2 X W i d
  · exact head_1_3 X W i d

/-- A device's attention output at column `k`: entry `k % 64` of head `k / 64`. -/
def devCtx (X : Vec Ideal S4x256x512 .bf16) (W : Vec Ideal S512x256 .bf16) (b : Fin 2) (i k : Fin 256) : EReal :=
  headVal (qVal X W b ⟨k.val / 64, by omega⟩) (kVal X b ⟨k.val / 64, by omega⟩) (vVal X b ⟨k.val / 64, by omega⟩) i ⟨k.val % 64, by omega⟩

/-- Four heads of batch 0 side by side. -/
theorem ctx0_apply (X : Vec Ideal S4x256x512 .bf16) (W : Vec Ideal S512x256 .bf16) (i k : Fin 256) :
    ctx (head0 X W) (ix2 i k) = devCtx X W 0 i k :=
  (congrArg _ (ix2_eq_valueIdx _ _).symm).trans (head0_apply X W ⟨k.val / 64, by omega⟩ i ⟨k.val % 64, by omega⟩)

/-- Four heads of batch 1 side by side. -/
theorem ctx1_apply (X : Vec Ideal S4x256x512 .bf16) (W : Vec Ideal S512x256 .bf16) (i k : Fin 256) :
    ctx (head1 X W) (ix2 i k) = devCtx X W 1 i k :=
  (congrArg _ (ix2_eq_valueIdx _ _).symm).trans (head1_apply X W ⟨k.val / 64, by omega⟩ i ⟨k.val % 64, by omega⟩)

/-- The product with the output weights, batch 0. -/
theorem pay9_apply (C : Vec Ideal S256x256 .bf16) (O : Vec Ideal S256x512 .bf16) (i : Fin 256) (e : Fin 512) :
    @Eq EReal (k0_pay9 C O (ix2 i e)) (∑ k : Fin 256, C (ix2 i k) * O (ix2 k e)) := by
  pointwise [k0_pay9]

/-- The product with the output weights, batch 1. -/
theorem pay20_apply (C : Vec Ideal S256x256 .bf16) (O : Vec Ideal S256x512 .bf16) (i : Fin 256) (e : Fin 512) :
    @Eq EReal (k0_pay20 C O (ix2 i e)) (∑ k : Fin 256, C (ix2 i k) * O (ix2 k e)) := by
  pointwise [k0_pay20]

/-- The sum over the devices. -/
theorem pay22_apply (R : Vec Ideal S8x64x512 .bf16) (i : Fin 64) (e : Fin 512) :
    @Eq EReal (k0_pay22 R (ix2 i e)) (∑ s : Fin 8, R (ix3 s i e)) := by
  pointwise [k0_pay22]

/-- A device's partial product at a row of batch `b`. -/
theorem part_apply (X : Vec Ideal S4x256x512 .bf16) (W : Vec Ideal S512x256 .bf16) (O : Vec Ideal S256x512 .bf16)
    (b : Fin 2) (i : Fin 256) (r : Fin 512) (hr : r.val = 256 * b.val + i.val) (e : Fin 512) :
    @Eq EReal (part X W O (ix2 r e)) (∑ k : Fin 256, devCtx X W b i k * O (ix2 k e)) := by
  have hb : b = 0 ∨ b = 1 := by omega
  rcases hb with rfl | rfl
  · have hr' : r.val = i.val := hr.trans (by show 256 * 0 + i.val = i.val; omega)
    have h0 : (ix2 r e 0).val < 256 := by show r.val < 256; omega
    refine (show part X W O (ix2 r e) = _ from dif_pos h0).trans ((congrArg (k0_pay9 (ctx (head0 X W)) (wo O)) (show _ = ix2 i e from ?_)).trans
      ((pay9_apply _ _ i e).trans (Finset.sum_congr rfl fun k _ => ?_)))
    · funext a
      fin_cases a
      · exact Fin.ext hr'
      · rfl
    · rw [ctx0_apply, wo_eq]
  · have hr' : r.val = 256 + i.val := hr.trans (by show 256 * 1 + i.val = 256 + i.val; omega)
    have h0 : ¬ (ix2 r e 0).val < 256 := by show ¬ r.val < 256; omega
    refine (show part X W O (ix2 r e) = _ from dif_neg h0).trans ((congrArg (k0_pay20 (ctx (head1 X W)) (wo O)) (show _ = ix2 i e from ?_)).trans
      ((pay20_apply _ _ i e).trans (Finset.sum_congr rfl fun k _ => ?_)))
    · funext a
      fin_cases a
      · exact Fin.ext (by show r.val - 256 = i.val; omega)
      · rfl
    · rw [ctx1_apply, wo_eq]

/-- The result: the sum over the devices of their partial products. -/
theorem out_apply (P : Dev nD → Vec Ideal S512x512 .bf16) (b : Fin 2) (i : Fin 256) (e : Fin 512) :
    @Eq EReal (out P (ix3 b i e)) (∑ s : Fin 8, P s (ix2 ⟨256 * b.val + i.val, by omega⟩ e)) := by
  refine (congrArg (k0_pay22 (inbox P ⟨4 * b.val + i.val / 64, by show _ < 8; omega⟩))
    (show ValueIdx.ix2 _ _ = ix2 ⟨i.val % 64, by omega⟩ e from (ix2_eq_valueIdx _ _).symm)).trans
    ((pay22_apply _ ⟨i.val % 64, by omega⟩ e).trans (Finset.sum_congr rfl fun s _ => ?_))
  refine congrArg (P s) ((ix2_eq_valueIdx _ _).symm.trans (congrArg (fun a => ix2 a e) (Fin.ext ?_)))
  show 64 * (4 * b.val + i.val / 64) + i.val % 64 = 256 * b.val + i.val
  omega

end Cert.KernelIdeal.Ring

end
-- ==== Proof.Value.Reference.lean ====
/-
The reference's result at an index, in the words of Value/Attention.lean: the attention outputs of all heads, side
by side, times the output weights.
-/
module

public import proofs.«01_k».proof.Proof.Gen.ReferenceIdeal.Run
public import proofs.«01_k».proof.Proof.Value.Attention

@[expose] public section

noncomputable section

namespace Cert.ReferenceIdeal.Value

open Cert.ReferenceIdeal Cert.ReferenceIdeal.Gen Cert.Attention Idealize.ShloMosaic Idealize.ShloMosaic.TcCoe

variable (m : (ℓ : Loc nD τ sig) → Buf (Elt Ideal) ℓ) (c : Dev nD)

/-- The activations, by coordinates. -/
def argX (b : Fin 2) (i : Fin 256) (t : Fin 512) : EReal := (m ((c.tc : Thread nD τ).loc main_arg0) : S2x256x512.Idx → EReal) (ix3 b i t)
/-- The query weights. -/
def argW (t : Fin 512) (k : Fin 2048) : EReal := (m ((c.tc : Thread nD τ).loc main_arg1) : S512x2048.Idx → EReal) (ix2 t k)
/-- The keys. -/
def argK (b : Fin 2) (j : Fin 256) (h : Fin 32) (d : Fin 64) : EReal := (m ((c.tc : Thread nD τ).loc main_arg2) : S2x256x32x64.Idx → EReal) (ix4 b j h d)
/-- The values. -/
def argV (b : Fin 2) (j : Fin 256) (h : Fin 32) (d : Fin 64) : EReal := (m ((c.tc : Thread nD τ).loc main_arg3) : S2x256x32x64.Idx → EReal) (ix4 b j h d)
/-- The output weights. -/
def argO (k : Fin 2048) (e : Fin 512) : EReal := (m ((c.tc : Thread nD τ).loc main_arg4) : S2048x512.Idx → EReal) (ix2 k e)

/-- A choice by the true bit. -/
theorem select_one (a b : EReal) : Scalar.select 1#1 a b = a := rfl

set_option maxRecDepth 8192 in
set_option maxHeartbeats 1000000 in
/-- The reference's result, at an index. -/
theorem res_apply (b : Fin 2) (i : Fin 256) (e : Fin 512) :
    @Eq EReal (res_out0 m c (ix3 b i e))
      (∑ k : Fin 2048, ctxR (argX m c) (argW m c) (argK m c) (argV m c) b i ⟨k.val / 64, by omega⟩ ⟨k.val % 64, by omega⟩ * argO m c k e) := by
  pointwise [res_out0, res_main_v40]
  refine Finset.sum_congr rfl fun k _ => ?_
  have hn : Finset.fold IntOp.ori (0#1) (fun x : Fin 256 => IntOp.cmpi CmpIPredicate.sle (IntOp.absi (IntOp.subi (BitVec.ofNat 32 ↑i) (BitVec.ofNat 32 ↑x))) 128#32) Finset.univ = 1#1 := near_any i
  have hl : (id (constant (F := Ideal) S_ FTy.f32 3463342888#32) : S_.Idx → EReal) ix0 = low := rfl
  simp only [hn, select_one]
  simp only [ctxR, rowR, scoreR, top, query, argX, argW, argK, argV, argO, hl]

end Cert.ReferenceIdeal.Value

end
-- ==== Proof.Value.Equation.lean ====
/-
The kernel's result is the reference's: from what each device's launch reads of its arguments, the kernel's sum over
devices is the reference's product over all heads.
-/
module

public import proofs.«01_k».proof.Proof.Value.Host
public import proofs.«01_k».proof.Proof.Value.Result
public import proofs.«01_k».proof.Proof.Value.Reference
public import Idealize.ShloMosaic.Lib.LayoutAt

@[expose] public section

noncomputable section

namespace Cert.Equation

open Cert.Attention Cert.KernelIdeal.Ring Cert.ReferenceIdeal.Value
open Idealize.ShloMosaic Idealize.ShloMosaic.TcCoe

/-- The reference's launch memory. -/
abbrev MemR := (ℓ : Loc Cert.ReferenceIdeal.nD Cert.ReferenceIdeal.τ Cert.ReferenceIdeal.sig) → Buf (Elt Ideal) ℓ
/-- The kernel's. -/
abbrev MemK := (ℓ : Loc Cert.KernelIdeal.nD Cert.KernelIdeal.τ Cert.KernelIdeal.sig) → Buf (Elt Ideal) ℓ

variable (m : MemK) (m' : MemR)

/-- Each device holds the activations and both weights whole, and its own heads of the keys and values. -/
structure Holds (s : Dev Cert.KernelIdeal.nD) : Prop where
  x : m ((s.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  w : m ((s.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  k : m ((s.tc : Thread Cert.KernelIdeal.nD Cert.KernelIdeal.τ).loc Cert.KernelIdeal.main_arg2) = Layout.block ⟨4, ![2, 256, 4, 64]⟩ ⟨4, ![2, 256, 32, 64]⟩ 2 8 s (m' (((0 : Dev Cert.ReferenceIdeal.nD).tc : Thread Cert.ReferenceIdeal.nD Cert.ReferenceIdeal.τ).loc Cert.ReferenceIdeal.main_arg2))
  v : m ((s.tc : Thread Cert.KernelIdeal.nD Cert.KernelIdeal.τ).loc Cert.KernelIdeal.main_arg3) = Layout.block ⟨4, ![2, 256, 4, 64]⟩ ⟨4, ![2, 256, 32, 64]⟩ 2 8 s (m' (((0 : Dev Cert.ReferenceIdeal.nD).tc : Thread Cert.ReferenceIdeal.nD Cert.ReferenceIdeal.τ).loc Cert.ReferenceIdeal.main_arg3))
  o : m ((s.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)

/-- Head `h` of device `s` among all the heads. -/
abbrev headOf (s : Fin 8) (h : Fin 4) : Fin 32 := ⟨4 * s.val + h.val, by omega⟩

/-- An entry of block `s` of the keys or values is that entry of head `4 s + h`. -/
theorem block_entry (s : Fin 8) (T : (⟨4, ![2, 256, 32, 64]⟩ : Shape).Idx → EReal) (b : Fin 2) (j : Fin 256) (h : Fin 4) (d : Fin 64)
    (hT : Layout.Tiles ⟨4, ![2, 256, 4, 64]⟩ ⟨4, ![2, 256, 32, 64]⟩ 2 8) :
    Layout.block ⟨4, ![2, 256, 4, 64]⟩ ⟨4, ![2, 256, 32, 64]⟩ 2 8 s T hT (ix4 b j h d) = T (ix4 b j (headOf s h) d) := by
  shard_norm
  refine congrArg T (funext fun a => Fin.ext ?_)
  fin_cases a
  · rfl
  · rfl
  · show s.val * 4 + h.val = 4 * s.val + h.val; omega
  · rfl

variable (s : Dev Cert.KernelIdeal.nD) (H : Holds m m' s)
include H

/-- A device's scaled queries are the reference's queries, scaled. -/
theorem q_eq (b : Fin 2) (h : Fin 4) (i : Fin 256) (d : Fin 64) :
    qVal (xIn m s) (wIn m s) b h i d = query (argX m' 0) (argW m' 0) b i (headOf s h) d * eighth := by
  unfold qVal query
  refine congrArg (· * eighth) (Finset.sum_congr rfl fun t _ => ?_)
  refine congrArg₂ (· * ·) ?_ ?_
  · exact (xIn_acts m s b i t).trans (congrFun H.x (ix3 b i t))
  · refine (wIn_apply m s t _).trans ((congrFun H.w _).trans (congrArg (argW m' 0 t) (Fin.ext ?_)))
    show 256 * s.val + (64 * h.val + d.val) = (4 * s.val + h.val) * 64 + d.val
    omega

/-- A device's keys are its heads of the reference's. -/
theorem k_eq (b : Fin 2) (h : Fin 4) (j : Fin 256) (d : Fin 64) : kVal (xIn m s) b h j d = argK m' 0 b j (headOf s h) d :=
  (xIn_keys m s b j h d).trans ((congrFun H.k _).trans (block_entry s _ b j h d _))

/-- A device's values are its heads of the reference's. -/
theorem v_eq (b : Fin 2) (h : Fin 4) (j : Fin 256) (d : Fin 64) : vVal (xIn m s) b h j d = argV m' 0 b j (headOf s h) d :=
  (xIn_vals m s b j h d).trans ((congrFun H.v _).trans (block_entry s _ b j h d _))

/-- A device's head is the reference's head, in the kernel's form. -/
theorem head_eq (b : Fin 2) (h : Fin 4) (i : Fin 256) (d : Fin 64) :
    headVal (qVal (xIn m s) (wIn m s) b h) (kVal (xIn m s) b h) (vVal (xIn m s) b h) i d
      = ctxK (argX m' 0) (argW m' 0) (argK m' 0) (argV m' 0) b i (headOf s h) d := by
  unfold headVal ctxK scoreK
  simp only [q_eq m m' s H, k_eq m m' s H, v_eq m m' s H]

omit H in
/-- The two results are one. -/
theorem out_eq (H : ∀ s, Holds m m' s)
    (hx : ∀ b i t, ∃ r : ℝ, argX m' 0 b i t = (r : EReal)) (hw : ∀ t c, ∃ r : ℝ, argW m' 0 t c = (r : EReal))
    (hk : ∀ b j h d, ∃ r : ℝ, argK m' 0 b j h d = (r : EReal)) :
    (out (partials m) : Cert.KernelIdeal.S2x256x512.Idx → EReal) = res_out0 m' 0 := by
  funext y
  obtain ⟨b, i, e, rfl⟩ : ∃ (b : Fin 2) (i : Fin 256) (e : Fin 512), y = ix3 b i e := ⟨y 0, y 1, y 2, eq_ix3 y⟩
  refine (out_apply _ b i e).trans (Eq.trans ?_ (res_apply m' 0 b i e).symm)
  rw [sum_blocks]
  refine Finset.sum_congr rfl fun s _ => ?_
  refine (part_apply _ _ _ b i _ rfl e).trans (Finset.sum_congr rfl fun k _ => ?_)
  have ek : ∀ K : Fin 2048, K.val = 256 * s.val + k.val →
      devCtx (xIn m s) (wIn m s) b i k
        = ctxR (argX m' 0) (argW m' 0) (argK m' 0) (argV m' 0) b i ⟨K.val / 64, by omega⟩ ⟨K.val % 64, by omega⟩ := by
    intro K hK
    refine (head_eq m m' s (H s) b _ i _).trans ((ctxK_eq _ _ _ _ hx hw hk b i _ _).trans ?_)
    refine congrArg₂ (ctxR (argX m' 0) (argW m' 0) (argK m' 0) (argV m' 0) b i) (Fin.ext ?_) (Fin.ext ?_)
    · show 4 * s.val + k.val / 64 = K.val / 64; omega
    · show k.val % 64 = K.val % 64; omega
  refine congrArg₂ (· * ·) (ek _ rfl) ?_
  exact (oIn_apply m s k e).trans (congrFun (H s).o _)

end Cert.Equation

end
-- ==== Proof.Value.Finite.lean ====
/-
What the precondition says, entry by entry: the activations, the query weights and the keys are real numbers.
-/
module

public import proofs.«01_k».proof.Pre_finite_scores_KernelIdeal
public import Idealize.ShloMosaic.Lib.Pointwise
public import Idealize.ShloMosaic.Lib.ReduceAll

@[expose] public section

noncomputable section

namespace Cert.Pre_finite_scores_KernelIdeal

open Idealize.ShloMosaic

variable [Facts]
open Facts

/-- An extended real whose size is less than the infinite one is real. -/
theorem real_of_bit (x : EReal) (h : Ideal.cmp .olt (max x (-x)) (Ideal.ofBits .bf16 0x7F80#16) = 1#1) : ∃ r : ℝ, x = (r : EReal) := by
  have ht : Ideal.ofBits .bf16 0x7F80#16 = ⊤ := by simp [Ideal.ofBits, Ideal.ieee]
  rw [ht] at h
  have hlt : max x (-x) < ⊤ := by
    by_contra hn
    simp [Ideal.cmp, hn] at h
  induction x using EReal.rec with
  | bot => simp at hlt
  | top => simp at hlt
  | coe r => exact ⟨r, rfl⟩

/-- The precondition, entry by entry. -/
theorem reals (x : FVec Ideal S2x256x512 .bf16) (w : FVec Ideal S512x2048 .bf16) (k v : FVec Ideal S2x256x4x64 .bf16) (o : FVec Ideal S2048x512 .bf16)
    (h : fn x w k v o = fun _ => 1#1) :
    (∀ i, ∃ r : ℝ, x i = (r : EReal)) ∧ (∀ i, ∃ r : ℝ, w i = (r : EReal)) ∧ (∀ i, ∃ r : ℝ, k i = (r : EReal)) := by
  have h0 := congrFun h (fun a => a.elim0)
  obtain ⟨h1, hk⟩ := IntOp.andi_eq_one.1 h0
  obtain ⟨hx, hw⟩ := IntOp.andi_eq_one.1 h1
  haveI : Subsingleton S_.Idx := ⟨fun a b => funext fun i => i.elim0⟩
  exact ⟨fun i => real_of_bit _ (Host.reduce_andi_all _ _ _ _ _ hx i), fun i => real_of_bit _ (Host.reduce_andi_all _ _ _ _ _ hw i),
    fun i => real_of_bit _ (Host.reduce_andi_all _ _ _ _ _ hk i)⟩

end Cert.Pre_finite_scores_KernelIdeal

end
-- ==== Proof.Value.Agree.lean ====
/-
The equation of the two results under the claim's own precondition.
-/
module

public import proofs.«01_k».proof.Defs
public import proofs.«01_k».proof.Proof.Value.Equation
public import proofs.«01_k».proof.Proof.Value.Finite

@[expose] public section

noncomputable section

namespace Cert.Equation

open Cert.Attention Cert.KernelIdeal.Ring Cert.ReferenceIdeal.Value
open Idealize.ShloMosaic Idealize.ShloMosaic.TcCoe

/-- The side conditions of the precondition on a device's arguments. -/
theorem preK : Cert.Pre_finite_scores_KernelIdeal.Facts where
  bcast_S_S2x256x512 := by decide
  reducesTo_S2x256x512_S_d0_1_2 := by decide
  h_S_ := by decide
  bcast_S_S512x2048 := by decide
  reducesTo_S512x2048_S_d0_1 := by decide
  bcast_S_S2x256x4x64 := by decide
  reducesTo_S2x256x4x64_S_d0_1_2_3 := by decide

/-- The side conditions of the precondition on the reference's arguments. -/
theorem preR : Cert.Pre_finite_scores_ReferenceIdeal.Facts where
  bcast_S_S2x256x512 := by decide
  reducesTo_S2x256x512_S_d0_1_2 := by decide
  h_S_ := by decide
  bcast_S_S512x2048 := by decide
  reducesTo_S512x2048_S_d0_1 := by decide
  bcast_S_S2x256x32x64 := by decide
  reducesTo_S2x256x32x64_S_d0_1_2_3 := by decide

/-- Where each device holds its part of the reference's arguments, and activations, query weights and keys are finite,
    the kernel's result on every device is the reference's. -/
theorem agree (m : MemK) (m' : MemR)
    (hpre : Cert.Pre_KernelIdeal_finite_scores_KernelIdeal (hPre_finite_scores_KernelIdeal := preK) m) (H : ∀ s, Holds m m' s) :
    (out (partials m) : Cert.KernelIdeal.S2x256x512.Idx → EReal) = res_out0 m' 0 := by
  haveI := preK
  have R := fun s => Cert.Pre_finite_scores_KernelIdeal.reals _ _ _ _ _ (hpre s)
  refine out_eq m m' H (fun b i t => ?_) (fun t c => ?_) (fun b j h d => ?_)
  · obtain ⟨r, hr⟩ := (R 0).1 (ix3 b i t)
    exact ⟨r, (congrFun (H 0).x (ix3 b i t)).symm.trans hr⟩
  · obtain ⟨r, hr⟩ := (R 0).2.1 (ix2 t c)
    exact ⟨r, (congrFun (H 0).w (ix2 t c)).symm.trans hr⟩
  · have h8 : h.val / 4 < 8 := by omega
    obtain ⟨r, hr⟩ := (R ⟨h.val / 4, h8⟩).2.2 (ix4 b j ⟨h.val % 4, by omega⟩ d)
    have hh : headOf ⟨h.val / 4, h8⟩ ⟨h.val % 4, by omega⟩ = h := Fin.ext (by show 4 * (h.val / 4) + h.val % 4 = h.val; omega)
    refine ⟨r, Eq.trans ?_ hr⟩
    refine Eq.symm ((congrFun (H ⟨h.val / 4, h8⟩).k (ix4 b j ⟨h.val % 4, by omega⟩ d)).trans ?_)
    refine (block_entry ⟨h.val / 4, h8⟩ _ b j ⟨h.val % 4, by omega⟩ d _).trans ?_
    rw [hh]
    rfl

end Cert.Equation

end
-- ==== Proof.lean ====
/- The claims about the kernel and its reference, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Agree
public import Idealize.ShloMosaic.Lib.Quiescent
public import Idealize.ShloMosaic.Adequacy
public import Idealize.ShloMosaic.Init

@[expose] public section

noncomputable section

namespace Cert.Proof

open Idealize.ShloMosaic Idealize.SL.Sem

/-- The float program on eight devices runs to its end, leaves every argument as launched and every counter at zero. -/
theorem kernel_frame : Cert.quiescent_Kernel (hKernel := Cert.Kernel.Gen.facts) := fun m g _ =>
  (θ_run _ _ _).mono (fun _ h => ⟨fun c => (h.1 c).1, h.2⟩) (Cert.Kernel.Ring.run_main m g)

/-- The ideal program likewise. -/
theorem ideal_frame : Cert.quiescent_KernelIdeal (hKernelIdeal := Cert.KernelIdeal.Gen.facts) := fun m g _ =>
  (θ_run _ _ _).mono (fun _ h => ⟨fun c => (h.1 c).1, h.2⟩) (Cert.KernelIdeal.Ring.run_main m g)

/-- The reference likewise, on one device; it declares no counter. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- On eight devices, each holding its part of the reference's arguments, with finite activations, query weights and keys,
    the kernel leaves on every device the result the reference leaves on one; the arguments of both end as launched. -/
theorem same_result : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Equation.preK) := fun m g m' g' hpre hargs => by
  have H : ∀ s, Cert.Equation.Holds m m' s := fun s => ⟨(hargs s).1, (hargs s).2.1, (hargs s).2.2.1, (hargs s).2.2.2.1, (hargs s).2.2.2.2⟩
  refine ⟨Cert.ReferenceIdeal.Value.res_out0 m' 0, ?_, ?_⟩
  · exact (θ_run _ _ _).mono (fun r h c => ⟨(h.1 c).2.trans (Cert.Equation.agree m m' hpre H), (h.1 c).1⟩)
      (Cert.KernelIdeal.Ring.run_main m g)
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  Cert.Equation.preK, Cert.Equation.preR,
  kernel_frame, ideal_frame, fun m g _ => ideal_frame m g trivial, reference_frame, fun m g _ => reference_frame m g trivial,
  trivial, same_result⟩

end Cert.Proof

end
